-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "eye_scale" .f32 0x3DB504F3#32 (((Real.sqrt 128)⁻¹ : ℝ) : EReal)

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)) (v1 : (c : Dev Cert.Kernel3Ideal.nD) → Buf (Elt Ideal) ((c.tc : Thread Cert.Kernel3Ideal.nD Cert.Kernel3Ideal.τ).loc Cert.Kernel3Ideal.main_v4)) (v2 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_v4) = v1 c
          ∧ r.2.mem ((c.tc : Thread Cert.Kernel3Ideal.nD Cert.Kernel3Ideal.τ).loc Cert.Kernel3Ideal.main_v5) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_values) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_indices_in_range := hPre_indices_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_indices_in_range.lean ====
abbrev S256 : Shape := ⟨1, ![256]⟩
abbrev S512x64 : Shape := ⟨2, ![512, 64]⟩
abbrev S20000x128 : Shape := ⟨2, ![20000, 128]⟩
abbrev S20000 : Shape := ⟨1, ![20000]⟩
abbrev S_ : Shape := ⟨0, ![]⟩

class Facts : Prop where
  bcast_S_S256 : S_.BroadcastsInDim S256 (![] : Fin 0 → Fin S256.rank)
  bcast_S_S512x64 : S_.BroadcastsInDim S512x64 (![] : Fin 0 → Fin S512x64.rank)
  reducesTo_S256_S_d0 : S256.ReducesTo [0] S_
  h_S_ : 0 < S_.numel
  reducesTo_S512x64_S_d0_1 : S512x64.ReducesTo [0, 1] S_

variable [Facts]

def fn_part1 {F : FTy → Type} [FloatOps F] (main_arg3 : IVec S512x64 32) (main_v10 : IVec S256 1) (main_v15 : IVec S512x64 1) (main_v16 : IVec S512x64 32) : IVec S_ 1 :=
  let main_v17 : IVec S512x64 1 := cmpi .sge main_arg3 main_v16
  let main_v18 : IVec S512x64 1 := andi main_v15 main_v17
  let main_c_6 : IVec S_ 32 := constantI S_ 32 20000#32
  let main_v19 : IVec S512x64 32 := broadcastInDim S512x64 ![] bcast_S_S512x64 main_c_6
  let main_v20 : IVec S512x64 1 := cmpi .sle main_arg3 main_v19
  let main_v21 : IVec S512x64 1 := andi main_v18 main_v20
  let main_c_7 : IVec S_ 1 := constantI S_ 1 1#1
  let main_v22 : IVec S_ 1 := (fun x v => Host.reduce IntOp.andi x v reducesTo_S256_S_d0 h_S_) main_v10 main_c_7
  let main_c_8 : IVec S_ 1 := constantI S_ 1 1#1
  let main_v23 : IVec S_ 1 := (fun x v => Host.reduce IntOp.andi x v reducesTo_S512x64_S_d0_1 h_S_) main_v21 main_c_8
  let main_v24 : IVec S_ 1 := andi main_v22 main_v23
  main_v24

def fn {F : FTy → Type} [FloatOps F] (main_arg0 : IVec S256 32) (main_arg1 : IVec S256 32) (main_arg2 : IVec S512x64 32) (main_arg3 : IVec S512x64 32) (main_arg4 : FVec F S20000x128 .f32) (main_arg5 : FVec F S20000x128 .f32) (main_arg6 : FVec F S20000 .f32) (main_arg7 : FVec F S20000 .f32) : IVec S_ 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 512#32
  let main_v2 : IVec S256 32 := broadcastInDim S256 ![] bcast_S_S256 main_c_0
  let main_v3 : IVec S256 1 := cmpi .slt main_arg0 main_v2
  let main_v4 : IVec S256 1 := andi main_v1 main_v3
  let main_c_1 : IVec S_ 32 := constantI S_ 32 0#32
  let main_v5 : IVec S256 32 := broadcastInDim S256 ![] bcast_S_S256 main_c_1
  let main_v6 : IVec S256 1 := cmpi .sge main_arg1 main_v5
  let main_v7 : IVec S256 1 := andi main_v4 main_v6
  let main_c_2 : IVec S_ 32 := constantI S_ 32 512#32
  let main_v8 : IVec S256 32 := broadcastInDim S256 ![] bcast_S_S256 main_c_2
  let main_v9 : IVec S256 1 := cmpi .slt main_arg1 main_v8
  let main_v10 : IVec S256 1 := andi main_v7 main_v9
  let main_c_3 : IVec S_ 32 := constantI S_ 32 0#32
  let main_v11 : IVec S512x64 32 := broadcastInDim S512x64 ![] bcast_S_S512x64 main_c_3
  let main_v12 : IVec S512x64 1 := cmpi .sge main_arg2 main_v11
  let main_c_4 : IVec S_ 32 := constantI S_ 32 20000#32
  let main_v13 : IVec S512x64 32 := broadcastInDim S512x64 ![] bcast_S_S512x64 main_c_4
  let main_v14 : IVec S512x64 1 := cmpi .sle main_arg2 main_v13
  let main_v15 : IVec S512x64 1 := andi main_v12 main_v14
  let main_c_5 : IVec S_ 32 := constantI S_ 32 0#32
  let main_v16 : IVec S512x64 32 := broadcastInDim S512x64 ![] bcast_S_S512x64 main_c_5
  fn_part1 (F := F) main_arg3 main_v10 main_v15 main_v16
-- ==== Kernel.lean ====
abbrev S256 : Shape := ⟨1, ![256]⟩
abbrev S512x64 : Shape := ⟨2, ![512, 64]⟩
abbrev S20000x128 : Shape := ⟨2, ![20000, 128]⟩
abbrev S20000 : Shape := ⟨1, ![20000]⟩
abbrev S_ : Shape := ⟨0, ![]⟩
abbrev S20008x136 : Shape := ⟨2, ![20008, 136]⟩
abbrev S1 : Shape := ⟨1, ![1]⟩
abbrev S2 : Shape := ⟨1, ![2]⟩
abbrev S512x1x64 : Shape := ⟨3, ![512, 1, 64]⟩
abbrev S256x64x64 : Shape := ⟨3, ![256, 64, 64]⟩
abbrev S1x1x64 : Shape := ⟨3, ![1, 1, 64]⟩
abbrev S1x64x64 : Shape := ⟨3, ![1, 64, 64]⟩
abbrev S64x136 : Shape := ⟨2, ![64, 136]⟩
abbrev S1x1x1 : Shape := ⟨3, ![1, 1, 1]⟩
abbrev S1x136 : Shape := ⟨2, ![1, 136]⟩
abbrev S64x128 : Shape := ⟨2, ![64, 128]⟩
abbrev S64x8 : Shape := ⟨2, ![64, 8]⟩
abbrev S64x1 : Shape := ⟨2, ![64, 1]⟩
abbrev S64x64 : Shape := ⟨2, ![64, 64]⟩
abbrev S64 : Shape := ⟨1, ![64]⟩
abbrev S1x64 : Shape := ⟨2, ![1, 64]⟩

abbrev nBuf : Space → Nat
  | .hbm => 53
  | .vmem => 6
  | .smem => 6
  | _ => 0

abbrev bufTy : (tb : Table) → Fin (tcTables nBuf tb) → BufTy
  | .hbm, ⟨0, _⟩ => ⟨S512x64, .i32⟩
  | .hbm, ⟨1, _⟩ => ⟨S512x64, .i32⟩
  | .hbm, ⟨2, _⟩ => ⟨S20000x128, .f32⟩
  | .hbm, ⟨3, _⟩ => ⟨S20000x128, .f32⟩
  | .hbm, ⟨4, _⟩ => ⟨S20000, .f32⟩
  | .hbm, ⟨5, _⟩ => ⟨S20000, .f32⟩
  | .hbm, ⟨6, _⟩ => ⟨S_, .f32⟩
  | .hbm, ⟨7, _⟩ => ⟨S20008x136, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S20008x136, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S20008x136, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S_, .f32⟩
  | .hbm, ⟨26, _⟩ => ⟨S20000, .f32⟩
  | .hbm, ⟨27, _⟩ => ⟨S20008x136, .f32⟩
  | .hbm, ⟨28, _⟩ => ⟨S_, .f32⟩
  | .hbm, ⟨29, _⟩ => ⟨S20008x136, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S20008x136, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S20008x136, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S_, .f32⟩
  | .hbm, ⟨48, _⟩ => ⟨S20000, .f32⟩
  | .hbm, ⟨49, _⟩ => ⟨S20008x136, .f32⟩
  | .hbm, ⟨50, _⟩ => ⟨S512x1x64, .i32⟩
  | .hbm, ⟨51, _⟩ => ⟨S512x1x64, .i32⟩
  | .hbm, ⟨52, _⟩ => ⟨S256x64x64, .f32⟩
  | .local _ .vmem, ⟨0, _⟩ => ⟨S20008x136, .f32⟩
  | .local _ .vmem, ⟨1, _⟩ => ⟨S20008x136, .f32⟩
  | .local _ .vmem, ⟨2, _⟩ => ⟨S1x64x64, .f32⟩
  | .local _ .vmem, ⟨3, _⟩ => ⟨S1x64x64, .f32⟩
  | .local _ .vmem, ⟨4, _⟩ => ⟨S64x136, .f32⟩
  | .local _ .vmem, ⟨5, _⟩ => ⟨S64x136, .f32⟩
  | .local _ .smem, ⟨0, _⟩ => ⟨S256, .i32⟩
  | .local _ .smem, ⟨1, _⟩ => ⟨S256, .i32⟩
  | .local _ .smem, ⟨2, _⟩ => ⟨S1x1x64, .i32⟩
  | .local _ .smem, ⟨3, _⟩ => ⟨S1x1x64, .i32⟩
  | .local _ .smem, ⟨4, _⟩ => ⟨S1x1x64, .i32⟩
  | .local _ .smem, ⟨5, _⟩ => ⟨S1x1x64, .i32⟩
  | _, _ => ⟨S512x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_c_7 : Ref sig .tc := ⟨.hbm, 30, rfl⟩
abbrev main_v15 : Ref sig .tc := ⟨.hbm, 31, rfl⟩
abbrev main_c_8 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_9 : Ref sig .tc := ⟨.hbm, 36, rfl⟩
abbrev main_v19 : Ref sig .tc := ⟨.hbm, 37, rfl⟩
abbrev main_c_10 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_11 : Ref sig .tc := ⟨.hbm, 42, rfl⟩
abbrev main_v23 : Ref sig .tc := ⟨.hbm, 43, rfl⟩
abbrev main_c_12 : Ref sig .tc := ⟨.hbm, 44, rfl⟩
abbrev main_v24 : Ref sig .tc := ⟨.hbm, 45, rfl⟩
abbrev main_v25 : Ref sig .tc := ⟨.hbm, 46, rfl⟩
abbrev main_cst_13 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_arg0 : Ref sig .tc := ⟨.smem, 0, rfl⟩
abbrev main_arg1 : Ref sig .tc := ⟨.smem, 1, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v0 : BitVec 32) : Fin 2 → Nat :=
  let v1 : Index := Scalar.indexCast v0
  let c0_2 : Index := 0#32
  ![v1.toNat, 0]

def k0_chk1 (v0 : BitVec 32) : Prop :=
  (∀ a, (k0_off2 v0) a + S1x136.size a ≤ S20008x136.size a)
theorem k0_off2_inb : ∀ (v0 : BitVec 32) (k0_hw1 : k0_chk1 v0), ∀ a, (k0_off2 v0) a + S1x136.size a ≤ S20008x136.size a := fun v0 k0_hw1 => k0_hw1

def k0_off3 (v7 : BitVec 32) : Fin 2 → Nat :=
  let v8 : Index := Scalar.indexCast v7
  let c0_8 : Index := 0#32
  ![v8.toNat, 0]

def k0_chk2 (v7 : BitVec 32) : Prop :=
  (∀ a, (k0_off3 v7) a + S1x136.size a ≤ S20008x136.size a)
theorem k0_off3_inb : ∀ (v7 : BitVec 32) (k0_hw2 : k0_chk2 v7), ∀ a, (k0_off3 v7) a + S1x136.size a ≤ S20008x136.size a := fun v7 k0_hw2 => k0_hw2

def k0_off4 (v14 : BitVec 32) : Fin 2 → Nat :=
  let v15 : Index := Scalar.indexCast v14
  let c0_13 : Index := 0#32
  ![v15.toNat, 0]

def k0_chk3 (v14 : BitVec 32) : Prop :=
  (∀ a, (k0_off4 v14) a + S1x136.size a ≤ S20008x136.size a)
theorem k0_off4_inb : ∀ (v14 : BitVec 32) (k0_hw3 : k0_chk3 v14), ∀ a, (k0_off4 v14) a + S1x136.size a ≤ S20008x136.size a := fun v14 k0_hw3 => k0_hw3

def k0_off5 (v21 : BitVec 32) : Fin 2 → Nat :=
  let v22 : Index := Scalar.indexCast v21
  let c0_19 : Index := 0#32
  ![v22.toNat, 0]

def k0_chk4 (v21 : BitVec 32) : Prop :=
  (∀ a, (k0_off5 v21) a + S1x136.size a ≤ S20008x136.size a)
theorem k0_off5_inb : ∀ (v21 : BitVec 32) (k0_hw4 : k0_chk4 v21), ∀ a, (k0_off5 v21) a + S1x136.size a ≤ S20008x136.size a := fun v21 k0_hw4 => k0_hw4

def k0_off6 (v28 : BitVec 32) : Fin 2 → Nat :=
  let v29 : Index := Scalar.indexCast v28
  let c0_24 : Index := 0#32
  ![v29.toNat, 0]

def k0_chk5 (v28 : BitVec 32) : Prop :=
  (∀ a, (k0_off6 v28) a + S1x136.size a ≤ S20008x136.size a)
theorem k0_off6_inb : ∀ (v28 : BitVec 32) (k0_hw5 : k0_chk5 v28), ∀ a, (k0_off6 v28) a + S1x136.size a ≤ S20008x136.size a := fun v28 k0_hw5 => k0_hw5

def k0_off7 (v35 : BitVec 32) : Fin 2 → Nat :=
  let v36 : Index := Scalar.indexCast v35
  let c0_30 : Index := 0#32
  ![v36.toNat, 0]

def k0_chk6 (v35 : BitVec 32) : Prop :=
  (∀ a, (k0_off7 v35) a + S1x136.size a ≤ S20008x136.size a)
theorem k0_off7_inb : ∀ (v35 : BitVec 32) (k0_hw6 : k0_chk6 v35), ∀ a, (k0_off7 v35) a + S1x136.size a ≤ S20008x136.size a := fun v35 k0_hw6 => k0_hw6

def k0_off8 (v42 : BitVec 32) : Fin 2 → Nat :=
  let v43 : Index := Scalar.indexCast v42
  let c0_35 : Index := 0#32
  ![v43.toNat, 0]

def k0_chk7 (v42 : BitVec 32) : Prop :=
  (∀ a, (k0_off8 v42) a + S1x136.size a ≤ S20008x136.size a)
theorem k0_off8_inb : ∀ (v42 : BitVec 32) (k0_hw7 : k0_chk7 v42), ∀ a, (k0_off8 v42) a + S1x136.size a ≤ S20008x136.size a := fun v42 k0_hw7 => k0_hw7

def k0_off9 (v49 : BitVec 32) : Fin 2 → Nat :=
  let v50 : Index := Scalar.indexCast v49
  let c0_41 : Index := 0#32
  ![v50.toNat, 0]

def k0_chk8 (v49 : BitVec 32) : Prop :=
  (∀ a, (k0_off9 v49) a + S1x136.size a ≤ S20008x136.size a)
theorem k0_off9_inb : ∀ (v49 : BitVec 32) (k0_hw8 : k0_chk8 v49), ∀ a, (k0_off9 v49) a + S1x136.size a ≤ S20008x136.size a := fun v49 k0_hw8 => k0_hw8

def k0_off10 (v56 : BitVec 32) : Fin 2 → Nat :=
  let v57 : Index := Scalar.indexCast v56
  let c0_46 : Index := 0#32
  ![v57.toNat, 0]

def k0_chk9 (v56 : BitVec 32) : Prop :=
  (∀ a, (k0_off10 v56) a + S1x136.size a ≤ S20008x136.size a)
theorem k0_off10_inb : ∀ (v56 : BitVec 32) (k0_hw9 : k0_chk9 v56), ∀ a, (k0_off10 v56) a + S1x136.size a ≤ S20008x136.size a := fun v56 k0_hw9 => k0_hw9

def k0_off11 (v63 : BitVec 32) : Fin 2 → Nat :=
  let v64 : Index := Scalar.indexCast v63
  let c0_52 : Index := 0#32
  ![v64.toNat, 0]

def k0_chk10 (v63 : BitVec 32) : Prop :=
  (∀ a, (k0_off11 v63) a + S1x136.size a ≤ S20008x136.size a)
theorem k0_off11_inb : ∀ (v63 : BitVec 32) (k0_hw10 : k0_chk10 v63), ∀ a, (k0_off11 v63) a + S1x136.size a ≤ S20008x136.size a := fun v63 k0_hw10 => k0_hw10

def k0_off12 (v70 : BitVec 32) : Fin 2 → Nat :=
  let v71 : Index := Scalar.indexCast v70
  let c0_57 : Index := 0#32
  ![v71.toNat, 0]

def k0_chk11 (v70 : BitVec 32) : Prop :=
  (∀ a, (k0_off12 v70) a + S1x136.size a ≤ S20008x136.size a)
theorem k0_off12_inb : ∀ (v70 : BitVec 32) (k0_hw11 : k0_chk11 v70), ∀ a, (k0_off12 v70) a + S1x136.size a ≤ S20008x136.size a := fun v70 k0_hw11 => k0_hw11

def k0_off13 (v77 : BitVec 32) : Fin 2 → Nat :=
  let v78 : Index := Scalar.indexCast v77
  let c0_63 : Index := 0#32
  ![v78.toNat, 0]

def k0_chk12 (v77 : BitVec 32) : Prop :=
  (∀ a, (k0_off13 v77) a + S1x136.size a ≤ S20008x136.size a)
theorem k0_off13_inb : ∀ (v77 : BitVec 32) (k0_hw12 : k0_chk12 v77), ∀ a, (k0_off13 v77) a + S1x136.size a ≤ S20008x136.size a := fun v77 k0_hw12 => k0_hw12

def k0_off14 (v84 : BitVec 32) : Fin 2 → Nat :=
  let v85 : Index := Scalar.indexCast v84
  let c0_68 : Index := 0#32
  ![v85.toNat, 0]

def k0_chk13 (v84 : BitVec 32) : Prop :=
  (∀ a, (k0_off14 v84) a + S1x136.size a ≤ S20008x136.size a)
theorem k0_off14_inb : ∀ (v84 : BitVec 32) (k0_hw13 : k0_chk13 v84), ∀ a, (k0_off14 v84) a + S1x136.size a ≤ S20008x136.size a := fun v84 k0_hw13 => k0_hw13

def k0_off15 (v91 : BitVec 32) : Fin 2 → Nat :=
  let v92 : Index := Scalar.indexCast v91
  let c0_74 : Index := 0#32
  ![v92.toNat, 0]

def k0_chk14 (v91 : BitVec 32) : Prop :=
  (∀ a, (k0_off15 v91) a + S1x136.size a ≤ S20008x136.size a)
theorem k0_off15_inb : ∀ (v91 : BitVec 32) (k0_hw14 : k0_chk14 v91), ∀ a, (k0_off15 v91) a + S1x136.size a ≤ S20008x136.size a := fun v91 k0_hw14 => k0_hw14

def k0_off16 (v98 : BitVec 32) : Fin 2 → Nat :=
  let v99 : Index := Scalar.indexCast v98
  let c0_79 : Index := 0#32
  ![v99.toNat, 0]

def k0_chk15 (v98 : BitVec 32) : Prop :=
  (∀ a, (k0_off16 v98) a + S1x136.size a ≤ S20008x136.size a)
theorem k0_off16_inb : ∀ (v98 : BitVec 32) (k0_hw15 : k0_chk15 v98), ∀ a, (k0_off16 v98) a + S1x136.size a ≤ S20008x136.size a := fun v98 k0_hw15 => k0_hw15

def k0_off17 (v105 : BitVec 32) : Fin 2 → Nat :=
  let v106 : Index := Scalar.indexCast v105
  let c0_85 : Index := 0#32
  ![v106.toNat, 0]

def k0_chk16 (v105 : BitVec 32) : Prop :=
  (∀ a, (k0_off17 v105) a + S1x136.size a ≤ S20008x136.size a)
theorem k0_off17_inb : ∀ (v105 : BitVec 32) (k0_hw16 : k0_chk16 v105), ∀ a, (k0_off17 v105) a + S1x136.size a ≤ S20008x136.size a := fun v105 k0_hw16 => k0_hw16

def k0_off18 (v112 : BitVec 32) : Fin 2 → Nat :=
  let v113 : Index := Scalar.indexCast v112
  let c0_90 : Index := 0#32
  ![v113.toNat, 0]

def k0_chk17 (v112 : BitVec 32) : Prop :=
  (∀ a, (k0_off18 v112) a + S1x136.size a ≤ S20008x136.size a)
theorem k0_off18_inb : ∀ (v112 : BitVec 32) (k0_hw17 : k0_chk17 v112), ∀ a, (k0_off18 v112) a + S1x136.size a ≤ S20008x136.size a := fun v112 k0_hw17 => k0_hw17

def k0_off19 (v119 : BitVec 32) : Fin 2 → Nat :=
  let v120 : Index := Scalar.indexCast v119
  let c0_96 : Index := 0#32
  ![v120.toNat, 0]

def k0_chk18 (v119 : BitVec 32) : Prop :=
  (∀ a, (k0_off19 v119) a + S1x136.size a ≤ S20008x136.size a)
theorem k0_off19_inb : ∀ (v119 : BitVec 32) (k0_hw18 : k0_chk18 v119), ∀ a, (k0_off19 v119) a + S1x136.size a ≤ S20008x136.size a := fun v119 k0_hw18 => k0_hw18

def k0_off20 (v126 : BitVec 32) : Fin 2 → Nat :=
  let v127 : Index := Scalar.indexCast v126
  let c0_101 : Index := 0#32
  ![v127.toNat, 0]

def k0_chk19 (v126 : BitVec 32) : Prop :=
  (∀ a, (k0_off20 v126) a + S1x136.size a ≤ S20008x136.size a)
theorem k0_off20_inb : ∀ (v126 : BitVec 32) (k0_hw19 : k0_chk19 v126), ∀ a, (k0_off20 v126) a + S1x136.size a ≤ S20008x136.size a := fun v126 k0_hw19 => k0_hw19

def k0_off21 (v133 : BitVec 32) : Fin 2 → Nat :=
  let v134 : Index := Scalar.indexCast v133
  let c0_107 : Index := 0#32
  ![v134.toNat, 0]

def k0_chk20 (v133 : BitVec 32) : Prop :=
  (∀ a, (k0_off21 v133) a + S1x136.size a ≤ S20008x136.size a)
theorem k0_off21_inb : ∀ (v133 : BitVec 32) (k0_hw20 : k0_chk20 v133), ∀ a, (k0_off21 v133) a + S1x136.size a ≤ S20008x136.size a := fun v133 k0_hw20 => k0_hw20

def k0_off22 (v140 : BitVec 32) : Fin 2 → Nat :=
  let v141 : Index := Scalar.indexCast v140
  let c0_112 : Index := 0#32
  ![v141.toNat, 0]

def k0_chk21 (v140 : BitVec 32) : Prop :=
  (∀ a, (k0_off22 v140) a + S1x136.size a ≤ S20008x136.size a)
theorem k0_off22_inb : ∀ (v140 : BitVec 32) (k0_hw21 : k0_chk21 v140), ∀ a, (k0_off22 v140) a + S1x136.size a ≤ S20008x136.size a := fun v140 k0_hw21 => k0_hw21

def k0_off23 (v147 : BitVec 32) : Fin 2 → Nat :=
  let v148 : Index := Scalar.indexCast v147
  let c0_118 : Index := 0#32
  ![v148.toNat, 0]

def k0_chk22 (v147 : BitVec 32) : Prop :=
  (∀ a, (k0_off23 v147) a + S1x136.size a ≤ S20008x136.size a)
theorem k0_off23_inb : ∀ (v147 : BitVec 32) (k0_hw22 : k0_chk22 v147), ∀ a, (k0_off23 v147) a + S1x136.size a ≤ S20008x136.size a := fun v147 k0_hw22 => k0_hw22

def k0_off24 (v154 : BitVec 32) : Fin 2 → Nat :=
  let v155 : Index := Scalar.indexCast v154
  let c0_123 : Index := 0#32
  ![v155.toNat, 0]

def k0_chk23 (v154 : BitVec 32) : Prop :=
  (∀ a, (k0_off24 v154) a + S1x136.size a ≤ S20008x136.size a)
theorem k0_off24_inb : ∀ (v154 : BitVec 32) (k0_hw23 : k0_chk23 v154), ∀ a, (k0_off24 v154) a + S1x136.size a ≤ S20008x136.size a := fun v154 k0_hw23 => k0_hw23

def k0_off25 (v161 : BitVec 32) : Fin 2 → Nat :=
  let v162 : Index := Scalar.indexCast v161
  let c0_129 : Index := 0#32
  ![v162.toNat, 0]

def k0_chk24 (v161 : BitVec 32) : Prop :=
  (∀ a, (k0_off25 v161) a + S1x136.size a ≤ S20008x136.size a)
theorem k0_off25_inb : ∀ (v161 : BitVec 32) (k0_hw24 : k0_chk24 v161), ∀ a, (k0_off25 v161) a + S1x136.size a ≤ S20008x136.size a := fun v161 k0_hw24 => k0_hw24

def k0_off26 (v168 : BitVec 32) : Fin 2 → Nat :=
  let v169 : Index := Scalar.indexCast v168
  let c0_134 : Index := 0#32
  ![v169.toNat, 0]

def k0_chk25 (v168 : BitVec 32) : Prop :=
  (∀ a, (k0_off26 v168) a + S1x136.size a ≤ S20008x136.size a)
theorem k0_off26_inb : ∀ (v168 : BitVec 32) (k0_hw25 : k0_chk25 v168), ∀ a, (k0_off26 v168) a + S1x136.size a ≤ S20008x136.size a := fun v168 k0_hw25 => k0_hw25

def k0_off27 (v175 : BitVec 32) : Fin 2 → Nat :=
  let v176 : Index := Scalar.indexCast v175
  let c0_140 : Index := 0#32
  ![v176.toNat, 0]

def k0_chk26 (v175 : BitVec 32) : Prop :=
  (∀ a, (k0_off27 v175) a + S1x136.size a ≤ S20008x136.size a)
theorem k0_off27_inb : ∀ (v175 : BitVec 32) (k0_hw26 : k0_chk26 v175), ∀ a, (k0_off27 v175) a + S1x136.size a ≤ S20008x136.size a := fun v175 k0_hw26 => k0_hw26

def k0_off28 (v182 : BitVec 32) : Fin 2 → Nat :=
  let v183 : Index := Scalar.indexCast v182
  let c0_145 : Index := 0#32
  ![v183.toNat, 0]

def k0_chk27 (v182 : BitVec 32) : Prop :=
  (∀ a, (k0_off28 v182) a + S1x136.size a ≤ S20008x136.size a)
theorem k0_off28_inb : ∀ (v182 : BitVec 32) (k0_hw27 : k0_chk27 v182), ∀ a, (k0_off28 v182) a + S1x136.size a ≤ S20008x136.size a := fun v182 k0_hw27 => k0_hw27

def k0_off29 (v189 : BitVec 32) : Fin 2 → Nat :=
  let v190 : Index := Scalar.indexCast v189
  let c0_151 : Index := 0#32
  ![v190.toNat, 0]

def k0_chk28 (v189 : BitVec 32) : Prop :=
  (∀ a, (k0_off29 v189) a + S1x136.size a ≤ S20008x136.size a)
theorem k0_off29_inb : ∀ (v189 : BitVec 32) (k0_hw28 : k0_chk28 v189), ∀ a, (k0_off29 v189) a + S1x136.size a ≤ S20008x136.size a := fun v189 k0_hw28 => k0_hw28

def k0_off30 (v196 : BitVec 32) : Fin 2 → Nat :=
  let v197 : Index := Scalar.indexCast v196
  let c0_156 : Index := 0#32
  ![v197.toNat, 0]

def k0_chk29 (v196 : BitVec 32) : Prop :=
  (∀ a, (k0_off30 v196) a + S1x136.size a ≤ S20008x136.size a)
theorem k0_off30_inb : ∀ (v196 : BitVec 32) (k0_hw29 : k0_chk29 v196), ∀ a, (k0_off30 v196) a + S1x136.size a ≤ S20008x136.size a := fun v196 k0_hw29 => k0_hw29

def k0_off31 (v203 : BitVec 32) : Fin 2 → Nat :=
  let v204 : Index := Scalar.indexCast v203
  let c0_162 : Index := 0#32
  ![v204.toNat, 0]

def k0_chk30 (v203 : BitVec 32) : Prop :=
  (∀ a, (k0_off31 v203) a + S1x136.size a ≤ S20008x136.size a)
theorem k0_off31_inb : ∀ (v203 : BitVec 32) (k0_hw30 : k0_chk30 v203), ∀ a, (k0_off31 v203) a + S1x136.size a ≤ S20008x136.size a := fun v203 k0_hw30 => k0_hw30

def k0_off32 (v210 : BitVec 32) : Fin 2 → Nat :=
  let v211 : Index := Scalar.indexCast v210
  let c0_167 : Index := 0#32
  ![v211.toNat, 0]

def k0_chk31 (v210 : BitVec 32) : Prop :=
  (∀ a, (k0_off32 v210) a + S1x136.size a ≤ S20008x136.size a)
theorem k0_off32_inb : ∀ (v210 : BitVec 32) (k0_hw31 : k0_chk31 v210), ∀ a, (k0_off32 v210) a + S1x136.size a ≤ S20008x136.size a := fun v210 k0_hw31 => k0_hw31

def k0_off33 (v217 : BitVec 32) : Fin 2 → Nat :=
  let v218 : Index := Scalar.indexCast v217
  let c0_173 : Index := 0#32
  ![v218.toNat, 0]

def k0_chk32 (v217 : BitVec 32) : Prop :=
  (∀ a, (k0_off33 v217) a + S1x136.size a ≤ S20008x136.size a)
theorem k0_off33_inb : ∀ (v217 : BitVec 32) (k0_hw32 : k0_chk32 v217), ∀ a, (k0_off33 v217) a + S1x136.size a ≤ S20008x136.size a := fun v217 k0_hw32 => k0_hw32

def k0_off34 (v224 : BitVec 32) : Fin 2 → Nat :=
  let v225 : Index := Scalar.indexCast v224
  let c0_178 : Index := 0#32
  ![v225.toNat, 0]

def k0_chk33 (v224 : BitVec 32) : Prop :=
  (∀ a, (k0_off34 v224) a + S1x136.size a ≤ S20008x136.size a)
theorem k0_off34_inb : ∀ (v224 : BitVec 32) (k0_hw33 : k0_chk33 v224), ∀ a, (k0_off34 v224) a + S1x136.size a ≤ S20008x136.size a := fun v224 k0_hw33 => k0_hw33

def k0_off35 (v231 : BitVec 32) : Fin 2 → Nat :=
  let v232 : Index := Scalar.indexCast v231
  let c0_184 : Index := 0#32
  ![v232.toNat, 0]

def k0_chk34 (v231 : BitVec 32) : Prop :=
  (∀ a, (k0_off35 v231) a + S1x136.size a ≤ S20008x136.size a)
theorem k0_off35_inb : ∀ (v231 : BitVec 32) (k0_hw34 : k0_chk34 v231), ∀ a, (k0_off35 v231) a + S1x136.size a ≤ S20008x136.size a := fun v231 k0_hw34 => k0_hw34

def k0_off36 (v238 : BitVec 32) : Fin 2 → Nat :=
  let v239 : Index := Scalar.indexCast v238
  let c0_189 : Index := 0#32
  ![v239.toNat, 0]

def k0_chk35 (v238 : BitVec 32) : Prop :=
  (∀ a, (k0_off36 v238) a + S1x136.size a ≤ S20008x136.size a)
theorem k0_off36_inb : ∀ (v238 : BitVec 32) (k0_hw35 : k0_chk35 v238), ∀ a, (k0_off36 v238) a + S1x136.size a ≤ S20008x136.size a := fun v238 k0_hw35 => k0_hw35

def k0_off37 (v245 : BitVec 32) : Fin 2 → Nat :=
  let v246 : Index := Scalar.indexCast v245
  let c0_195 : Index := 0#32
  ![v246.toNat, 0]

def k0_chk36 (v245 : BitVec 32) : Prop :=
  (∀ a, (k0_off37 v245) a + S1x136.size a ≤ S20008x136.size a)
theorem k0_off37_inb : ∀ (v245 : BitVec 32) (k0_hw36 : k0_chk36 v245), ∀ a, (k0_off37 v245) a + S1x136.size a ≤ S20008x136.size a := fun v245 k0_hw36 => k0_hw36

def k0_off38 (v252 : BitVec 32) : Fin 2 → Nat :=
  let v253 : Index := Scalar.indexCast v252
  let c0_200 : Index := 0#32
  ![v253.toNat, 0]

def k0_chk37 (v252 : BitVec 32) : Prop :=
  (∀ a, (k0_off38 v252) a + S1x136.size a ≤ S20008x136.size a)
theorem k0_off38_inb : ∀ (v252 : BitVec 32) (k0_hw37 : k0_chk37 v252), ∀ a, (k0_off38 v252) a + S1x136.size a ≤ S20008x136.size a := fun v252 k0_hw37 => k0_hw37

def k0_off39 (v259 : BitVec 32) : Fin 2 → Nat :=
  let v260 : Index := Scalar.indexCast v259
  let c0_206 : Index := 0#32
  ![v260.toNat, 0]

def k0_chk38 (v259 : BitVec 32) : Prop :=
  (∀ a, (k0_off39 v259) a + S1x136.size a ≤ S20008x136.size a)
theorem k0_off39_inb : ∀ (v259 : BitVec 32) (k0_hw38 : k0_chk38 v259), ∀ a, (k0_off39 v259) a + S1x136.size a ≤ S20008x136.size a := fun v259 k0_hw38 => k0_hw38

def k0_off40 (v266 : BitVec 32) : Fin 2 → Nat :=
  let v267 : Index := Scalar.indexCast v266
  let c0_211 : Index := 0#32
  ![v267.toNat, 0]

def k0_chk39 (v266 : BitVec 32) : Prop :=
  (∀ a, (k0_off40 v266) a + S1x136.size a ≤ S20008x136.size a)
theorem k0_off40_inb : ∀ (v266 : BitVec 32) (k0_hw39 : k0_chk39 v266), ∀ a, (k0_off40 v266) a + S1x136.size a ≤ S20008x136.size a := fun v266 k0_hw39 => k0_hw39

def k0_off41 (v273 : BitVec 32) : Fin 2 → Nat :=
  let v274 : Index := Scalar.indexCast v273
  let c0_217 : Index := 0#32
  ![v274.toNat, 0]

def k0_chk40 (v273 : BitVec 32) : Prop :=
  (∀ a, (k0_off41 v273) a + S1x136.size a ≤ S20008x136.size a)
theorem k0_off41_inb : ∀ (v273 : BitVec 32) (k0_hw40 : k0_chk40 v273), ∀ a, (k0_off41 v273) a + S1x136.size a ≤ S20008x136.size a := fun v273 k0_hw40 => k0_hw40

def k0_off42 (v280 : BitVec 32) : Fin 2 → Nat :=
  let v281 : Index := Scalar.indexCast v280
  let c0_222 : Index := 0#32
  ![v281.toNat, 0]

def k0_chk41 (v280 : BitVec 32) : Prop :=
  (∀ a, (k0_off42 v280) a + S1x136.size a ≤ S20008x136.size a)
theorem k0_off42_inb : ∀ (v280 : BitVec 32) (k0_hw41 : k0_chk41 v280), ∀ a, (k0_off42 v280) a + S1x136.size a ≤ S20008x136.size a := fun v280 k0_hw41 => k0_hw41

def k0_off43 (v287 : BitVec 32) : Fin 2 → Nat :=
  let v288 : Index := Scalar.indexCast v287
  let c0_228 : Index := 0#32
  ![v288.toNat, 0]

def k0_chk42 (v287 : BitVec 32) : Prop :=
  (∀ a, (k0_off43 v287) a + S1x136.size a ≤ S20008x136.size a)
theorem k0_off43_inb : ∀ (v287 : BitVec 32) (k0_hw42 : k0_chk42 v287), ∀ a, (k0_off43 v287) a + S1x136.size a ≤ S20008x136.size a := fun v287 k0_hw42 => k0_hw42

def k0_off44 (v294 : BitVec 32) : Fin 2 → Nat :=
  let v295 : Index := Scalar.indexCast v294
  let c0_233 : Index := 0#32
  ![v295.toNat, 0]

def k0_chk43 (v294 : BitVec 32) : Prop :=
  (∀ a, (k0_off44 v294) a + S1x136.size a ≤ S20008x136.size a)
theorem k0_off44_inb : ∀ (v294 : BitVec 32) (k0_hw43 : k0_chk43 v294), ∀ a, (k0_off44 v294) a + S1x136.size a ≤ S20008x136.size a := fun v294 k0_hw43 => k0_hw43

def k0_off45 (v301 : BitVec 32) : Fin 2 → Nat :=
  let v302 : Index := Scalar.indexCast v301
  let c0_239 : Index := 0#32
  ![v302.toNat, 0]

def k0_chk44 (v301 : BitVec 32) : Prop :=
  (∀ a, (k0_off45 v301) a + S1x136.size a ≤ S20008x136.size a)
theorem k0_off45_inb : ∀ (v301 : BitVec 32) (k0_hw44 : k0_chk44 v301), ∀ a, (k0_off45 v301) a + S1x136.size a ≤ S20008x136.size a := fun v301 k0_hw44 => k0_hw44

def k0_off46 (v308 : BitVec 32) : Fin 2 → Nat :=
  let v309 : Index := Scalar.indexCast v308
  let c0_244 : Index := 0#32
  ![v309.toNat, 0]

def k0_chk45 (v308 : BitVec 32) : Prop :=
  (∀ a, (k0_off46 v308) a + S1x136.size a ≤ S20008x136.size a)
theorem k0_off46_inb : ∀ (v308 : BitVec 32) (k0_hw45 : k0_chk45 v308), ∀ a, (k0_off46 v308) a + S1x136.size a ≤ S20008x136.size a := fun v308 k0_hw45 => k0_hw45

def k0_off47 (v315 : BitVec 32) : Fin 2 → Nat :=
  let v316 : Index := Scalar.indexCast v315
  let c0_250 : Index := 0#32
  ![v316.toNat, 0]

def k0_chk46 (v315 : BitVec 32) : Prop :=
  (∀ a, (k0_off47 v315) a + S1x136.size a ≤ S20008x136.size a)
theorem k0_off47_inb : ∀ (v315 : BitVec 32) (k0_hw46 : k0_chk46 v315), ∀ a, (k0_off47 v315) a + S1x136.size a ≤ S20008x136.size a := fun v315 k0_hw46 => k0_hw46

def k0_off48 (v322 : BitVec 32) : Fin 2 → Nat :=
  let v323 : Index := Scalar.indexCast v322
  let c0_255 : Index := 0#32
  ![v323.toNat, 0]

def k0_chk47 (v322 : BitVec 32) : Prop :=
  (∀ a, (k0_off48 v322) a + S1x136.size a ≤ S20008x136.size a)
theorem k0_off48_inb : ∀ (v322 : BitVec 32) (k0_hw47 : k0_chk47 v322), ∀ a, (k0_off48 v322) a + S1x136.size a ≤ S20008x136.size a := fun v322 k0_hw47 => k0_hw47

def k0_off49 (v329 : BitVec 32) : Fin 2 → Nat :=
  let v330 : Index := Scalar.indexCast v329
  let c0_261 : Index := 0#32
  ![v330.toNat, 0]

def k0_chk48 (v329 : BitVec 32) : Prop :=
  (∀ a, (k0_off49 v329) a + S1x136.size a ≤ S20008x136.size a)
theorem k0_off49_inb : ∀ (v329 : BitVec 32) (k0_hw48 : k0_chk48 v329), ∀ a, (k0_off49 v329) a + S1x136.size a ≤ S20008x136.size a := fun v329 k0_hw48 => k0_hw48

def k0_off50 (v336 : BitVec 32) : Fin 2 → Nat :=
  let v337 : Index := Scalar.indexCast v336
  let c0_266 : Index := 0#32
  ![v337.toNat, 0]

def k0_chk49 (v336 : BitVec 32) : Prop :=
  (∀ a, (k0_off50 v336) a + S1x136.size a ≤ S20008x136.size a)
theorem k0_off50_inb : ∀ (v336 : BitVec 32) (k0_hw49 : k0_chk49 v336), ∀ a, (k0_off50 v336) a + S1x136.size a ≤ S20008x136.size a := fun v336 k0_hw49 => k0_hw49

def k0_off51 (v343 : BitVec 32) : Fin 2 → Nat :=
  let v344 : Index := Scalar.indexCast v343
  let c0_272 : Index := 0#32
  ![v344.toNat, 0]

def k0_chk50 (v343 : BitVec 32) : Prop :=
  (∀ a, (k0_off51 v343) a + S1x136.size a ≤ S20008x136.size a)
theorem k0_off51_inb : ∀ (v343 : BitVec 32) (k0_hw50 : k0_chk50 v343), ∀ a, (k0_off51 v343) a + S1x136.size a ≤ S20008x136.size a := fun v343 k0_hw50 => k0_hw50

def k0_off52 (v350 : BitVec 32) : Fin 2 → Nat :=
  let v351 : Index := Scalar.indexCast v350
  let c0_277 : Index := 0#32
  ![v351.toNat, 0]

def k0_chk51 (v350 : BitVec 32) : Prop :=
  (∀ a, (k0_off52 v350) a + S1x136.size a ≤ S20008x136.size a)
theorem k0_off52_inb : ∀ (v350 : BitVec 32) (k0_hw51 : k0_chk51 v350), ∀ a, (k0_off52 v350) a + S1x136.size a ≤ S20008x136.size a := fun v350 k0_hw51 => k0_hw51

def k0_off53 (v357 : BitVec 32) : Fin 2 → Nat :=
  let v358 : Index := Scalar.indexCast v357
  let c0_283 : Index := 0#32
  ![v358.toNat, 0]

def k0_chk52 (v357 : BitVec 32) : Prop :=
  (∀ a, (k0_off53 v357) a + S1x136.size a ≤ S20008x136.size a)
theorem k0_off53_inb : ∀ (v357 : BitVec 32) (k0_hw52 : k0_chk52 v357), ∀ a, (k0_off53 v357) a + S1x136.size a ≤ S20008x136.size a := fun v357 k0_hw52 => k0_hw52

def k0_off54 (v364 : BitVec 32) : Fin 2 → Nat :=
  let v365 : Index := Scalar.indexCast v364
  let c0_288 : Index := 0#32
  ![v365.toNat, 0]

def k0_chk53 (v364 : BitVec 32) : Prop :=
  (∀ a, (k0_off54 v364) a + S1x136.size a ≤ S20008x136.size a)
theorem k0_off54_inb : ∀ (v364 : BitVec 32) (k0_hw53 : k0_chk53 v364), ∀ a, (k0_off54 v364) a + S1x136.size a ≤ S20008x136.size a := fun v364 k0_hw53 => k0_hw53

def k0_off55 (v371 : BitVec 32) : Fin 2 → Nat :=
  let v372 : Index := Scalar.indexCast v371
  let c0_294 : Index := 0#32
  ![v372.toNat, 0]

def k0_chk54 (v371 : BitVec 32) : Prop :=
  (∀ a, (k0_off55 v371) a + S1x136.size a ≤ S20008x136.size a)
theorem k0_off55_inb : ∀ (v371 : BitVec 32) (k0_hw54 : k0_chk54 v371), ∀ a, (k0_off55 v371) a + S1x136.size a ≤ S20008x136.size a := fun v371 k0_hw54 => k0_hw54

def k0_off56 (v378 : BitVec 32) : Fin 2 → Nat :=
  let v379 : Index := Scalar.indexCast v378
  let c0_299 : Index := 0#32
  ![v379.toNat, 0]

def k0_chk55 (v378 : BitVec 32) : Prop :=
  (∀ a, (k0_off56 v378) a + S1x136.size a ≤ S20008x136.size a)
theorem k0_off56_inb : ∀ (v378 : BitVec 32) (k0_hw55 : k0_chk55 v378), ∀ a, (k0_off56 v378) a + S1x136.size a ≤ S20008x136.size a := fun v378 k0_hw55 => k0_hw55

def k0_off57 (v385 : BitVec 32) : Fin 2 → Nat :=
  let v386 : Index := Scalar.indexCast v385
  let c0_305 : Index := 0#32
  ![v386.toNat, 0]

def k0_chk56 (v385 : BitVec 32) : Prop :=
  (∀ a, (k0_off57 v385) a + S1x136.size a ≤ S20008x136.size a)
theorem k0_off57_inb : ∀ (v385 : BitVec 32) (k0_hw56 : k0_chk56 v385), ∀ a, (k0_off57 v385) a + S1x136.size a ≤ S20008x136.size a := fun v385 k0_hw56 => k0_hw56

def k0_off58 (v392 : BitVec 32) : Fin 2 → Nat :=
  let v393 : Index := Scalar.indexCast v392
  let c0_310 : Index := 0#32
  ![v393.toNat, 0]

def k0_chk57 (v392 : BitVec 32) : Prop :=
  (∀ a, (k0_off58 v392) a + S1x136.size a ≤ S20008x136.size a)
theorem k0_off58_inb : ∀ (v392 : BitVec 32) (k0_hw57 : k0_chk57 v392), ∀ a, (k0_off58 v392) a + S1x136.size a ≤ S20008x136.size a := fun v392 k0_hw57 => k0_hw57

def k0_off59 (v399 : BitVec 32) : Fin 2 → Nat :=
  let v400 : Index := Scalar.indexCast v399
  let c0_316 : Index := 0#32
  ![v400.toNat, 0]

def k0_chk58 (v399 : BitVec 32) : Prop :=
  (∀ a, (k0_off59 v399) a + S1x136.size a ≤ S20008x136.size a)
theorem k0_off59_inb : ∀ (v399 : BitVec 32) (k0_hw58 : k0_chk58 v399), ∀ a, (k0_off59 v399) a + S1x136.size a ≤ S20008x136.size a := fun v399 k0_hw58 => k0_hw58

def k0_off60 (v406 : BitVec 32) : Fin 2 → Nat :=
  let v407 : Index := Scalar.indexCast v406
  let c0_321 : Index := 0#32
  ![v407.toNat, 0]

def k0_chk59 (v406 : BitVec 32) : Prop :=
  (∀ a, (k0_off60 v406) a + S1x136.size a ≤ S20008x136.size a)
theorem k0_off60_inb : ∀ (v406 : BitVec 32) (k0_hw59 : k0_chk59 v406), ∀ a, (k0_off60 v406) a + S1x136.size a ≤ S20008x136.size a := fun v406 k0_hw59 => k0_hw59

def k0_off61 (v413 : BitVec 32) : Fin 2 → Nat :=
  let v414 : Index := Scalar.indexCast v413
  let c0_327 : Index := 0#32
  ![v414.toNat, 0]

def k0_chk60 (v413 : BitVec 32) : Prop :=
  (∀ a, (k0_off61 v413) a + S1x136.size a ≤ S20008x136.size a)
theorem k0_off61_inb : ∀ (v413 : BitVec 32) (k0_hw60 : k0_chk60 v413), ∀ a, (k0_off61 v413) a + S1x136.size a ≤ S20008x136.size a := fun v413 k0_hw60 => k0_hw60

def k0_off62 (v420 : BitVec 32) : Fin 2 → Nat :=
  let v421 : Index := Scalar.indexCast v420
  let c0_332 : Index := 0#32
  ![v421.toNat, 0]

def k0_chk61 (v420 : BitVec 32) : Prop :=
  (∀ a, (k0_off62 v420) a + S1x136.size a ≤ S20008x136.size a)
theorem k0_off62_inb : ∀ (v420 : BitVec 32) (k0_hw61 : k0_chk61 v420), ∀ a, (k0_off62 v420) a + S1x136.size a ≤ S20008x136.size a := fun v420 k0_hw61 => k0_hw61

def k0_off63 (v427 : BitVec 32) : Fin 2 → Nat :=
  let v428 : Index := Scalar.indexCast v427
  let c0_338 : Index := 0#32
  ![v428.toNat, 0]

def k0_chk62 (v427 : BitVec 32) : Prop :=
  (∀ a, (k0_off63 v427) a + S1x136.size a ≤ S20008x136.size a)
theorem k0_off63_inb : ∀ (v427 : BitVec 32) (k0_hw62 : k0_chk62 v427), ∀ a, (k0_off63 v427) a + S1x136.size a ≤ S20008x136.size a := fun v427 k0_hw62 => k0_hw62

def k0_off64 (v434 : BitVec 32) : Fin 2 → Nat :=
  let v435 : Index := Scalar.indexCast v434
  let c0_343 : Index := 0#32
  ![v435.toNat, 0]

def k0_chk63 (v434 : BitVec 32) : Prop :=
  (∀ a, (k0_off64 v434) a + S1x136.size a ≤ S20008x136.size a)
theorem k0_off64_inb : ∀ (v434 : BitVec 32) (k0_hw63 : k0_chk63 v434), ∀ a, (k0_off64 v434) a + S1x136.size a ≤ S20008x136.size a := fun v434 k0_hw63 => k0_hw63

def k0_off65 (v441 : BitVec 32) : Fin 2 → Nat :=
  let v442 : Index := Scalar.indexCast v441
  let c0_349 : Index := 0#32
  ![v442.toNat, 0]

def k0_chk64 (v441 : BitVec 32) : Prop :=
  (∀ a, (k0_off65 v441) a + S1x136.size a ≤ S20008x136.size a)
theorem k0_off65_inb : ∀ (v441 : BitVec 32) (k0_hw64 : k0_chk64 v441), ∀ a, (k0_off65 v441) a + S1x136.size a ≤ S20008x136.size a := fun v441 k0_hw64 => k0_hw64

def k0_off66 (v448 : BitVec 32) : Fin 2 → Nat :=
  let v449 : Index := Scalar.indexCast v448
  let c0_354 : Index := 0#32
  ![v449.toNat, 0]

def k0_chk65 (v448 : BitVec 32) : Prop :=
  (∀ a, (k0_off66 v448) a + S1x136.size a ≤ S20008x136.size a)
theorem k0_off66_inb : ∀ (v448 : BitVec 32) (k0_hw65 : k0_chk65 v448), ∀ a, (k0_off66 v448) a + S1x136.size a ≤ S20008x136.size a := fun v448 k0_hw65 => k0_hw65

def k0_off67 (v455 : BitVec 32) : Fin 2 → Nat :=
  let v456 : Index := Scalar.indexCast v455
  let c0_360 : Index := 0#32
  ![v456.toNat, 0]

def k0_chk66 (v455 : BitVec 32) : Prop :=
  (∀ a, (k0_off67 v455) a + S1x136.size a ≤ S20008x136.size a)
theorem k0_off67_inb : ∀ (v455 : BitVec 32) (k0_hw66 : k0_chk66 v455), ∀ a, (k0_off67 v455) a + S1x136.size a ≤ S20008x136.size a := fun v455 k0_hw66 => k0_hw66

def k0_off68 (v462 : BitVec 32) : Fin 2 → Nat :=
  let v463 : Index := Scalar.indexCast v462
  let c0_365 : Index := 0#32
  ![v463.toNat, 0]

def k0_chk67 (v462 : BitVec 32) : Prop :=
  (∀ a, (k0_off68 v462) a + S1x136.size a ≤ S20008x136.size a)
theorem k0_off68_inb : ∀ (v462 : BitVec 32) (k0_hw67 : k0_chk67 v462), ∀ a, (k0_off68 v462) a + S1x136.size a ≤ S20008x136.size a := fun v462 k0_hw67 => k0_hw67

def k0_off69 (v469 : BitVec 32) : Fin 2 → Nat :=
  let v470 : Index := Scalar.indexCast v469
  let c0_371 : Index := 0#32
  ![v470.toNat, 0]

def k0_chk68 (v469 : BitVec 32) : Prop :=
  (∀ a, (k0_off69 v469) a + S1x136.size a ≤ S20008x136.size a)
theorem k0_off69_inb : ∀ (v469 : BitVec 32) (k0_hw68 : k0_chk68 v469), ∀ a, (k0_off69 v469) a + S1x136.size a ≤ S20008x136.size a := fun v469 k0_hw68 => k0_hw68

def k0_off70 (v476 : BitVec 32) : Fin 2 → Nat :=
  let v477 : Index := Scalar.indexCast v476
  let c0_376 : Index := 0#32
  ![v477.toNat, 0]

def k0_chk69 (v476 : BitVec 32) : Prop :=
  (∀ a, (k0_off70 v476) a + S1x136.size a ≤ S20008x136.size a)
theorem k0_off70_inb : ∀ (v476 : BitVec 32) (k0_hw69 : k0_chk69 v476), ∀ a, (k0_off70 v476) a + S1x136.size a ≤ S20008x136.size a := fun v476 k0_hw69 => k0_hw69

def k0_off71 (v483 : BitVec 32) : Fin 2 → Nat :=
  let v484 : Index := Scalar.indexCast v483
  let c0_382 : Index := 0#32
  ![v484.toNat, 0]

def k0_chk70 (v483 : BitVec 32) : Prop :=
  (∀ a, (k0_off71 v483) a + S1x136.size a ≤ S20008x136.size a)
theorem k0_off71_inb : ∀ (v483 : BitVec 32) (k0_hw70 : k0_chk70 v483), ∀ a, (k0_off71 v483) a + S1x136.size a ≤ S20008x136.size a := fun v483 k0_hw70 => k0_hw70

def k0_off72 (v490 : BitVec 32) : Fin 2 → Nat :=
  let v491 : Index := Scalar.indexCast v490
  let c0_387 : Index := 0#32
  ![v491.toNat, 0]

def k0_chk71 (v490 : BitVec 32) : Prop :=
  (∀ a, (k0_off72 v490) a + S1x136.size a ≤ S20008x136.size a)
theorem k0_off72_inb : ∀ (v490 : BitVec 32) (k0_hw71 : k0_chk71 v490), ∀ a, (k0_off72 v490) a + S1x136.size a ≤ S20008x136.size a := fun v490 k0_hw71 => k0_hw71

def k0_off73 (v497 : BitVec 32) : Fin 2 → Nat :=
  let v498 : Index := Scalar.indexCast v497
  let c0_393 : Index := 0#32
  ![v498.toNat, 0]

def k0_chk72 (v497 : BitVec 32) : Prop :=
  (∀ a, (k0_off73 v497) a + S1x136.size a ≤ S20008x136.size a)
theorem k0_off73_inb : ∀ (v497 : BitVec 32) (k0_hw72 : k0_chk72 v497), ∀ a, (k0_off73 v497) a + S1x136.size a ≤ S20008x136.size a := fun v497 k0_hw72 => k0_hw72

def k0_off74 (v504 : BitVec 32) : Fin 2 → Nat :=
  let v505 : Index := Scalar.indexCast v504
  let c0_398 : Index := 0#32
  ![v505.toNat, 0]

def k0_chk73 (v504 : BitVec 32) : Prop :=
  (∀ a, (k0_off74 v504) a + S1x136.size a ≤ S20008x136.size a)
theorem k0_off74_inb : ∀ (v504 : BitVec 32) (k0_hw73 : k0_chk73 v504), ∀ a, (k0_off74 v504) a + S1x136.size a ≤ S20008x136.size a := fun v504 k0_hw73 => k0_hw73

def k0_off75 (v511 : BitVec 32) : Fin 2 → Nat :=
  let v512 : Index := Scalar.indexCast v511
  let c0_404 : Index := 0#32
  ![v512.toNat, 0]

def k0_chk74 (v511 : BitVec 32) : Prop :=
  (∀ a, (k0_off75 v511) a + S1x136.size a ≤ S20008x136.size a)
theorem k0_off75_inb : ∀ (v511 : BitVec 32) (k0_hw74 : k0_chk74 v511), ∀ a, (k0_off75 v511) a + S1x136.size a ≤ S20008x136.size a := fun v511 k0_hw74 => k0_hw74

def k0_off76 (v518 : BitVec 32) : Fin 2 → Nat :=
  let v519 : Index := Scalar.indexCast v518
  let c0_409 : Index := 0#32
  ![v519.toNat, 0]

def k0_chk75 (v518 : BitVec 32) : Prop :=
  (∀ a, (k0_off76 v518) a + S1x136.size a ≤ S20008x136.size a)
theorem k0_off76_inb : ∀ (v518 : BitVec 32) (k0_hw75 : k0_chk75 v518), ∀ a, (k0_off76 v518) a + S1x136.size a ≤ S20008x136.size a := fun v518 k0_hw75 => k0_hw75

def k0_off77 (v525 : BitVec 32) : Fin 2 → Nat :=
  let v526 : Index := Scalar.indexCast v525
  let c0_415 : Index := 0#32
  ![v526.toNat, 0]

def k0_chk76 (v525 : BitVec 32) : Prop :=
  (∀ a, (k0_off77 v525) a + S1x136.size a ≤ S20008x136.size a)
theorem k0_off77_inb : ∀ (v525 : BitVec 32) (k0_hw76 : k0_chk76 v525), ∀ a, (k0_off77 v525) a + S1x136.size a ≤ S20008x136.size a := fun v525 k0_hw76 => k0_hw76

def k0_off78 (v532 : BitVec 32) : Fin 2 → Nat :=
  let v533 : Index := Scalar.indexCast v532
  let c0_420 : Index := 0#32
  ![v533.toNat, 0]

def k0_chk77 (v532 : BitVec 32) : Prop :=
  (∀ a, (k0_off78 v532) a + S1x136.size a ≤ S20008x136.size a)
theorem k0_off78_inb : ∀ (v532 : BitVec 32) (k0_hw77 : k0_chk77 v532), ∀ a, (k0_off78 v532) a + S1x136.size a ≤ S20008x136.size a := fun v532 k0_hw77 => k0_hw77

def k0_off79 (v539 : BitVec 32) : Fin 2 → Nat :=
  let v540 : Index := Scalar.indexCast v539
  let c0_426 : Index := 0#32
  ![v540.toNat, 0]

def k0_chk78 (v539 : BitVec 32) : Prop :=
  (∀ a, (k0_off79 v539) a + S1x136.size a ≤ S20008x136.size a)
theorem k0_off79_inb : ∀ (v539 : BitVec 32) (k0_hw78 : k0_chk78 v539), ∀ a, (k0_off79 v539) a + S1x136.size a ≤ S20008x136.size a := fun v539 k0_hw78 => k0_hw78

def k0_off80 (v546 : BitVec 32) : Fin 2 → Nat :=
  let v547 : Index := Scalar.indexCast v546
  let c0_431 : Index := 0#32
  ![v547.toNat, 0]

def k0_chk79 (v546 : BitVec 32) : Prop :=
  (∀ a, (k0_off80 v546) a + S1x136.size a ≤ S20008x136.size a)
theorem k0_off80_inb : ∀ (v546 : BitVec 32) (k0_hw79 : k0_chk79 v546), ∀ a, (k0_off80 v546) a + S1x136.size a ≤ S20008x136.size a := fun v546 k0_hw79 => k0_hw79

def k0_off81 (v553 : BitVec 32) : Fin 2 → Nat :=
  let v554 : Index := Scalar.indexCast v553
  let c0_437 : Index := 0#32
  ![v554.toNat, 0]

def k0_chk80 (v553 : BitVec 32) : Prop :=
  (∀ a, (k0_off81 v553) a + S1x136.size a ≤ S20008x136.size a)
theorem k0_off81_inb : ∀ (v553 : BitVec 32) (k0_hw80 : k0_chk80 v553), ∀ a, (k0_off81 v553) a + S1x136.size a ≤ S20008x136.size a := fun v553 k0_hw80 => k0_hw80

def k0_off82 (v560 : BitVec 32) : Fin 2 → Nat :=
  let v561 : Index := Scalar.indexCast v560
  let c0_442 : Index := 0#32
  ![v561.toNat, 0]

def k0_chk81 (v560 : BitVec 32) : Prop :=
  (∀ a, (k0_off82 v560) a + S1x136.size a ≤ S20008x136.size a)
theorem k0_off82_inb : ∀ (v560 : BitVec 32) (k0_hw81 : k0_chk81 v560), ∀ a, (k0_off82 v560) a + S1x136.size a ≤ S20008x136.size a := fun v560 k0_hw81 => k0_hw81

def k0_off83 (v567 : BitVec 32) : Fin 2 → Nat :=
  let v568 : Index := Scalar.indexCast v567
  let c0_448 : Index := 0#32
  ![v568.toNat, 0]

def k0_chk82 (v567 : BitVec 32) : Prop :=
  (∀ a, (k0_off83 v567) a + S1x136.size a ≤ S20008x136.size a)
theorem k0_off83_inb : ∀ (v567 : BitVec 32) (k0_hw82 : k0_chk82 v567), ∀ a, (k0_off83 v567) a + S1x136.size a ≤ S20008x136.size a := fun v567 k0_hw82 => k0_hw82

def k0_off84 (v574 : BitVec 32) : Fin 2 → Nat :=
  let v575 : Index := Scalar.indexCast v574
  let c0_453 : Index := 0#32
  ![v575.toNat, 0]

def k0_chk83 (v574 : BitVec 32) : Prop :=
  (∀ a, (k0_off84 v574) a + S1x136.size a ≤ S20008x136.size a)
theorem k0_off84_inb : ∀ (v574 : BitVec 32) (k0_hw83 : k0_chk83 v574), ∀ a, (k0_off84 v574) a + S1x136.size a ≤ S20008x136.size a := fun v574 k0_hw83 => k0_hw83

def k0_off85 (v581 : BitVec 32) : Fin 2 → Nat :=
  let v582 : Index := Scalar.indexCast v581
  let c0_459 : Index := 0#32
  ![v582.toNat, 0]

def k0_chk84 (v581 : BitVec 32) : Prop :=
  (∀ a, (k0_off85 v581) a + S1x136.size a ≤ S20008x136.size a)
theorem k0_off85_inb : ∀ (v581 : BitVec 32) (k0_hw84 : k0_chk84 v581), ∀ a, (k0_off85 v581) a + S1x136.size a ≤ S20008x136.size a := fun v581 k0_hw84 => k0_hw84

def k0_off86 (v588 : BitVec 32) : Fin 2 → Nat :=
  let v589 : Index := Scalar.indexCast v588
  let c0_464 : Index := 0#32
  ![v589.toNat, 0]

def k0_chk85 (v588 : BitVec 32) : Prop :=
  (∀ a, (k0_off86 v588) a + S1x136.size a ≤ S20008x136.size a)
theorem k0_off86_inb : ∀ (v588 : BitVec 32) (k0_hw85 : k0_chk85 v588), ∀ a, (k0_off86 v588) a + S1x136.size a ≤ S20008x136.size a := fun v588 k0_hw85 => k0_hw85

def k0_off87 (v595 : BitVec 32) : Fin 2 → Nat :=
  let v596 : Index := Scalar.indexCast v595
  let c0_470 : Index := 0#32
  ![v596.toNat, 0]

def k0_chk86 (v595 : BitVec 32) : Prop :=
  (∀ a, (k0_off87 v595) a + S1x136.size a ≤ S20008x136.size a)
theorem k0_off87_inb : ∀ (v595 : BitVec 32) (k0_hw86 : k0_chk86 v595), ∀ a, (k0_off87 v595) a + S1x136.size a ≤ S20008x136.size a := fun v595 k0_hw86 => k0_hw86

def k0_off88 (v602 : BitVec 32) : Fin 2 → Nat :=
  let v603 : Index := Scalar.indexCast v602
  let c0_475 : Index := 0#32
  ![v603.toNat, 0]

def k0_chk87 (v602 : BitVec 32) : Prop :=
  (∀ a, (k0_off88 v602) a + S1x136.size a ≤ S20008x136.size a)
theorem k0_off88_inb : ∀ (v602 : BitVec 32) (k0_hw87 : k0_chk87 v602), ∀ a, (k0_off88 v602) a + S1x136.size a ≤ S20008x136.size a := fun v602 k0_hw87 => k0_hw87

def k0_off89 (v609 : BitVec 32) : Fin 2 → Nat :=
  let v610 : Index := Scalar.indexCast v609
  let c0_481 : Index := 0#32
  ![v610.toNat, 0]

def k0_chk88 (v609 : BitVec 32) : Prop :=
  (∀ a, (k0_off89 v609) a + S1x136.size a ≤ S20008x136.size a)
theorem k0_off89_inb : ∀ (v609 : BitVec 32) (k0_hw88 : k0_chk88 v609), ∀ a, (k0_off89 v609) a + S1x136.size a ≤ S20008x136.size a := fun v609 k0_hw88 => k0_hw88

def k0_off90 (v616 : BitVec 32) : Fin 2 → Nat :=
  let v617 : Index := Scalar.indexCast v616
  let c0_486 : Index := 0#32
  ![v617.toNat, 0]

def k0_chk89 (v616 : BitVec 32) : Prop :=
  (∀ a, (k0_off90 v616) a + S1x136.size a ≤ S20008x136.size a)
theorem k0_off90_inb : ∀ (v616 : BitVec 32) (k0_hw89 : k0_chk89 v616), ∀ a, (k0_off90 v616) a + S1x136.size a ≤ S20008x136.size a := fun v616 k0_hw89 => k0_hw89

def k0_off91 (v623 : BitVec 32) : Fin 2 → Nat :=
  let v624 : Index := Scalar.indexCast v623
  let c0_492 : Index := 0#32
  ![v624.toNat, 0]

def k0_chk90 (v623 : BitVec 32) : Prop :=
  (∀ a, (k0_off91 v623) a + S1x136.size a ≤ S20008x136.size a)
theorem k0_off91_inb : ∀ (v623 : BitVec 32) (k0_hw90 : k0_chk90 v623), ∀ a, (k0_off91 v623) a + S1x136.size a ≤ S20008x136.size a := fun v623 k0_hw90 => k0_hw90

def k0_off92 (v630 : BitVec 32) : Fin 2 → Nat :=
  let v631 : Index := Scalar.indexCast v630
  let c0_497 : Index := 0#32
  ![v631.toNat, 0]

def k0_chk91 (v630 : BitVec 32) : Prop :=
  (∀ a, (k0_off92 v630) a + S1x136.size a ≤ S20008x136.size a)
theorem k0_off92_inb : ∀ (v630 : BitVec 32) (k0_hw91 : k0_chk91 v630), ∀ a, (k0_off92 v630) a + S1x136.size a ≤ S20008x136.size a := fun v630 k0_hw91 => k0_hw91

def k0_off93 (v637 : BitVec 32) : Fin 2 → Nat :=
  let v638 : Index := Scalar.indexCast v637
  let c0_503 : Index := 0#32
  ![v638.toNat, 0]

def k0_chk92 (v637 : BitVec 32) : Prop :=
  (∀ a, (k0_off93 v637) a + S1x136.size a ≤ S20008x136.size a)
theorem k0_off93_inb : ∀ (v637 : BitVec 32) (k0_hw92 : k0_chk92 v637), ∀ a, (k0_off93 v637) a + S1x136.size a ≤ S20008x136.size a := fun v637 k0_hw92 => k0_hw92

def k0_off94 (v644 : BitVec 32) : Fin 2 → Nat :=
  let v645 : Index := Scalar.indexCast v644
  let c0_508 : Index := 0#32
  ![v645.toNat, 0]

def k0_chk93 (v644 : BitVec 32) : Prop :=
  (∀ a, (k0_off94 v644) a + S1x136.size a ≤ S20008x136.size a)
theorem k0_off94_inb : ∀ (v644 : BitVec 32) (k0_hw93 : k0_chk93 v644), ∀ a, (k0_off94 v644) a + S1x136.size a ≤ S20008x136.size a := fun v644 k0_hw93 => k0_hw93

def k0_off95 (v651 : BitVec 32) : Fin 2 → Nat :=
  let v652 : Index := Scalar.indexCast v651
  let c0_514 : Index := 0#32
  ![v652.toNat, 0]

def k0_chk94 (v651 : BitVec 32) : Prop :=
  (∀ a, (k0_off95 v651) a + S1x136.size a ≤ S20008x136.size a)
theorem k0_off95_inb : ∀ (v651 : BitVec 32) (k0_hw94 : k0_chk94 v651), ∀ a, (k0_off95 v651) a + S1x136.size a ≤ S20008x136.size a := fun v651 k0_hw94 => k0_hw94

def k0_off96 (v658 : BitVec 32) : Fin 2 → Nat :=
  let v659 : Index := Scalar.indexCast v658
  let c0_519 : Index := 0#32
  ![v659.toNat, 0]

def k0_chk95 (v658 : BitVec 32) : Prop :=
  (∀ a, (k0_off96 v658) a + S1x136.size a ≤ S20008x136.size a)
theorem k0_off96_inb : ∀ (v658 : BitVec 32) (k0_hw95 : k0_chk95 v658), ∀ a, (k0_off96 v658) a + S1x136.size a ≤ S20008x136.size a := fun v658 k0_hw95 => k0_hw95

def k0_off97 (v665 : BitVec 32) : Fin 2 → Nat :=
  let v666 : Index := Scalar.indexCast v665
  let c0_525 : Index := 0#32
  ![v666.toNat, 0]

def k0_chk96 (v665 : BitVec 32) : Prop :=
  (∀ a, (k0_off97 v665) a + S1x136.size a ≤ S20008x136.size a)
theorem k0_off97_inb : ∀ (v665 : BitVec 32) (k0_hw96 : k0_chk96 v665), ∀ a, (k0_off97 v665) a + S1x136.size a ≤ S20008x136.size a := fun v665 k0_hw96 => k0_hw96

def k0_off98 (v672 : BitVec 32) : Fin 2 → Nat :=
  let v673 : Index := Scalar.indexCast v672
  let c0_530 : Index := 0#32
  ![v673.toNat, 0]

def k0_chk97 (v672 : BitVec 32) : Prop :=
  (∀ a, (k0_off98 v672) a + S1x136.size a ≤ S20008x136.size a)
theorem k0_off98_inb : ∀ (v672 : BitVec 32) (k0_hw97 : k0_chk97 v672), ∀ a, (k0_off98 v672) a + S1x136.size a ≤ S20008x136.size a := fun v672 k0_hw97 => k0_hw97

def k0_off99 (v679 : BitVec 32) : Fin 2 → Nat :=
  let v680 : Index := Scalar.indexCast v679
  let c0_536 : Index := 0#32
  ![v680.toNat, 0]

def k0_chk98 (v679 : BitVec 32) : Prop :=
  (∀ a, (k0_off99 v679) a + S1x136.size a ≤ S20008x136.size a)
theorem k0_off99_inb : ∀ (v679 : BitVec 32) (k0_hw98 : k0_chk98 v679), ∀ a, (k0_off99 v679) a + S1x136.size a ≤ S20008x136.size a := fun v679 k0_hw98 => k0_hw98

def k0_off100 (v686 : BitVec 32) : Fin 2 → Nat :=
  let v687 : Index := Scalar.indexCast v686
  let c0_541 : Index := 0#32
  ![v687.toNat, 0]

def k0_chk99 (v686 : BitVec 32) : Prop :=
  (∀ a, (k0_off100 v686) a + S1x136.size a ≤ S20008x136.size a)
theorem k0_off100_inb : ∀ (v686 : BitVec 32) (k0_hw99 : k0_chk99 v686), ∀ a, (k0_off100 v686) a + S1x136.size a ≤ S20008x136.size a := fun v686 k0_hw99 => k0_hw99

def k0_off101 (v693 : BitVec 32) : Fin 2 → Nat :=
  let v694 : Index := Scalar.indexCast v693
  let c0_547 : Index := 0#32
  ![v694.toNat, 0]

def k0_chk100 (v693 : BitVec 32) : Prop :=
  (∀ a, (k0_off101 v693) a + S1x136.size a ≤ S20008x136.size a)
theorem k0_off101_inb : ∀ (v693 : BitVec 32) (k0_hw100 : k0_chk100 v693), ∀ a, (k0_off101 v693) a + S1x136.size a ≤ S20008x136.size a := fun v693 k0_hw100 => k0_hw100

def k0_off102 (v700 : BitVec 32) : Fin 2 → Nat :=
  let v701 : Index := Scalar.indexCast v700
  let c0_552 : Index := 0#32
  ![v701.toNat, 0]

def k0_chk101 (v700 : BitVec 32) : Prop :=
  (∀ a, (k0_off102 v700) a + S1x136.size a ≤ S20008x136.size a)
theorem k0_off102_inb : ∀ (v700 : BitVec 32) (k0_hw101 : k0_chk101 v700), ∀ a, (k0_off102 v700) a + S1x136.size a ≤ S20008x136.size a := fun v700 k0_hw101 => k0_hw101

def k0_off103 (v707 : BitVec 32) : Fin 2 → Nat :=
  let v708 : Index := Scalar.indexCast v707
  let c0_558 : Index := 0#32
  ![v708.toNat, 0]

def k0_chk102 (v707 : BitVec 32) : Prop :=
  (∀ a, (k0_off103 v707) a + S1x136.size a ≤ S20008x136.size a)
theorem k0_off103_inb : ∀ (v707 : BitVec 32) (k0_hw102 : k0_chk102 v707), ∀ a, (k0_off103 v707) a + S1x136.size a ≤ S20008x136.size a := fun v707 k0_hw102 => k0_hw102

def k0_off104 (v714 : BitVec 32) : Fin 2 → Nat :=
  let v715 : Index := Scalar.indexCast v714
  let c0_563 : Index := 0#32
  ![v715.toNat, 0]

def k0_chk103 (v714 : BitVec 32) : Prop :=
  (∀ a, (k0_off104 v714) a + S1x136.size a ≤ S20008x136.size a)
theorem k0_off104_inb : ∀ (v714 : BitVec 32) (k0_hw103 : k0_chk103 v714), ∀ a, (k0_off104 v714) a + S1x136.size a ≤ S20008x136.size a := fun v714 k0_hw103 => k0_hw103

def k0_off105 (v721 : BitVec 32) : Fin 2 → Nat :=
  let v722 : Index := Scalar.indexCast v721
  let c0_569 : Index := 0#32
  ![v722.toNat, 0]

def k0_chk104 (v721 : BitVec 32) : Prop :=
  (∀ a, (k0_off105 v721) a + S1x136.size a ≤ S20008x136.size a)
theorem k0_off105_inb : ∀ (v721 : BitVec 32) (k0_hw104 : k0_chk104 v721), ∀ a, (k0_off105 v721) a + S1x136.size a ≤ S20008x136.size a := fun v721 k0_hw104 => k0_hw104

def k0_off106 (v728 : BitVec 32) : Fin 2 → Nat :=
  let v729 : Index := Scalar.indexCast v728
  let c0_574 : Index := 0#32
  ![v729.toNat, 0]

def k0_chk105 (v728 : BitVec 32) : Prop :=
  (∀ a, (k0_off106 v728) a + S1x136.size a ≤ S20008x136.size a)
theorem k0_off106_inb : ∀ (v728 : BitVec 32) (k0_hw105 : k0_chk105 v728), ∀ a, (k0_off106 v728) a + S1x136.size a ≤ S20008x136.size a := fun v728 k0_hw105 => k0_hw105

def k0_off107 (v735 : BitVec 32) : Fin 2 → Nat :=
  let v736 : Index := Scalar.indexCast v735
  let c0_580 : Index := 0#32
  ![v736.toNat, 0]

def k0_chk106 (v735 : BitVec 32) : Prop :=
  (∀ a, (k0_off107 v735) a + S1x136.size a ≤ S20008x136.size a)
theorem k0_off107_inb : ∀ (v735 : BitVec 32) (k0_hw106 : k0_chk106 v735), ∀ a, (k0_off107 v735) a + S1x136.size a ≤ S20008x136.size a := fun v735 k0_hw106 => k0_hw106

def k0_off108 (v742 : BitVec 32) : Fin 2 → Nat :=
  let v743 : Index := Scalar.indexCast v742
  let c0_585 : Index := 0#32
  ![v743.toNat, 0]

def k0_chk107 (v742 : BitVec 32) : Prop :=
  (∀ a, (k0_off108 v742) a + S1x136.size a ≤ S20008x136.size a)
theorem k0_off108_inb : ∀ (v742 : BitVec 32) (k0_hw107 : k0_chk107 v742), ∀ a, (k0_off108 v742) a + S1x136.size a ≤ S20008x136.size a := fun v742 k0_hw107 => k0_hw107

def k0_off109 (v749 : BitVec 32) : Fin 2 → Nat :=
  let v750 : Index := Scalar.indexCast v749
  let c0_591 : Index := 0#32
  ![v750.toNat, 0]

def k0_chk108 (v749 : BitVec 32) : Prop :=
  (∀ a, (k0_off109 v749) a + S1x136.size a ≤ S20008x136.size a)
theorem k0_off109_inb : ∀ (v749 : BitVec 32) (k0_hw108 : k0_chk108 v749), ∀ a, (k0_off109 v749) a + S1x136.size a ≤ S20008x136.size a := fun v749 k0_hw108 => k0_hw108

def k0_off110 (v756 : BitVec 32) : Fin 2 → Nat :=
  let v757 : Index := Scalar.indexCast v756
  let c0_596 : Index := 0#32
  ![v757.toNat, 0]

def k0_chk109 (v756 : BitVec 32) : Prop :=
  (∀ a, (k0_off110 v756) a + S1x136.size a ≤ S20008x136.size a)
theorem k0_off110_inb : ∀ (v756 : BitVec 32) (k0_hw109 : k0_chk109 v756), ∀ a, (k0_off110 v756) a + S1x136.size a ≤ S20008x136.size a := fun v756 k0_hw109 => k0_hw109

def k0_off111 (v763 : BitVec 32) : Fin 2 → Nat :=
  let v764 : Index := Scalar.indexCast v763
  let c0_602 : Index := 0#32
  ![v764.toNat, 0]

def k0_chk110 (v763 : BitVec 32) : Prop :=
  (∀ a, (k0_off111 v763) a + S1x136.size a ≤ S20008x136.size a)
theorem k0_off111_inb : ∀ (v763 : BitVec 32) (k0_hw110 : k0_chk110 v763), ∀ a, (k0_off111 v763) a + S1x136.size a ≤ S20008x136.size a := fun v763 k0_hw110 => k0_hw110

def k0_off112 (v770 : BitVec 32) : Fin 2 → Nat :=
  let v771 : Index := Scalar.indexCast v770
  let c0_607 : Index := 0#32
  ![v771.toNat, 0]

def k0_chk111 (v770 : BitVec 32) : Prop :=
  (∀ a, (k0_off112 v770) a + S1x136.size a ≤ S20008x136.size a)
theorem k0_off112_inb : ∀ (v770 : BitVec 32) (k0_hw111 : k0_chk111 v770), ∀ a, (k0_off112 v770) a + S1x136.size a ≤ S20008x136.size a := fun v770 k0_hw111 => k0_hw111

def k0_off113 (v777 : BitVec 32) : Fin 2 → Nat :=
  let v778 : Index := Scalar.indexCast v777
  let c0_613 : Index := 0#32
  ![v778.toNat, 0]

def k0_chk112 (v777 : BitVec 32) : Prop :=
  (∀ a, (k0_off113 v777) a + S1x136.size a ≤ S20008x136.size a)
theorem k0_off113_inb : ∀ (v777 : BitVec 32) (k0_hw112 : k0_chk112 v777), ∀ a, (k0_off113 v777) a + S1x136.size a ≤ S20008x136.size a := fun v777 k0_hw112 => k0_hw112

def k0_off114 (v784 : BitVec 32) : Fin 2 → Nat :=
  let v785 : Index := Scalar.indexCast v784
  let c0_618 : Index := 0#32
  ![v785.toNat, 0]

def k0_chk113 (v784 : BitVec 32) : Prop :=
  (∀ a, (k0_off114 v784) a + S1x136.size a ≤ S20008x136.size a)
theorem k0_off114_inb : ∀ (v784 : BitVec 32) (k0_hw113 : k0_chk113 v784), ∀ a, (k0_off114 v784) a + S1x136.size a ≤ S20008x136.size a := fun v784 k0_hw113 => k0_hw113

def k0_off115 (v791 : BitVec 32) : Fin 2 → Nat :=
  let v792 : Index := Scalar.indexCast v791
  let c0_624 : Index := 0#32
  ![v792.toNat, 0]

def k0_chk114 (v791 : BitVec 32) : Prop :=
  (∀ a, (k0_off115 v791) a + S1x136.size a ≤ S20008x136.size a)
theorem k0_off115_inb : ∀ (v791 : BitVec 32) (k0_hw114 : k0_chk114 v791), ∀ a, (k0_off115 v791) a + S1x136.size a ≤ S20008x136.size a := fun v791 k0_hw114 => k0_hw114

def k0_off116 (v798 : BitVec 32) : Fin 2 → Nat :=
  let v799 : Index := Scalar.indexCast v798
  let c0_629 : Index := 0#32
  ![v799.toNat, 0]

def k0_chk115 (v798 : BitVec 32) : Prop :=
  (∀ a, (k0_off116 v798) a + S1x136.size a ≤ S20008x136.size a)
theorem k0_off116_inb : ∀ (v798 : BitVec 32) (k0_hw115 : k0_chk115 v798), ∀ a, (k0_off116 v798) a + S1x136.size a ≤ S20008x136.size a := fun v798 k0_hw115 => k0_hw115

def k0_off117 (v805 : BitVec 32) : Fin 2 → Nat :=
  let v806 : Index := Scalar.indexCast v805
  let c0_635 : Index := 0#32
  ![v806.toNat, 0]

def k0_chk116 (v805 : BitVec 32) : Prop :=
  (∀ a, (k0_off117 v805) a + S1x136.size a ≤ S20008x136.size a)
theorem k0_off117_inb : ∀ (v805 : BitVec 32) (k0_hw116 : k0_chk116 v805), ∀ a, (k0_off117 v805) a + S1x136.size a ≤ S20008x136.size a := fun v805 k0_hw116 => k0_hw116

def k0_off118 (v812 : BitVec 32) : Fin 2 → Nat :=
  let v813 : Index := Scalar.indexCast v812
  let c0_640 : Index := 0#32
  ![v813.toNat, 0]

def k0_chk117 (v812 : BitVec 32) : Prop :=
  (∀ a, (k0_off118 v812) a + S1x136.size a ≤ S20008x136.size a)
theorem k0_off118_inb : ∀ (v812 : BitVec 32) (k0_hw117 : k0_chk117 v812), ∀ a, (k0_off118 v812) a + S1x136.size a ≤ S20008x136.size a := fun v812 k0_hw117 => k0_hw117

def k0_off119 (v819 : BitVec 32) : Fin 2 → Nat :=
  let v820 : Index := Scalar.indexCast v819
  let c0_646 : Index := 0#32
  ![v820.toNat, 0]

def k0_chk118 (v819 : BitVec 32) : Prop :=
  (∀ a, (k0_off119 v819) a + S1x136.size a ≤ S20008x136.size a)
theorem k0_off119_inb : ∀ (v819 : BitVec 32) (k0_hw118 : k0_chk118 v819), ∀ a, (k0_off119 v819) a + S1x136.size a ≤ S20008x136.size a := fun v819 k0_hw118 => k0_hw118

def k0_off120 (v826 : BitVec 32) : Fin 2 → Nat :=
  let v827 : Index := Scalar.indexCast v826
  let c0_651 : Index := 0#32
  ![v827.toNat, 0]

def k0_chk119 (v826 : BitVec 32) : Prop :=
  (∀ a, (k0_off120 v826) a + S1x136.size a ≤ S20008x136.size a)
theorem k0_off120_inb : ∀ (v826 : BitVec 32) (k0_hw119 : k0_chk119 v826), ∀ a, (k0_off120 v826) a + S1x136.size a ≤ S20008x136.size a := fun v826 k0_hw119 => k0_hw119

def k0_off121 (v833 : BitVec 32) : Fin 2 → Nat :=
  let v834 : Index := Scalar.indexCast v833
  let c0_657 : Index := 0#32
  ![v834.toNat, 0]

def k0_chk120 (v833 : BitVec 32) : Prop :=
  (∀ a, (k0_off121 v833) a + S1x136.size a ≤ S20008x136.size a)
theorem k0_off121_inb : ∀ (v833 : BitVec 32) (k0_hw120 : k0_chk120 v833), ∀ a, (k0_off121 v833) a + S1x136.size a ≤ S20008x136.size a := fun v833 k0_hw120 => k0_hw120

def k0_off122 (v840 : BitVec 32) : Fin 2 → Nat :=
  let v841 : Index := Scalar.indexCast v840
  let c0_662 : Index := 0#32
  ![v841.toNat, 0]

def k0_chk121 (v840 : BitVec 32) : Prop :=
  (∀ a, (k0_off122 v840) a + S1x136.size a ≤ S20008x136.size a)
theorem k0_off122_inb : ∀ (v840 : BitVec 32) (k0_hw121 : k0_chk121 v840), ∀ a, (k0_off122 v840) a + S1x136.size a ≤ S20008x136.size a := fun v840 k0_hw121 => k0_hw121

def k0_off123 (v847 : BitVec 32) : Fin 2 → Nat :=
  let v848 : Index := Scalar.indexCast v847
  let c0_668 : Index := 0#32
  ![v848.toNat, 0]

def k0_chk122 (v847 : BitVec 32) : Prop :=
  (∀ a, (k0_off123 v847) a + S1x136.size a ≤ S20008x136.size a)
theorem k0_off123_inb : ∀ (v847 : BitVec 32) (k0_hw122 : k0_chk122 v847), ∀ a, (k0_off123 v847) a + S1x136.size a ≤ S20008x136.size a := fun v847 k0_hw122 => k0_hw122

def k0_off124 (v854 : BitVec 32) : Fin 2 → Nat :=
  let v855 : Index := Scalar.indexCast v854
  let c0_673 : Index := 0#32
  ![v855.toNat, 0]

def k0_chk123 (v854 : BitVec 32) : Prop :=
  (∀ a, (k0_off124 v854) a + S1x136.size a ≤ S20008x136.size a)
theorem k0_off124_inb : ∀ (v854 : BitVec 32) (k0_hw123 : k0_chk123 v854), ∀ a, (k0_off124 v854) a + S1x136.size a ≤ S20008x136.size a := fun v854 k0_hw123 => k0_hw123

def k0_off125 (v861 : BitVec 32) : Fin 2 → Nat :=
  let v862 : Index := Scalar.indexCast v861
  let c0_679 : Index := 0#32
  ![v862.toNat, 0]

def k0_chk124 (v861 : BitVec 32) : Prop :=
  (∀ a, (k0_off125 v861) a + S1x136.size a ≤ S20008x136.size a)
theorem k0_off125_inb : ∀ (v861 : BitVec 32) (k0_hw124 : k0_chk124 v861), ∀ a, (k0_off125 v861) a + S1x136.size a ≤ S20008x136.size a := fun v861 k0_hw124 => k0_hw124

def k0_off126 (v868 : BitVec 32) : Fin 2 → Nat :=
  let v869 : Index := Scalar.indexCast v868
  let c0_684 : Index := 0#32
  ![v869.toNat, 0]

def k0_chk125 (v868 : BitVec 32) : Prop :=
  (∀ a, (k0_off126 v868) a + S1x136.size a ≤ S20008x136.size a)
theorem k0_off126_inb : ∀ (v868 : BitVec 32) (k0_hw125 : k0_chk125 v868), ∀ a, (k0_off126 v868) a + S1x136.size a ≤ S20008x136.size a := fun v868 k0_hw125 => k0_hw125

def k0_off127 (v875 : BitVec 32) : Fin 2 → Nat :=
  let v876 : Index := Scalar.indexCast v875
  let c0_690 : Index := 0#32
  ![v876.toNat, 0]

def k0_chk126 (v875 : BitVec 32) : Prop :=
  (∀ a, (k0_off127 v875) a + S1x136.size a ≤ S20008x136.size a)
theorem k0_off127_inb : ∀ (v875 : BitVec 32) (k0_hw126 : k0_chk126 v875), ∀ a, (k0_off127 v875) a + S1x136.size a ≤ S20008x136.size a := fun v875 k0_hw126 => k0_hw126

def k0_off128 (v882 : BitVec 32) : Fin 2 → Nat :=
  let v883 : Index := Scalar.indexCast v882
  let c0_695 : Index := 0#32
  ![v883.toNat, 0]

def k0_chk127 (v882 : BitVec 32) : Prop :=
  (∀ a, (k0_off128 v882) a + S1x136.size a ≤ S20008x136.size a)
theorem k0_off128_inb : ∀ (v882 : BitVec 32) (k0_hw127 : k0_chk127 v882), ∀ a, (k0_off128 v882) a + S1x136.size a ≤ S20008x136.size a := fun v882 k0_hw127 => k0_hw127

def k0_off129 (v889 : BitVec 32) : Fin 2 → Nat :=
  let v890 : Index := Scalar.indexCast v889
  let c0_701 : Index := 0#32
  ![v890.toNat, 0]

def k0_chk128 (v889 : BitVec 32) : Prop :=
  (∀ a, (k0_off129 v889) a + S1x136.size a ≤ S20008x136.size a)
theorem k0_off129_inb : ∀ (v889 : BitVec 32) (k0_hw128 : k0_chk128 v889), ∀ a, (k0_off129 v889) a + S1x136.size a ≤ S20008x136.size a := fun v889 k0_hw128 => k0_hw128

def cc0_transform_0 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20008x136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20008x136 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "eye_scale" => some (((Real.sqrt 128)⁻¹ : ℝ) : EReal)
  | _ => none
-- ==== ReferenceIdeal.lean ====
abbrev S256 : Shape := ⟨1, ![256]⟩
abbrev S512x64 : Shape := ⟨2, ![512, 64]⟩
abbrev S20000x128 : Shape := ⟨2, ![20000, 128]⟩
abbrev S20000 : Shape := ⟨1, ![20000]⟩
abbrev S_ : Shape := ⟨0, ![]⟩
abbrev S256x1 : Shape := ⟨2, ![256, 1]⟩
abbrev S1 : Shape := ⟨1, ![1]⟩
abbrev S1x1 : Shape := ⟨2, ![1, 1]⟩
abbrev S256x64 : Shape := ⟨2, ![256, 64]⟩
abbrev S1x128 : Shape := ⟨2, ![1, 128]⟩
abbrev S20001x128 : Shape := ⟨2, ![20001, 128]⟩
abbrev S256x64x1 : Shape := ⟨3, ![256, 64, 1]⟩
abbrev S1x1x1 : Shape := ⟨3, ![1, 1, 1]⟩
abbrev S256x64x128 : Shape := ⟨3, ![256, 64, 128]⟩
abbrev S20001 : Shape := ⟨1, ![20001]⟩
abbrev S256x64x64 : Shape := ⟨3, ![256, 64, 64]⟩
abbrev S256x1x64 : Shape := ⟨3, ![256, 1, 64]⟩

abbrev nBuf : Space → Nat
  | .hbm => 266
  | .vmem => 0
  | .smem => 0
  | _ => 0

abbrev hbmTy0_0 (i : Nat) : BufTy := match i % 128 with
  | 0 => ⟨S256, .i32⟩
  | 1 => ⟨S256, .i32⟩
  | 2 => ⟨S512x64, .i32⟩
  | 3 => ⟨S512x64, .i32⟩
  | 4 => ⟨S20000x128, .f32⟩
  | 5 => ⟨S20000x128, .f32⟩
  | 6 => ⟨S20000, .f32⟩
  | 7 => ⟨S20000, .f32⟩
  | 8 => ⟨S_, .i32⟩
  | 9 => ⟨S512x64, .i32⟩
  | 10 => ⟨S512x64, .i1⟩
  | 11 => ⟨S_, .i32⟩
  | 12 => ⟨S512x64, .i32⟩
  | 13 => ⟨S512x64, .i1⟩
  | 14 => ⟨S_, .i32⟩
  | 15 => ⟨S256, .i32⟩
  | 16 => ⟨S256, .i1⟩
  | 17 => ⟨S_, .i32⟩
  | 18 => ⟨S256, .i32⟩
  | 19 => ⟨S256, .i32⟩
  | 20 => ⟨S256, .i32⟩
  | 21 => ⟨S256x1, .i32⟩
  | 22 => ⟨S1, .i32⟩
  | 23 => ⟨S_, .i32⟩
  | 24 => ⟨S256x1, .i32⟩
  | 25 => ⟨S256x1, .i1⟩
  | 26 => ⟨S1x1, .i32⟩
  | 27 => ⟨S256x1, .i32⟩
  | 28 => ⟨S256x1, .i1⟩
  | 29 => ⟨S256x1, .i1⟩
  | 30 => ⟨S_, .i1⟩
  | 31 => ⟨S256, .i1⟩
  | 32 => ⟨S256x64, .i32⟩
  | 33 => ⟨S256x64, .i1⟩
  | 34 => ⟨S_, .i32⟩
  | 35 => ⟨S256x64, .i32⟩
  | 36 => ⟨S256x64, .i32⟩
  | 37 => ⟨S_, .i32⟩
  | 38 => ⟨S256, .i32⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S1, .i32⟩
  | 46 => ⟨S_, .i32⟩
  | 47 => ⟨S256x1, .i32⟩
  | 48 => ⟨S256x1, .i1⟩
  | 49 => ⟨S1x1, .i32⟩
  | 50 => ⟨S256x1, .i32⟩
  | 51 => ⟨S256x1, .i1⟩
  | 52 => ⟨S256x1, .i1⟩
  | 53 => ⟨S_, .i1⟩
  | 54 => ⟨S256, .i1⟩
  | 55 => ⟨S256x64, .i32⟩
  | 56 => ⟨S256x64, .i1⟩
  | 57 => ⟨S_, .i32⟩
  | 58 => ⟨S256x64, .i32⟩
  | 59 => ⟨S256x64, .i32⟩
  | 60 => ⟨S_, .i32⟩
  | 61 => ⟨S256, .i32⟩
  | 62 => ⟨S256, .i1⟩
  | 63 => ⟨S_, .i32⟩
  | 64 => ⟨S256, .i32⟩
  | 65 => ⟨S256, .i32⟩
  | 66 => ⟨S256, .i32⟩
  | 67 => ⟨S256x1, .i32⟩
  | 68 => ⟨S1, .i32⟩
  | 69 => ⟨S_, .i32⟩
  | 70 => ⟨S256x1, .i32⟩
  | 71 => ⟨S256x1, .i1⟩
  | 72 => ⟨S1x1, .i32⟩
  | 73 => ⟨S256x1, .i32⟩
  | 74 => ⟨S256x1, .i1⟩
  | 75 => ⟨S256x1, .i1⟩
  | 76 => ⟨S_, .i1⟩
  | 77 => ⟨S256, .i1⟩
  | 78 => ⟨S256x64, .i1⟩
  | 79 => ⟨S256x64, .i1⟩
  | 80 => ⟨S_, .i1⟩
  | 81 => ⟨S256x64, .i1⟩
  | 82 => ⟨S256x64, .i1⟩
  | 83 => ⟨S_, .i32⟩
  | 84 => ⟨S256, .i32⟩
  | 85 => ⟨S256, .i1⟩
  | 86 => ⟨S_, .i32⟩
  | 87 => ⟨S256, .i32⟩
  | 88 => ⟨S256, .i32⟩
  | 89 => ⟨S256, .i32⟩
  | 90 => ⟨S256x1, .i32⟩
  | 91 => ⟨S1, .i32⟩
  | 92 => ⟨S_, .i32⟩
  | 93 => ⟨S256x1, .i32⟩
  | 94 => ⟨S256x1, .i1⟩
  | 95 => ⟨S1x1, .i32⟩
  | 96 => ⟨S256x1, .i32⟩
  | 97 => ⟨S256x1, .i1⟩
  | 98 => ⟨S256x1, .i1⟩
  | 99 => ⟨S_, .i1⟩
  | 100 => ⟨S256, .i1⟩
  | 101 => ⟨S256x64, .i1⟩
  | 102 => ⟨S256x64, .i1⟩
  | 103 => ⟨S_, .i1⟩
  | 104 => ⟨S256x64, .i1⟩
  | 105 => ⟨S256x64, .i1⟩
  | 106 => ⟨S1x128, .f32⟩
  | 107 => ⟨S_, .f32⟩
  | 108 => ⟨S1x128, .f32⟩
  | 109 => ⟨S20001x128, .f32⟩
  | 110 => ⟨S1x128, .f32⟩
  | 111 => ⟨S_, .f32⟩
  | 112 => ⟨S1x128, .f32⟩
  | 113 => ⟨S20001x128, .f32⟩
  | 114 => ⟨S_, .i32⟩
  | 115 => ⟨S256x64, .i32⟩
  | 116 => ⟨S256x64, .i1⟩
  | 117 => ⟨S_, .i32⟩
  | 118 => ⟨S256x64, .i32⟩
  | 119 => ⟨S256x64, .i32⟩
  | 120 => ⟨S256x64, .i32⟩
  | 121 => ⟨S256x64x1, .i32⟩
  | 122 => ⟨S1, .i32⟩
  | 123 => ⟨S_, .i32⟩
  | 124 => ⟨S256x64x1, .i32⟩
  | 125 => ⟨S256x64x1, .i1⟩
  | 126 => ⟨S1x1x1, .i32⟩
  | 127 => ⟨S256x64x1, .i32⟩
  | _ => ⟨S256, .i32⟩

abbrev hbmTy0_1 (i : Nat) : BufTy := match i % 128 with
  | 0 => ⟨S256x64x1, .i1⟩
  | 1 => ⟨S256x64x1, .i1⟩
  | 2 => ⟨S_, .i1⟩
  | 3 => ⟨S256x64, .i1⟩
  | 4 => ⟨S256x64x128, .f32⟩
  | 5 => ⟨S256x64x128, .i1⟩
  | 6 => ⟨S_, .f32⟩
  | 7 => ⟨S256x64x128, .f32⟩
  | 8 => ⟨S256x64x128, .f32⟩
  | 9 => ⟨S_, .i32⟩
  | 10 => ⟨S256x64, .i32⟩
  | 11 => ⟨S256x64, .i1⟩
  | 12 => ⟨S_, .i32⟩
  | 13 => ⟨S256x64, .i32⟩
  | 14 => ⟨S256x64, .i32⟩
  | 15 => ⟨S256x64, .i32⟩
  | 16 => ⟨S256x64x1, .i32⟩
  | 17 => ⟨S1, .i32⟩
  | 18 => ⟨S_, .i32⟩
  | 19 => ⟨S256x64x1, .i32⟩
  | 20 => ⟨S256x64x1, .i1⟩
  | 21 => ⟨S1x1x1, .i32⟩
  | 22 => ⟨S256x64x1, .i32⟩
  | 23 => ⟨S256x64x1, .i1⟩
  | 24 => ⟨S256x64x1, .i1⟩
  | 25 => ⟨S_, .i1⟩
  | 26 => ⟨S256x64, .i1⟩
  | 27 => ⟨S256x64x128, .f32⟩
  | 28 => ⟨S256x64x128, .i1⟩
  | 29 => ⟨S_, .f32⟩
  | 30 => ⟨S256x64x128, .f32⟩
  | 31 => ⟨S256x64x128, .f32⟩
  | 32 => ⟨S1, .f32⟩
  | 33 => ⟨S_, .f32⟩
  | 34 => ⟨S1, .f32⟩
  | 35 => ⟨S20001, .f32⟩
  | 36 => ⟨S1, .f32⟩
  | 37 => ⟨S_, .f32⟩
  | 38 => ⟨S1, .f32⟩
  | 39 => ⟨S20001, .f32⟩
  | 40 => ⟨S_, .i32⟩
  | 41 => ⟨S256x64, .i32⟩
  | 42 => ⟨S256x64, .i1⟩
  | 43 => ⟨S_, .i32⟩
  | 44 => ⟨S256x64, .i32⟩
  | 45 => ⟨S256x64, .i32⟩
  | 46 => ⟨S256x64, .i32⟩
  | 47 => ⟨S256x64x1, .i32⟩
  | 48 => ⟨S1, .i32⟩
  | 49 => ⟨S_, .i32⟩
  | 50 => ⟨S256x64x1, .i32⟩
  | 51 => ⟨S256x64x1, .i1⟩
  | 52 => ⟨S1x1x1, .i32⟩
  | 53 => ⟨S256x64x1, .i32⟩
  | 54 => ⟨S256x64x1, .i1⟩
  | 55 => ⟨S256x64x1, .i1⟩
  | 56 => ⟨S_, .i1⟩
  | 57 => ⟨S256x64, .i1⟩
  | 58 => ⟨S256x64, .f32⟩
  | 59 => ⟨S_, .f32⟩
  | 60 => ⟨S256x64, .f32⟩
  | 61 => ⟨S256x64, .f32⟩
  | 62 => ⟨S_, .i32⟩
  | 63 => ⟨S256x64, .i32⟩
  | 64 => ⟨S256x64, .i1⟩
  | 65 => ⟨S_, .i32⟩
  | 66 => ⟨S256x64, .i32⟩
  | 67 => ⟨S256x64, .i32⟩
  | 68 => ⟨S256x64, .i32⟩
  | 69 => ⟨S256x64x1, .i32⟩
  | 70 => ⟨S1, .i32⟩
  | 71 => ⟨S_, .i32⟩
  | 72 => ⟨S256x64x1, .i32⟩
  | 73 => ⟨S256x64x1, .i1⟩
  | 74 => ⟨S1x1x1, .i32⟩
  | 75 => ⟨S256x64x1, .i32⟩
  | 76 => ⟨S256x64x1, .i1⟩
  | 77 => ⟨S256x64x1, .i1⟩
  | 78 => ⟨S_, .i1⟩
  | 79 => ⟨S256x64, .i1⟩
  | 80 => ⟨S256x64, .f32⟩
  | 81 => ⟨S_, .f32⟩
  | 82 => ⟨S256x64, .f32⟩
  | 83 => ⟨S256x64, .f32⟩
  | 84 => ⟨S256x64x64, .f32⟩
  | 85 => ⟨S_, .f32⟩
  | 86 => ⟨S_, .f32⟩
  | 87 => ⟨S_, .f32⟩
  | 88 => ⟨S256x64x64, .f32⟩
  | 89 => ⟨S256x64x64, .f32⟩
  | 90 => ⟨S256x64x1, .i1⟩
  | 91 => ⟨S256x1x64, .i1⟩
  | 92 => ⟨S256x64x64, .i1⟩
  | 93 => ⟨S256x64x64, .i1⟩
  | 94 => ⟨S256x64x64, .i1⟩
  | 95 => ⟨S_, .f32⟩
  | 96 => ⟨S_, .f32⟩
  | 97 => ⟨S256x64x64, .f32⟩
  | 98 => ⟨S256x64x64, .f32⟩
  | 99 => ⟨S_, .f32⟩
  | 100 => ⟨S256x64, .f32⟩
  | 101 => ⟨S_, .f32⟩
  | 102 => ⟨S256x64, .f32⟩
  | 103 => ⟨S256x64, .f32⟩
  | 104 => ⟨S256x64x1, .f32⟩
  | 105 => ⟨S256x64x64, .f32⟩
  | 106 => ⟨S256x64x64, .f32⟩
  | 107 => ⟨S256x64x64, .f32⟩
  | 108 => ⟨S_, .f32⟩
  | 109 => ⟨S256x64, .f32⟩
  | 110 => ⟨S256x64x1, .f32⟩
  | 111 => ⟨S256x64x64, .f32⟩
  | 112 => ⟨S256x64x64, .f32⟩
  | 113 => ⟨S_, .f32⟩
  | 114 => ⟨S256x64, .f32⟩
  | 115 => ⟨S_, .f32⟩
  | 116 => ⟨S256x64, .f32⟩
  | 117 => ⟨S256x64, .f32⟩
  | 118 => ⟨S256x1x64, .f32⟩
  | 119 => ⟨S256x64x64, .f32⟩
  | 120 => ⟨S256x64x64, .f32⟩
  | 121 => ⟨S256x64x64, .f32⟩
  | 122 => ⟨S_, .f32⟩
  | 123 => ⟨S256x64, .f32⟩
  | 124 => ⟨S256x1x64, .f32⟩
  | 125 => ⟨S256x64x64, .f32⟩
  | 126 => ⟨S256x64x64, .f32⟩
  | 127 => ⟨S256x64x64, .f32⟩
  | _ => ⟨S256, .i32⟩

abbrev hbmTy0_2 (i : Nat) : BufTy := match i % 128 with
  | 0 => ⟨S256x64x1, .f32⟩
  | 1 => ⟨S256x64x64, .f32⟩
  | 2 => ⟨S256x64x64, .f32⟩
  | 3 => ⟨S256x1x64, .f32⟩
  | 4 => ⟨S256x64x64, .f32⟩
  | 5 => ⟨S256x64x64, .f32⟩
  | 6 => ⟨S_, .f32⟩
  | 7 => ⟨S_, .f32⟩
  | 8 => ⟨S256x64x64, .f32⟩
  | 9 => ⟨S256x64x64, .f32⟩
  | _ => ⟨S256, .i32⟩

abbrev hbmTy (i : Nat) : BufTy := match i / 128 with
  | 0 => hbmTy0_0 i
  | 1 => hbmTy0_1 i
  | 2 => hbmTy0_2 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_c_4 : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_c_4 : Ref sig .tc := ⟨.hbm, 57, rfl⟩
abbrev main_call1_v15 : Ref sig .tc := ⟨.hbm, 58, rfl⟩
abbrev main_v5 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_c_4 : Ref sig .tc := ⟨.hbm, 80, rfl⟩
abbrev main_call2_v15 : Ref sig .tc := ⟨.hbm, 81, rfl⟩
abbrev main_v6 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_c_4 : Ref sig .tc := ⟨.hbm, 103, rfl⟩
abbrev main_call3_v15 : Ref sig .tc := ⟨.hbm, 104, rfl⟩
abbrev main_v7 : Ref sig .tc := ⟨.hbm, 105, rfl⟩
abbrev main_v8 : Ref sig .tc := ⟨.hbm, 106, rfl⟩
abbrev main_cst : Ref sig .tc := ⟨.hbm, 107, rfl⟩
abbrev main_v9 : Ref sig .tc := ⟨.hbm, 108, rfl⟩
abbrev main_v10 : Ref sig .tc := ⟨.hbm, 109, rfl⟩
abbrev main_v11 : Ref sig .tc := ⟨.hbm, 110, rfl⟩
abbrev main_cst_1 : Ref sig .tc := ⟨.hbm, 111, rfl⟩
abbrev main_v12 : Ref sig .tc := ⟨.hbm, 112, rfl⟩
abbrev main_v13 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v14 : Ref sig .tc := ⟨.hbm, 136, rfl⟩
abbrev main_call5_c : Ref sig .tc := ⟨.hbm, 137, rfl⟩
abbrev main_call5_v0 : Ref sig .tc := ⟨.hbm, 138, rfl⟩
abbrev main_call5_v1 : Ref sig .tc := ⟨.hbm, 139, rfl⟩
abbrev main_call5_c_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_c_1 : Ref sig .tc := ⟨.hbm, 145, rfl⟩
abbrev main_call5_c_2 : Ref sig .tc := ⟨.hbm, 146, rfl⟩
abbrev main_call5_v6 : Ref sig .tc := ⟨.hbm, 147, rfl⟩
abbrev main_call5_v7 : Ref sig .tc := ⟨.hbm, 148, rfl⟩
abbrev main_call5_v8 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_c_3 : Ref sig .tc := ⟨.hbm, 153, rfl⟩
abbrev main_call5_v12 : Ref sig .tc := ⟨.hbm, 154, rfl⟩
abbrev main_call5_v13 : Ref sig .tc := ⟨.hbm, 155, rfl⟩
abbrev main_call5_v14 : Ref sig .tc := ⟨.hbm, 156, rfl⟩
abbrev main_call5_cst : Ref sig .tc := ⟨.hbm, 157, rfl⟩
abbrev main_call5_v15 : Ref sig .tc := ⟨.hbm, 158, rfl⟩
abbrev main_v15 : Ref sig .tc := ⟨.hbm, 159, rfl⟩
abbrev main_v16 : Ref sig .tc := ⟨.hbm, 160, rfl⟩
abbrev main_cst_2 : Ref sig .tc := ⟨.hbm, 161, rfl⟩
abbrev main_v17 : Ref sig .tc := ⟨.hbm, 162, rfl⟩
abbrev main_v18 : Ref sig .tc := ⟨.hbm, 163, rfl⟩
abbrev main_v19 : Ref sig .tc := ⟨.hbm, 164, rfl⟩
abbrev main_cst_3 : Ref sig .tc := ⟨.hbm, 165, rfl⟩
abbrev main_v20 : Ref sig .tc := ⟨.hbm, 166, rfl⟩
abbrev main_v21 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_cst : Ref sig .tc := ⟨.hbm, 187, rfl⟩
abbrev main_call6_v14 : Ref sig .tc := ⟨.hbm, 188, rfl⟩
abbrev main_v22 : Ref sig .tc := ⟨.hbm, 189, rfl⟩
abbrev main_call7_c : Ref sig .tc := ⟨.hbm, 190, rfl⟩
abbrev main_call7_v0 : Ref sig .tc := ⟨.hbm, 191, rfl⟩
abbrev main_call7_v1 : Ref sig .tc := ⟨.hbm, 192, rfl⟩
abbrev main_call7_c_0 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_call7_v5 : Ref sig .tc := ⟨.hbm, 197, rfl⟩
abbrev main_call7_c_1 : Ref sig .tc := ⟨.hbm, 198, rfl⟩
abbrev main_call7_c_2 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_call7_v11 : Ref sig .tc := ⟨.hbm, 205, rfl⟩
abbrev main_call7_c_3 : Ref sig .tc := ⟨.hbm, 206, rfl⟩
abbrev main_call7_v12 : Ref sig .tc := ⟨.hbm, 207, rfl⟩
abbrev main_call7_v13 : Ref sig .tc := ⟨.hbm, 208, rfl⟩
abbrev main_call7_cst : Ref sig .tc := ⟨.hbm, 209, rfl⟩
abbrev main_call7_v14 : Ref sig .tc := ⟨.hbm, 210, rfl⟩
abbrev main_v23 : Ref sig .tc := ⟨.hbm, 211, rfl⟩
abbrev main_v24 : Ref sig .tc := ⟨.hbm, 212, rfl⟩
abbrev main_cst_4 : Ref sig .tc := ⟨.hbm, 213, rfl⟩
abbrev main_v25 : Ref sig .tc := ⟨.hbm, 214, rfl⟩
abbrev main_v26 : Ref sig .tc := ⟨.hbm, 215, rfl⟩
abbrev main_v27 : Ref sig .tc := ⟨.hbm, 216, rfl⟩
abbrev main_v28 : Ref sig .tc := ⟨.hbm, 217, rfl⟩
abbrev main_v29 : Ref sig .tc := ⟨.hbm, 218, rfl⟩
abbrev main_v30 : Ref sig .tc := ⟨.hbm, 219, rfl⟩
abbrev main_v31 : Ref sig .tc := ⟨.hbm, 220, rfl⟩
abbrev main_v32 : Ref sig .tc := ⟨.hbm, 221, rfl⟩
abbrev main_v33 : Ref sig .tc := ⟨.hbm, 222, rfl⟩
abbrev main_cst_5 : Ref sig .tc := ⟨.hbm, 223, rfl⟩
abbrev main_call8_v0 : Ref sig .tc := ⟨.hbm, 224, rfl⟩
abbrev main_call8_v1 : Ref sig .tc := ⟨.hbm, 225, rfl⟩
abbrev main_v34 : Ref sig .tc := ⟨.hbm, 226, rfl⟩
abbrev main_cst_6 : Ref sig .tc := ⟨.hbm, 227, rfl⟩
abbrev main_v35 : Ref sig .tc := ⟨.hbm, 228, rfl⟩
abbrev main_cst_7 : Ref sig .tc := ⟨.hbm, 229, rfl⟩
abbrev main_v36 : Ref sig .tc := ⟨.hbm, 230, rfl⟩
abbrev main_v37 : Ref sig .tc := ⟨.hbm, 231, rfl⟩
abbrev main_v38 : Ref sig .tc := ⟨.hbm, 232, rfl⟩
abbrev main_v39 : Ref sig .tc := ⟨.hbm, 233, rfl⟩
abbrev main_v40 : Ref sig .tc := ⟨.hbm, 234, rfl⟩
abbrev main_v41 : Ref sig .tc := ⟨.hbm, 235, rfl⟩
abbrev main_cst_8 : Ref sig .tc := ⟨.hbm, 236, rfl⟩
abbrev main_v42 : Ref sig .tc := ⟨.hbm, 237, rfl⟩
abbrev main_v43 : Ref sig .tc := ⟨.hbm, 238, rfl⟩
abbrev main_v44 : Ref sig .tc := ⟨.hbm, 239, rfl⟩
abbrev main_v45 : Ref sig .tc := ⟨.hbm, 240, rfl⟩
abbrev main_cst_9 : Ref sig .tc := ⟨.hbm, 241, rfl⟩
abbrev main_v46 : Ref sig .tc := ⟨.hbm, 242, rfl⟩
abbrev main_cst_10 : Ref sig .tc := ⟨.hbm, 243, rfl⟩
abbrev main_v47 : Ref sig .tc := ⟨.hbm, 244, rfl⟩
abbrev main_v48 : Ref sig .tc := ⟨.hbm, 245, rfl⟩
abbrev main_v49 : Ref sig .tc := ⟨.hbm, 246, rfl⟩
abbrev main_v50 : Ref sig .tc := ⟨.hbm, 247, rfl⟩
abbrev main_v51 : Ref sig .tc := ⟨.hbm, 248, rfl⟩
abbrev main_v52 : Ref sig .tc := ⟨.hbm, 249, rfl⟩
abbrev main_cst_11 : Ref sig .tc := ⟨.hbm, 250, rfl⟩
abbrev main_v53 : Ref sig .tc := ⟨.hbm, 251, rfl⟩
abbrev main_v54 : Ref sig .tc := ⟨.hbm, 252, rfl⟩
abbrev main_v55 : Ref sig .tc := ⟨.hbm, 253, rfl⟩
abbrev main_v56 : Ref sig .tc := ⟨.hbm, 254, rfl⟩
abbrev main_v57 : Ref sig .tc := ⟨.hbm, 255, rfl⟩
abbrev main_v58 : Ref sig .tc := ⟨.hbm, 256, rfl⟩
abbrev main_v59 : Ref sig .tc := ⟨.hbm, 257, rfl⟩
abbrev main_v60 : Ref sig .tc := ⟨.hbm, 258, rfl⟩
abbrev main_v61 : Ref sig .tc := ⟨.hbm, 259, rfl⟩
abbrev main_v62 : Ref sig .tc := ⟨.hbm, 260, rfl⟩
abbrev main_v63 : Ref sig .tc := ⟨.hbm, 261, rfl⟩
abbrev main_cst_12 : Ref sig .tc := ⟨.hbm, 262, rfl⟩
abbrev main_call9_v0 : Ref sig .tc := ⟨.hbm, 263, rfl⟩
abbrev main_call9_v1 : Ref sig .tc := ⟨.hbm, 264, rfl⟩
abbrev main_v64 : Ref sig .tc := ⟨.hbm, 265, rfl⟩

abbrev nD : Nat := 1
abbrev τ : Topo := Topo.v7x

variable {F : FTy → Type} [FloatOps F]
-- ==== Kernel2.lean ====
abbrev S20000x3 : Shape := ⟨2, ![20000, 3]⟩
abbrev S512x3 : Shape := ⟨2, ![512, 3]⟩
abbrev S_ : Shape := ⟨0, ![]⟩
abbrev S20000x8 : Shape := ⟨2, ![20000, 8]⟩
abbrev S512x8 : Shape := ⟨2, ![512, 8]⟩
abbrev S8x512 : Shape := ⟨2, ![8, 512]⟩
abbrev S10x1x2000 : Shape := ⟨3, ![10, 1, 2000]⟩
abbrev S2000x8 : Shape := ⟨2, ![2000, 8]⟩
abbrev S1x1x2000 : Shape := ⟨3, ![1, 1, 2000]⟩
abbrev S2000x512 : Shape := ⟨2, ![2000, 512]⟩
abbrev S2000 : Shape := ⟨1, ![2000]⟩
abbrev S512 : Shape := ⟨1, ![512]⟩
abbrev S2000x1 : Shape := ⟨2, ![2000, 1]⟩
abbrev S1x512 : Shape := ⟨2, ![1, 512]⟩
abbrev S1x20000 : Shape := ⟨2, ![1, 20000]⟩

abbrev nBuf : Space → Nat
  | .hbm => 13
  | .vmem => 7
  | .smem => 0
  | _ => 0

abbrev bufTy : (tb : Table) → Fin (tcTables nBuf tb) → BufTy
  | .hbm, ⟨0, _⟩ => ⟨S20000x3, .f32⟩
  | .hbm, ⟨1, _⟩ => ⟨S512x3, .f32⟩
  | .hbm, ⟨2, _⟩ => ⟨S_, .i32⟩
  | .hbm, ⟨3, _⟩ => ⟨S_, .f32⟩
  | .hbm, ⟨4, _⟩ => ⟨S20000x8, .f32⟩
  | .hbm, ⟨5, _⟩ => ⟨S_, .i32⟩
  | .hbm, ⟨6, _⟩ => ⟨S_, .f32⟩
  | .hbm, ⟨7, _⟩ => ⟨S512x8, .f32⟩
  | .hbm, ⟨8, _⟩ => ⟨S8x512, .f32⟩
  | .hbm, ⟨9, _⟩ => ⟨S10x1x2000, .i32⟩
  | .hbm, ⟨10, _⟩ => ⟨S10x1x2000, .f32⟩
  | .hbm, ⟨11, _⟩ => ⟨S1x20000, .i32⟩
  | .hbm, ⟨12, _⟩ => ⟨S1x20000, .f32⟩
  | .local _ .vmem, ⟨0, _⟩ => ⟨S2000x8, .f32⟩
  | .local _ .vmem, ⟨1, _⟩ => ⟨S2000x8, .f32⟩
  | .local _ .vmem, ⟨2, _⟩ => ⟨S8x512, .f32⟩
  | .local _ .vmem, ⟨3, _⟩ => ⟨S1x1x2000, .i32⟩
  | .local _ .vmem, ⟨4, _⟩ => ⟨S1x1x2000, .i32⟩
  | .local _ .vmem, ⟨5, _⟩ => ⟨S1x1x2000, .f32⟩
  | .local _ .vmem, ⟨6, _⟩ => ⟨S1x1x2000, .f32⟩
  | _, _ => ⟨S20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S20000x3 : Shape := ⟨2, ![20000, 3]⟩
abbrev S512x3 : Shape := ⟨2, ![512, 3]⟩
abbrev S_ : Shape := ⟨0, ![]⟩
abbrev S512 : Shape := ⟨1, ![512]⟩
abbrev S20000 : Shape := ⟨1, ![20000]⟩
abbrev S512x1 : Shape := ⟨2, ![512, 1]⟩
abbrev S1x20000 : Shape := ⟨2, ![1, 20000]⟩
abbrev S512x20000 : Shape := ⟨2, ![512, 20000]⟩
abbrev S3x20000 : Shape := ⟨2, ![3, 20000]⟩

abbrev nBuf : Space → Nat
  | .hbm => 31
  | .vmem => 0
  | .smem => 0
  | _ => 0

abbrev bufTy : (tb : Table) → Fin (tcTables nBuf tb) → BufTy
  | .hbm, ⟨0, _⟩ => ⟨S20000x3, .f32⟩
  | .hbm, ⟨1, _⟩ => ⟨S512x3, .f32⟩
  | .hbm, ⟨2, _⟩ => ⟨S512x3, .f32⟩
  | .hbm, ⟨3, _⟩ => ⟨S_, .f32⟩
  | .hbm, ⟨4, _⟩ => ⟨S512, .f32⟩
  | .hbm, ⟨5, _⟩ => ⟨S20000x3, .f32⟩
  | .hbm, ⟨6, _⟩ => ⟨S_, .f32⟩
  | .hbm, ⟨7, _⟩ => ⟨S20000, .f32⟩
  | .hbm, ⟨8, _⟩ => ⟨S512x1, .f32⟩
  | .hbm, ⟨9, _⟩ => ⟨S1x20000, .f32⟩
  | .hbm, ⟨10, _⟩ => ⟨S512x20000, .f32⟩
  | .hbm, ⟨11, _⟩ => ⟨S512x20000, .f32⟩
  | .hbm, ⟨12, _⟩ => ⟨S512x20000, .f32⟩
  | .hbm, ⟨13, _⟩ => ⟨S3x20000, .f32⟩
  | .hbm, ⟨14, _⟩ => ⟨S512x20000, .f32⟩
  | .hbm, ⟨15, _⟩ => ⟨S_, .f32⟩
  | .hbm, ⟨16, _⟩ => ⟨S512x20000, .f32⟩
  | .hbm, ⟨17, _⟩ => ⟨S512x20000, .f32⟩
  | .hbm, ⟨18, _⟩ => ⟨S512x20000, .f32⟩
  | .hbm, ⟨19, _⟩ => ⟨S_, .f32⟩
  | .hbm, ⟨20, _⟩ => ⟨S512x20000, .f32⟩
  | .hbm, ⟨21, _⟩ => ⟨S512x20000, .f32⟩
  | .hbm, ⟨22, _⟩ => ⟨S512x20000, .i32⟩
  | .hbm, ⟨23, _⟩ => ⟨S_, .f32⟩
  | .hbm, ⟨24, _⟩ => ⟨S_, .i32⟩
  | .hbm, ⟨25, _⟩ => ⟨S20000, .f32⟩
  | .hbm, ⟨26, _⟩ => ⟨S20000, .i32⟩
  | .hbm, ⟨27, _⟩ => ⟨S_, .f32⟩
  | .hbm, ⟨28, _⟩ => ⟨S20000, .f32⟩
  | .hbm, ⟨29, _⟩ => ⟨S1x20000, .i32⟩
  | .hbm, ⟨30, _⟩ => ⟨S1x20000, .f32⟩
  | _, _ => ⟨S20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel3.lean ====
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S1x256 : Shape := ⟨2, ![1, 256]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S1x1 : Shape := ⟨2, ![1, 1]⟩
abbrev S1x512x1 : Shape := ⟨3, ![1, 512, 1]⟩
abbrev S256 : Shape := ⟨1, ![256]⟩

abbrev nBuf : Space → Nat
  | .hbm => 12
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512, .i32⟩
  | .hbm, ⟨3, _⟩ => ⟨S512, .i32⟩
  | .hbm, ⟨4, _⟩ => ⟨S512x1, .i32⟩
  | .hbm, ⟨5, _⟩ => ⟨S1x512, .i32⟩
  | .hbm, ⟨6, _⟩ => ⟨S1x256, .i32⟩
  | .hbm, ⟨7, _⟩ => ⟨S1x256, .i32⟩
  | .hbm, ⟨8, _⟩ => ⟨S1x256, .f32⟩
  | .hbm, ⟨9, _⟩ => ⟨S256, .i32⟩
  | .hbm, ⟨10, _⟩ => ⟨S256, .i32⟩
  | .hbm, ⟨11, _⟩ => ⟨S256, .f32⟩
  | .local _ .vmem, ⟨0, _⟩ => ⟨S512x256, .f32⟩
  | .local _ .vmem, ⟨1, _⟩ => ⟨S512x256, .f32⟩
  | .local _ .vmem, ⟨2, _⟩ => ⟨S512x1, .i32⟩
  | .local _ .vmem, ⟨3, _⟩ => ⟨S1x512, .i32⟩
  | .local _ .vmem, ⟨4, _⟩ => ⟨S1x256, .i32⟩
  | .local _ .vmem, ⟨5, _⟩ => ⟨S1x256, .i32⟩
  | .local _ .vmem, ⟨6, _⟩ => ⟨S1x256, .f32⟩
  | .local _ .vmem, ⟨7, _⟩ => ⟨S512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_17 : BitVec 32 := 0#32
  let c256_i32 : BitVec 32 := 256#32
  let v48 : BitVec 32 := Scalar.addi c0_i32_17 c256_i32
  let c1_i32 : BitVec 32 := 1#32
  ⟨c0_i32_17, v48, c1_i32⟩
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference3Ideal.lean ====
abbrev S512x256 : Shape := ⟨2, ![512, 256]⟩
abbrev S512 : Shape := ⟨1, ![512]⟩
abbrev S_ : Shape := ⟨0, ![]⟩
abbrev S512x1 : Shape := ⟨2, ![512, 1]⟩
abbrev S256x512 : Shape := ⟨2, ![256, 512]⟩
abbrev S512x512 : Shape := ⟨2, ![512, 512]⟩
abbrev S1x512 : Shape := ⟨2, ![1, 512]⟩
abbrev S262144 : Shape := ⟨1, ![262144]⟩
abbrev S256 : Shape := ⟨1, ![256]⟩

abbrev nBuf : Space → Nat
  | .hbm => 96
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512, .i32⟩
  | .hbm, ⟨3, _⟩ => ⟨S512, .i32⟩
  | .hbm, ⟨4, _⟩ => ⟨S_, .i32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S512x256, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x256, .f32⟩
  | .hbm, ⟨29, _⟩ => ⟨S512x256, .f32⟩
  | .hbm, ⟨30, _⟩ => ⟨S256x512, .f32⟩
  | .hbm, ⟨31, _⟩ => ⟨S512x512, .f32⟩
  | .hbm, ⟨32, _⟩ => ⟨S512x512, .f32⟩
  | .hbm, ⟨33, _⟩ => ⟨S_, .f32⟩
  | .hbm, ⟨34, _⟩ => ⟨S512, .f32⟩
  | .hbm, ⟨35, _⟩ => ⟨S512x1, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S512x1, .i1⟩
  | .hbm, ⟨45, _⟩ => ⟨S1x512, .i1⟩
  | .hbm, ⟨46, _⟩ => ⟨S512x512, .i1⟩
  | .hbm, ⟨47, _⟩ => ⟨S512x512, .i1⟩
  | .hbm, ⟨48, _⟩ => ⟨S512x512, .i1⟩
  | .hbm, ⟨49, _⟩ => ⟨S_, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S262144, .f32⟩
  | .hbm, ⟨54, _⟩ => ⟨S256, .f32⟩
  | .hbm, ⟨55, _⟩ => ⟨S256, .i32⟩
  | .hbm, ⟨56, _⟩ => ⟨S_, .i32⟩
  | .hbm, ⟨57, _⟩ => ⟨S_, .i32⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S256, .i32⟩
  | .hbm, ⟨65, _⟩ => ⟨S256, .i32⟩
  | .hbm, ⟨66, _⟩ => ⟨S_, .i32⟩
  | .hbm, ⟨67, _⟩ => ⟨S256, .i32⟩
  | .hbm, ⟨68, _⟩ => ⟨S256, .i1⟩
  | .hbm, ⟨69, _⟩ => ⟨S256, .i1⟩
  | .hbm, ⟨70, _⟩ => ⟨S_, .i32⟩
  | .hbm, ⟨71, _⟩ => ⟨S256, .i32⟩
  | .hbm, ⟨72, _⟩ => ⟨S256, .i32⟩
  | .hbm, ⟨73, _⟩ => ⟨S256, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S256, .i32⟩
  | .hbm, ⟨81, _⟩ => ⟨S256, .i32⟩
  | .hbm, ⟨82, _⟩ => ⟨S_, .i32⟩
  | .hbm, ⟨83, _⟩ => ⟨S256, .i32⟩
  | .hbm, ⟨84, _⟩ => ⟨S256, .i1⟩
  | .hbm, ⟨85, _⟩ => ⟨S_, .i32⟩
  | .hbm, ⟨86, _⟩ => ⟨S256, .i32⟩
  | .hbm, ⟨87, _⟩ => ⟨S256, .i1⟩
  | .hbm, ⟨88, _⟩ => ⟨S_, .i32⟩
  | .hbm, ⟨89, _⟩ => ⟨S_, .i1⟩
  | .hbm, ⟨90, _⟩ => ⟨S256, .i1⟩
  | .hbm, ⟨91, _⟩ => ⟨S256, .i1⟩
  | .hbm, ⟨92, _⟩ => ⟨S256, .i1⟩
  | .hbm, ⟨93, _⟩ => ⟨S256, .i32⟩
  | .hbm, ⟨94, _⟩ => ⟨S256, .i32⟩
  | .hbm, ⟨95, _⟩ => ⟨S256, .i32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_call2_v0 : Ref sig .tc := ⟨.hbm, 50, rfl⟩
abbrev main_call2_v1 : Ref sig .tc := ⟨.hbm, 51, rfl⟩
abbrev main_v31 : Ref sig .tc := ⟨.hbm, 52, rfl⟩
abbrev main_v32 : Ref sig .tc := ⟨.hbm, 53, rfl⟩
abbrev main_values : Ref sig .tc := ⟨.hbm, 54, rfl⟩
abbrev main_indices : Ref sig .tc := ⟨.hbm, 55, rfl⟩
abbrev main_c_5 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_c : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_0 : Ref sig .tc := ⟨.hbm, 70, rfl⟩
abbrev main_call3_v12 : Ref sig .tc := ⟨.hbm, 71, rfl⟩
abbrev main_call3_v13 : Ref sig .tc := ⟨.hbm, 72, rfl⟩
abbrev main_v33 : Ref sig .tc := ⟨.hbm, 73, rfl⟩
abbrev main_c_6 : Ref sig .tc := ⟨.hbm, 74, rfl⟩
abbrev main_call4_v0 : Ref sig .tc := ⟨.hbm, 75, rfl⟩
abbrev main_call4_c : Ref sig .tc := ⟨.hbm, 76, rfl⟩
abbrev main_call4_v1 : Ref sig .tc := ⟨.hbm, 77, rfl⟩
abbrev main_call4_c_0 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_call4_c_1 : Ref sig .tc := ⟨.hbm, 82, rfl⟩
abbrev main_call4_v5 : Ref sig .tc := ⟨.hbm, 83, rfl⟩
abbrev main_call4_v6 : Ref sig .tc := ⟨.hbm, 84, rfl⟩
abbrev main_call4_c_2 : Ref sig .tc := ⟨.hbm, 85, rfl⟩
abbrev main_call4_v7 : Ref sig .tc := ⟨.hbm, 86, rfl⟩
abbrev main_call4_v8 : Ref sig .tc := ⟨.hbm, 87, rfl⟩
abbrev main_call4_c_3 : Ref sig .tc := ⟨.hbm, 88, rfl⟩
abbrev main_call4_v9 : Ref sig .tc := ⟨.hbm, 89, rfl⟩
abbrev main_call4_v10 : Ref sig .tc := ⟨.hbm, 90, rfl⟩
abbrev main_call4_v11 : Ref sig .tc := ⟨.hbm, 91, rfl⟩
abbrev main_call4_v12 : Ref sig .tc := ⟨.hbm, 92, rfl⟩
abbrev main_call4_v13 : Ref sig .tc := ⟨.hbm, 93, rfl⟩
abbrev main_call4_v14 : Ref sig .tc := ⟨.hbm, 94, rfl⟩
abbrev main_v34 : Ref sig .tc := ⟨.hbm, 95, rfl⟩

abbrev nD : Nat := 1
abbrev τ : Topo := Topo.v7x

variable {F : FTy → Type} [FloatOps F]
-- ==== Proof.Range.lean ====
/- What the precondition `indices_in_range` says of the four integer arguments, word by word. -/
module

public import Idealize.ShloMosaic.Lib.Pipeline.ValueKit
public import Idealize.ShloMosaic.Lib.ReduceAll
public import proofs.«01_k».proof.Pre_indices_in_range

@[expose] public section

namespace Cert.FineProof

open Idealize.ShloMosaic Cert.Pre_indices_in_range

/-- A signed word between zero and `n` (a small bound) reads a natural number at most `n`. -/
theorem toNat_le_of_signed (w : BitVec 32) (n : ℕ) (hn : n < 2 ^ 31)
    (h0 : IntOp.cmpi .sge w 0#32 = 1#1) (h1 : IntOp.cmpi .sle w (BitVec.ofNat 32 n) = 1#1) : w.toNat ≤ n := by
  have ofBool_eq_one (p : Bool) : (BitVec.ofBool p = 1#1) ↔ p = true := by cases p <;> decide
  simp only [IntOp.cmpi, ofBool_eq_one, BitVec.sle, decide_eq_true_eq, BitVec.toInt, BitVec.toNat_ofNat] at h0 h1
  omega

/-- A signed word from zero on and below `n` (a small bound) reads a natural number below `n`. -/
theorem toNat_lt_of_signed (w : BitVec 32) (n : ℕ) (hn : n < 2 ^ 31)
    (h0 : IntOp.cmpi .sge w 0#32 = 1#1) (h1 : IntOp.cmpi .slt w (BitVec.ofNat 32 n) = 1#1) : w.toNat < n := by
  have ofBool_eq_one (p : Bool) : (BitVec.ofBool p = 1#1) ↔ p = true := by cases p <;> decide
  simp only [IntOp.cmpi, ofBool_eq_one, BitVec.sle, BitVec.slt, decide_eq_true_eq, BitVec.toInt,
    BitVec.toNat_ofNat] at h0 h1
  omega

/-- The precondition, decoded: correspondences name one of the 512 patches, neighbour indices a row of the
    padded table (20000 names the row of zeros). -/
theorem inRange_of_fn {F : FTy → Type} [FloatOps F] [Facts] (a0 a1 : IVec S256 32) (a2 a3 : IVec S512x64 32)
    (a4 a5 : FVec F S20000x128 .f32) (a6 a7 : FVec F S20000 .f32)
    (h : fn (F := F) a0 a1 a2 a3 a4 a5 a6 a7 = fun _ => 1#1) :
    ((∀ i, (a0 i).toNat < 512) ∧ ∀ i, (a1 i).toNat < 512) ∧
      (∀ i, (a2 i).toNat ≤ 20000) ∧ ∀ i, (a3 i).toNat ≤ 20000 := by
  have e := congrFun h default
  unfold fn fn_part1 at e
  dsimp only [andi] at e
  obtain ⟨e1, e2⟩ := IntOp.andi_eq_one.mp e
  have p1 := fun i => Host.reduce_andi_all _ _ _ _ _ e1 i
  have p2 := fun i => Host.reduce_andi_all _ _ _ _ _ e2 i
  simp only [andi, cmpi, broadcastInDim, constantI, IntOp.andi_eq_one] at p1 p2
  exact ⟨⟨fun i => toNat_lt_of_signed _ 512 (by norm_num) (p1 i).1.1.1 (p1 i).1.1.2,
      fun i => toNat_lt_of_signed _ 512 (by norm_num) (p1 i).1.2 (p1 i).2⟩,
    fun i => toNat_le_of_signed _ 20000 (by norm_num) (p2 i).1.1.1 (p2 i).1.1.2,
    fun i => toNat_le_of_signed _ 20000 (by norm_num) (p2 i).1.2 (p2 i).2⟩

end Cert.FineProof
-- ==== Proof.HypsKernelIdeal.lean ====
/- The side conditions that the generated run of `KernelIdeal` assumes, from the range of the integer arguments: the table
   words name blocks of the neighbour lists, the neighbour words name rows of the padded tables. -/
module

public import proofs.«01_k».proof.Proof.Range
public import proofs.«01_k».proof.Defs
public import proofs.«01_k».proof.Proof.Gen.KernelIdeal.Frame
public import proofs.«01_k».proof.Proof.Gen.Pre_indices_in_range

@[expose] public section

set_option maxRecDepth 16384

noncomputable section

namespace Cert.FineProof.KernelIdeal

open Cert.KernelIdeal Cert.KernelIdeal.Gen
open Idealize.ShloMosaic Idealize.ShloMosaic.TcCoe Idealize.SL.Sem

section
variable {F : FTy → Type} [FloatOps F] [Named F]

/-- The integer arguments lie in the ranges that the program's inputs are drawn from, on every device. -/
structure InRange (m : (ℓ : Loc nD τ sig) → Buf (Elt F) ℓ) : Prop where
  ref : ∀ (c : Dev nD) i, (m ((c.tc : Thread nD τ).loc main_arg0) i).toNat < 512
  src : ∀ (c : Dev nD) i, (m ((c.tc : Thread nD τ).loc main_arg1) i).toNat < 512
  refKnn : ∀ (c : Dev nD) i, (m ((c.tc : Thread nD τ).loc main_arg2) i).toNat ≤ 20000
  srcKnn : ∀ (c : Dev nD) i, (m ((c.tc : Thread nD τ).loc main_arg3) i).toNat ≤ 20000

/-- The neighbour lists of the reference side when the region is entered: the argument with a unit axis. -/
theorem V_main_v28 (m : (ℓ : Loc nD τ sig) → Buf (Elt F) ℓ) (c : Dev nD) :
    V m c main_v28 = shapeCast S512x1x64 (m ((c.tc : Thread nD τ).loc main_arg2)) shapeCasts_S512x64_S512x1x64 := by
  show StableHlo.after hostOps0 _ (Proc.devRef .tc main_v28) = _
  after_results
  rfl

/-- The neighbour lists of the source side when the region is entered: the argument with a unit axis. -/
theorem V_main_v29 (m : (ℓ : Loc nD τ sig) → Buf (Elt F) ℓ) (c : Dev nD) :
    V m c main_v29 = shapeCast S512x1x64 (m ((c.tc : Thread nD τ).loc main_arg3)) shapeCasts_S512x64_S512x1x64 := by
  show StableHlo.after hostOps0 _ (Proc.devRef .tc main_v29) = _
  after_results
  rfl

/-- Correspondences below 512 name blocks of the neighbour lists. -/
theorem ok_of (m : (ℓ : Loc nD τ sig) → Buf (Elt F) ℓ) (h : InRange m) : Ok m := by
  have a0 : ∀ i, (tbl m 0 i).toNat < 512 := fun i => by
    have e := V_main_arg0 m 0
    show (V m (0 : Dev nD) main_arg0 i).toNat < 512
    rw [e]; exact h.ref 0 i
  have a1 : ∀ i, (tbl m 1 i).toNat < 512 := fun i => by
    have e := V_main_arg1 m 0
    show (V m (0 : Dev nD) main_arg1 i).toNat < 512
    rw [e]; exact h.src 0 i
  refine ⟨fun i => ⟨fun a => ?_, Or.inl rfl⟩, fun i => ⟨fun a => ?_, Or.inl rfl⟩⟩
  · have b := a0 ((Rect.unit (s := S256) ![(Scalar.indexCast (BitVec.ofNat 32 (i 0).val)).toNat] S1.size (k0_off1_inb i)).emb
      (Shape.Idx.first (numel1_S1.symm ▸ Nat.one_pos)))
    fin_cases a
    · exact (by omega : ∀ n : ℕ, n < 512 → (n + 1) * 1 ≤ 512) _ b
    · exact (by decide : (0 + 1) * 1 ≤ 1)
    · exact (by decide : (0 + 1) * 64 ≤ 64)
  · have b := a1 ((Rect.unit (s := S256) ![(Scalar.indexCast (BitVec.ofNat 32 (i 0).val)).toNat] S1.size (k0_off1_inb i)).emb
      (Shape.Idx.first (numel1_S1.symm ▸ Nat.one_pos)))
    fin_cases a
    · exact (by omega : ∀ n : ℕ, n < 512 → (n + 1) * 1 ≤ 512) _ b
    · exact (by decide : (0 + 1) * 1 ≤ 1)
    · exact (by decide : (0 + 1) * 64 ≤ 64)

/-- A row at a word up to 20000 is inside the padded table. -/
theorem row_inb (w : BitVec 32) (h : w.toNat ≤ 20000) (a : Fin 2) :
    (![(Scalar.indexCast w).toNat, 0] : Fin 2 → ℕ) a + S1x136.size a ≤ S20008x136.size a := by
  fin_cases a
  · exact (by omega : ∀ n : ℕ, n ≤ 20000 → n + 1 ≤ 20008) _ h
  · exact (by decide : 0 + 136 ≤ 136)

/-- A word of the reference side's block at a point is a neighbour index: at most 20000. -/
theorem word0_le (m : (ℓ : Loc nD τ sig) → Buf (Elt F) ℓ) (h : InRange m) (hO : Ok m) (c : Dev nD)
    (t : Fin (cfgM m hO).N) (i : S1x1x64.Idx) : ((iblk m hO c 0 t : S1x1x64.Idx → BitVec 32) i).toNat ≤ 20000 := by
  have e := V_main_v28 m c
  show (V m c main_v28 ((((cfgM m hO).win 0).blk t).view.emb i)).toNat ≤ 20000
  rw [e]; exact h.refKnn c _

/-- A word of the source side's block at a point is a neighbour index: at most 20000. -/
theorem word1_le (m : (ℓ : Loc nD τ sig) → Buf (Elt F) ℓ) (h : InRange m) (hO : Ok m) (c : Dev nD)
    (t : Fin (cfgM m hO).N) (i : S1x1x64.Idx) : ((iblk m hO c 1 t : S1x1x64.Idx → BitVec 32) i).toNat ≤ 20000 := by
  have e := V_main_v29 m c
  show (V m c main_v29 ((((cfgM m hO).win 1).blk t).view.emb i)).toNat ≤ 20000
  rw [e]; exact h.srcKnn c _

/-- Where a staging buffer holds words up to 20000, the row that any of its words names is inside the padded
    table. -/
theorem staged_row (ms : Memref sig .tc .smem S1x1x64 .i32) (hs : ms.IsWhole) (X : S1x1x64.Idx → BitVec 32)
    (hX : ∀ i, (X i).toNat ≤ 20000) (r : LoadRect S1x1x64) (j : r.shape.Idx) (a : Fin 2) :
    (![(Scalar.indexCast (ms.view.readAt (Elt F) r (hs.unread X) j : BitVec 32)).toNat, 0] : Fin 2 → ℕ) a + S1x136.size a
      ≤ S20008x136.size a := by
  refine row_inb _ ?_ a
  rw [View.readAt_apply, Memref.IsWhole.read_unread]; exact hX _

set_option maxHeartbeats 2000000 in
/-- Neighbour indices up to 20000 name rows of the padded tables: every row the body loads is inside them. -/
theorem hyps_of (m : (ℓ : Loc nD τ sig) → Buf (Elt F) ℓ) (h : InRange m) (hO : Ok m) : Hyps m hO := by
  intro c t
  have h0 := word0_le m h hO c t
  have h1 := word1_le m h hO c t
  have s0 := staged_row (F := F) (ms0_0 m hO t) (hs0_0 m hO t) _ h0
  have s1 := staged_row (F := F) (ms0_1 m hO t) (hs0_1 m hO t) _ h1
  iterate 63 refine And.intro (s0 _ _) (And.intro (s1 _ _) ?_)
  exact And.intro (s0 _ _) (s1 _ _)

end

/-- The precondition gives the ranges. -/
theorem inRange_of_pre (m : (ℓ : Loc nD τ sig) → Buf (Elt Ideal) ℓ)
    (h : Cert.Pre_KernelIdeal (hPre_indices_in_range := Cert.Pre_indices_in_range.Gen.facts) m) : InRange m := by
  letI := Cert.Pre_indices_in_range.Gen.facts
  exact ⟨fun c => (inRange_of_fn _ _ _ _ _ _ _ _ (h c)).1.1, fun c => (inRange_of_fn _ _ _ _ _ _ _ _ (h c)).1.2,
    fun c => (inRange_of_fn _ _ _ _ _ _ _ _ (h c)).2.1, fun c => (inRange_of_fn _ _ _ _ _ _ _ _ (h c)).2.2⟩

end Cert.FineProof.KernelIdeal
-- ==== Proof.Frames.lean ====
/- The frame claims of the kernel, of its idealization and of the reference, and the ledger of the idealization. -/
module

public import proofs.«01_k».proof.Proof.HypsKernel
public import proofs.«01_k».proof.Proof.HypsKernelIdeal
public import proofs.«01_k».proof.Proof.Gen.ReferenceIdeal.Run
public import proofs.«01_k».proof.Proof.Gen.ReferenceIdeal
public import Idealize.ShloMosaic.Adequacy

@[expose] public section

noncomputable section

namespace Cert.FineProof

open Idealize.ShloMosaic Idealize.ShloMosaic.TcCoe Idealize.SL.Sem

/-- The kernel on words runs and leaves its arguments alone when the integer arguments are in range. -/
theorem frame_kernel : Cert.quiescent_Kernel (hKernel := Cert.Kernel.Gen.facts)
    (hPre_indices_in_range := Cert.Pre_indices_in_range.Gen.facts) := fun m g h =>
  have r := Kernel.inRange_of_pre m h
  Cert.Kernel.Gen.frame m g (Kernel.ok_of m r) (Kernel.hyps_of m r _)

/-- The idealized kernel runs and leaves its arguments alone when the integer arguments are in range. -/
theorem frame_kernelIdeal : Cert.quiescent_KernelIdeal (hKernelIdeal := Cert.KernelIdeal.Gen.facts)
    (hPre_indices_in_range := Cert.Pre_indices_in_range.Gen.facts) := fun m g h =>
  have r := KernelIdeal.inRange_of_pre m h
  Cert.KernelIdeal.Gen.frame m g (KernelIdeal.ok_of m r) (KernelIdeal.hyps_of m r _)

/-- The reference runs from any memory and leaves its arguments alone. -/
theorem frame_referenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- The one rewrite of the idealization: the scale constant is named `1 / √128`. -/
theorem preserves : Cert.preserves_Kernel_KernelIdeal :=
  IdealRules.named_const.statement Cert.KernelIdeal.κ "eye_scale" .f32 0x3DB504F3#32
    (((Real.sqrt 128)⁻¹ : ℝ) : EReal) rfl

end Cert.FineProof
-- ==== Proof.Spec.lean ====
/- The matching of two patches as plain mathematics over the extended reals: masked similarities, a softmax along each
   of the two directions, and the product with the points' own scores. -/
module

public import Idealize.ShloMosaic.Lib.Pipeline.ValueKit

@[expose] public section

noncomputable section

namespace Cert.FineProof

open Idealize.ShloMosaic

/-- The number that stands in the similarity matrix where a point is missing: the single-precision -1e9. -/
def missing : EReal := Ideal.ofBits .f32 0xCE6E6B28#32

/-- The value from which a running maximum starts: the single-precision minus infinity. -/
def lowest : EReal := Ideal.ofBits .f32 0xFF800000#32

/-- Coordinate `d` of the feature vector that the index word `w` names: zero for the padded row. -/
def feat (x : Fin 20000 → Fin 128 → EReal) (w : BitVec 32) (d : Fin 128) : EReal :=
  if h : w.toNat < 20000 then x ⟨w.toNat, h⟩ d else 0

/-- The score of the point that the index word `w` names: zero for the padded row. -/
def score (s : Fin 20000 → EReal) (w : BitVec 32) : EReal :=
  if h : w.toNat < 20000 then s ⟨w.toNat, h⟩ else 0

/-- The masked similarity of point `n` of one patch and point `j` of the other. -/
def sim (x y : Fin 20000 → Fin 128 → EReal) (w v : Fin 64 → BitVec 32) (n j : Fin 64) : EReal :=
  if (w n).toNat < 20000 ∧ (v j).toNat < 20000 then
    (∑ d : Fin 128, feat x (w n) d * feat y (v j) d) * (((Real.sqrt 128)⁻¹ : ℝ) : EReal)
  else missing

/-- Entry `k` of the softmax of a list of 64 numbers. -/
def softmax (f : Fin 64 → EReal) (k : Fin 64) : EReal :=
  Ideal.div (Ideal.exp (f k - Finset.fold max lowest f Finset.univ))
    (∑ i, Ideal.exp (f i - Finset.fold max lowest f Finset.univ))

/-- The matching score of point `n` of one patch and point `j` of the other. -/
def matching (x y : Fin 20000 → Fin 128 → EReal) (s t : Fin 20000 → EReal) (w v : Fin 64 → BitVec 32)
    (n j : Fin 64) : EReal :=
  if (w n).toNat < 20000 ∧ (v j).toNat < 20000 then
    softmax (fun k => sim x y w v n k) j * softmax (fun k => sim x y w v k j) n * score s (w n) * score t (v j)
  else 0

/-- A maximum that starts from a value is at least that value. -/
theorem max_fold_max (b : EReal) (f : Fin 64 → EReal) :
    max b (Finset.fold max b f Finset.univ) = Finset.fold max b f Finset.univ :=
  max_eq_right ((Finset.le_fold_max b).mpr (Or.inl le_rfl))

end Cert.FineProof
-- ==== Proof.Consts.lean ====
/- The float constants of the two programs, as the extended reals that their patterns denote. -/
module

public import Idealize.ShloMosaic.PureOps.Ideal

@[expose] public section

noncomputable section

namespace Cert.FineProof

open Idealize.ShloMosaic

/-- The threshold between the two values of the validity column. -/
theorem ofBits_half : Ideal.ofBits .f32 0x3F000000#32 = ((1 / 2 : ℝ) : EReal) := by
  simp [Ideal.ofBits, Ideal.ieee, -EReal.coe_mul]; norm_num

/-- The number whose root scales the reference's similarities. -/
theorem ofBits_128 : Ideal.ofBits .f32 0x43000000#32 = ((128 : ℝ) : EReal) := by
  simp [Ideal.ofBits, Ideal.ieee, -EReal.coe_mul]; norm_num

end Cert.FineProof
-- ==== Proof.Pay.lean ====
/- The arithmetic of one grid step on two blocks of gathered rows, read at an entry. -/
module

public import Idealize.ShloMosaic.Lib.Pipeline.ValueKit
public import proofs.«01_k».proof.Proof.Gen.KernelIdeal.Skeleton
public import proofs.«01_k».proof.Proof.Spec
public import proofs.«01_k».proof.Proof.Consts

@[expose] public section

set_option maxRecDepth 16384

noncomputable section

namespace Cert.FineProof.KernelIdeal

open Cert.KernelIdeal Cert.KernelIdeal.Gen
open Idealize.ShloMosaic Idealize.ShloMosaic.TcCoe Idealize.SL.Sem

/-- The score column of the first block. -/
theorem pay132_apply (a : Vec Ideal S64x136 .f32) (n : Fin 64) :
    k0_pay132 a (ix2 (n0 := 64) (n1 := 1) n 0) = a (ix2 n ⟨128, by norm_num⟩) := by
  pointwise [k0_pay132, k0_pay130]

/-- The comparison of the two coordinates of an entry: one on the diagonal, zero elsewhere. -/
theorem eye_apply (n j : Fin 64) : k0_pay133 (ix2 n j) = if n = j then 1#1 else 0#1 := by
  pointwise [k0_pay133]
  revert n j
  decide +kernel

/-- The score column of the second block, laid along a row. -/
theorem pay134_apply (b : Vec Ideal S64x136 .f32) (j : Fin 64) :
    k0_pay134 b (ix2 (n0 := 1) (n1 := 64) 0 j) = b (ix2 j ⟨128, by norm_num⟩) := by
  pointwise [k0_pay134, k0_pay131]
  rw [Finset.sum_eq_single j]
  · rw [eye_apply, if_pos rfl]; rfl
  · intro x _ hx
    rw [eye_apply, if_neg hx]; rfl
  · intro h; exact absurd (Finset.mem_univ _) h

/-- The threshold test on a validity entry. -/
theorem half_lt (p : Prop) [Decidable p] (x : EReal) (hx : x = if p then 1 else 0) :
    decide (Ideal.ofBits .f32 1056964608#32 < x) = decide p := by
  rw [ofBits_half, hx]
  by_cases h : p
  · have : (((1 / 2 : ℝ) : EReal)) < 1 := by
      rw [← EReal.coe_one, EReal.coe_lt_coe_iff]; norm_num
    rw [if_pos h, decide_eq_true this, decide_eq_true h]
  · have : ¬ (((1 / 2 : ℝ) : EReal)) < 0 := by
      rw [← EReal.coe_zero, EReal.coe_lt_coe_iff]; norm_num
    rw [if_neg h, decide_eq_false this, decide_eq_false h]

/-- The mask of valid pairs, where the validity columns hold ones and zeros. -/
theorem pay135_apply (a b : Vec Ideal S64x136 .f32) (p q : Fin 64 → Prop) [DecidablePred p] [DecidablePred q]
    (ha : ∀ n, a (ix2 n ⟨129, by norm_num⟩) = if p n then 1 else 0)
    (hb : ∀ n, b (ix2 n ⟨129, by norm_num⟩) = if q n then 1 else 0) (n j : Fin 64) :
    k0_pay135 a b (ix2 n j) = if p n ∧ q j then 1#1 else 0#1 := by
  pointwise [k0_pay135, k0_pay130, k0_pay131]
  have hs : ∑ x, Scalar.select (IntOp.andi (k0_pay133 (ix2 x j))
      (BitVec.ofBool (decide (Ideal.ofBits FTy.f32 1056964608#32 < b (ix2 x ⟨129, by norm_num⟩))))) (1 : EReal) 0
      = if q j then 1 else 0 := by
    rw [Finset.sum_eq_single j]
    · rw [eye_apply, if_pos rfl, half_lt (q j) _ (hb j)]
      by_cases h : q j
      · simp [h]; rfl
      · simp [h]; rfl
    · intro x _ hx
      rw [eye_apply, if_neg hx]
      generalize BitVec.ofBool _ = w
      have : IntOp.andi 0#1 w = 0#1 := by show 0#1 &&& w = 0#1; simp
      rw [this]; rfl
    · intro h; exact absurd (Finset.mem_univ _) h
  refine (congrArg₂ (fun u v => IntOp.andi (BitVec.ofBool u) (BitVec.ofBool v)) (half_lt (p n) _ (ha n))
    (half_lt (q j) _ hs)).trans ?_
  by_cases h1 : p n <;> by_cases h2 : q j <;> simp [h1, h2] <;> rfl

/-- The scale constant is the reciprocal of the root of 128. -/
theorem eye_scale : Named.named (F := Ideal) κ "eye_scale" (φ := .f32) 1035273459#32 = (((Real.sqrt 128)⁻¹ : ℝ) : EReal) :=
  IdealRules.named_const.ideal_named_scalar _ _ _ _ rfl

/-- The masked similarities. -/
theorem pay136_apply (a b : Vec Ideal S64x136 .f32) (p q : Fin 64 → Prop) [DecidablePred p] [DecidablePred q]
    (ha : ∀ n, a (ix2 n ⟨129, by norm_num⟩) = if p n then 1 else 0)
    (hb : ∀ n, b (ix2 n ⟨129, by norm_num⟩) = if q n then 1 else 0) (n j : Fin 64) :
    k0_pay136 a b (ix2 n j) = if p n ∧ q j then
      (∑ d : Fin 128, (a (ix2 (n0 := 64) (n1 := 136) n ⟨d.val, by omega⟩) * b (ix2 (n0 := 64) (n1 := 136) j ⟨d.val, by omega⟩) : EReal))
        * (((Real.sqrt 128)⁻¹ : ℝ) : EReal) else missing := by
  pointwise [k0_pay136]
  rw [pay135_apply a b p q ha hb, eye_scale]
  by_cases h : p n ∧ q j
  · rw [if_pos h, if_pos h]; rfl
  · rw [if_neg h, if_neg h]; rfl

/-- The maximum of each row of similarities. -/
theorem pay137_apply (a b : Vec Ideal S64x136 .f32) (n j : Fin 64) :
    k0_pay137 a b (ix2 n j) = Finset.fold max lowest (fun x => k0_pay136 a b (ix2 n x)) Finset.univ := by
  pointwise [k0_pay137]
  rfl

/-- The final entry, from the similarities and their row maxima. -/
theorem pay138_apply (sa : FVec Ideal S64x1 .f32) (sb : FVec Ideal S1x64 .f32) (M : IVec S64x64 1)
    (S R : FVec Ideal S64x64 .f32) (hR : ∀ n j, R (ix2 n j) = Finset.fold max lowest (fun x => S (ix2 n x)) Finset.univ)
    (n j : Fin 64) :
    k0_pay1 (k0_pay138 sa sb M S R) (ix3 (n0 := 1) 0 n j)
      = Scalar.select (M (ix2 n j)) (softmax (fun k => S (ix2 n k)) j * softmax (fun k => S (ix2 k j)) n
          * sa (ix2 n 0) * sb (ix2 0 j)) 0 := by
  pointwise [k0_pay138, k0_pay1]
  simp only [hR]
  rfl

end Cert.FineProof.KernelIdeal
-- ==== Proof.Table.lean ====
/- The padded tables that the host builds: features in columns 0 to 127, the matching score in column 128, a one in
   column 129; zeros elsewhere and in the rows from 20000 on. -/
module

public import Idealize.ShloMosaic.Lib.Pipeline.ValueKit
public import Idealize.ShloMosaic.Lib.Routing.OpsOne
public import proofs.«01_k».proof.Proof.HypsKernelIdeal

@[expose] public section

set_option maxRecDepth 16384

noncomputable section

namespace Cert.FineProof.KernelIdeal

open Cert.KernelIdeal Cert.KernelIdeal.Gen
open Idealize.ShloMosaic Idealize.ShloMosaic.TcCoe Idealize.SL.Sem

variable {F : FTy → Type} [FloatOps F] [Named F]

/-- The pair of index words at which the host writes into the table: row 0 and column `c`. -/
def corner (c : BitVec 32) : IVec S2 32 :=
  concatenate S2 0 [⟨S1, (broadcastInDim S1 ![] bcast_S_S1 (constantI S_ 32 0#32) : IVec S1 32)⟩,
    ⟨S1, broadcastInDim S1 ![] bcast_S_S1 (constantI S_ 32 c)⟩] concatenates_S1_S1_S2_d0

theorem corner_0 (c : BitVec 32) : corner c (ValueIdx.ix1 (0 : Fin 2)) = 0#32 := rfl
theorem corner_1 (c : BitVec 32) : corner c (ValueIdx.ix1 (1 : Fin 2)) = c := rfl

/-- The features written into the table of zeros. -/
def table0 (x : FVec F S20000x128 .f32) : FVec F S20008x136 .f32 :=
  Host.scatter scatter_S20008x136_S2_S20000x128_01_n_01_0 (fun _ b => b)
    (broadcastInDim S20008x136 ![] bcast_S_S20008x136 (constant S_ .f32 0x00000000#32)) (corner 0#32) x

/-- The scores written into column 128. -/
def table1 (x : FVec F S20000x128 .f32) (s : FVec F S20000 .f32) : FVec F S20008x136 .f32 :=
  Host.scatter scatter_S20008x136_S2_S20000_0_1_01_0 (fun _ b => b) (table0 x) (corner 128#32) s

/-- Ones written into column 129: the table. -/
def table (x : FVec F S20000x128 .f32) (s : FVec F S20000 .f32) : FVec F S20008x136 .f32 :=
  Host.scatter scatter_S20008x136_S2_S20000_0_1_01_0 (fun _ b => b) (table1 x s) (corner 129#32)
    (broadcastInDim S20000 ![] bcast_S_S20000 (constant S_ .f32 0x3F800000#32))

set_option maxHeartbeats 1000000 in
/-- The reference side's table when the region is entered. -/
theorem V_main_v13 (m : (ℓ : Loc nD τ sig) → Buf (Elt F) ℓ) (c : Dev nD) :
    V m c main_v13 = table (m ((c.tc : Thread nD τ).loc main_arg4)) (m ((c.tc : Thread nD τ).loc main_arg6)) := by
  show StableHlo.after hostOps0 _ (Proc.devRef .tc main_v13) = _
  after_results
  rfl

set_option maxHeartbeats 1000000 in
/-- The source side's table when the region is entered. -/
theorem V_main_v27 (m : (ℓ : Loc nD τ sig) → Buf (Elt F) ℓ) (c : Dev nD) :
    V m c main_v27 = table (m ((c.tc : Thread nD τ).loc main_arg5)) (m ((c.tc : Thread nD τ).loc main_arg7)) := by
  show StableHlo.after hostOps0 _ (Proc.devRef .tc main_v27) = _
  after_results
  rfl

/-- Where update `k` of the feature block lands: at its own index. -/
theorem lands_block (k : S20000x128.Idx) (r : Fin 20008) (c : Fin 136) :
    scatter_S20008x136_S2_S20000x128_01_n_01_0.resultIdx? k (corner 0#32) = some (ValueIdx.ix2 r c)
      ↔ (k 0).val = r.val ∧ (k 1).val = c.val := by
  have w0 : scatter_S20008x136_S2_S20000x128_01_n_01_0.window k 0 = (k 0).val := rfl
  have w1 : scatter_S20008x136_S2_S20000x128_01_n_01_0.window k 1 = (k 1).val := rfl
  rw [Routing.resultIdx?_ix2, Routing.start_pair _ rfl rfl, Routing.start_pair _ rfl rfl, w0, w1, corner_0, corner_1]
  simp

/-- The features' table at an index. -/
theorem table0_apply (x : FVec F S20000x128 .f32) (r : Fin 20008) (c : Fin 136) :
    table0 x (ValueIdx.ix2 r c) = if h : r.val < 20000 ∧ c.val < 128 then
      x (ix2 (n0 := 20000) (n1 := 128) ⟨r.val, h.1⟩ ⟨c.val, h.2⟩) else (constant S_ .f32 0x00000000#32 : FVec F S_ .f32) default := by
  unfold table0
  by_cases h : r.val < 20000 ∧ c.val < 128
  · rw [dif_pos h]
    refine Routing.scatter_set_hit _ _ _ _ _ _ (fun k hk => ?_) (ix2 (n0 := 20000) (n1 := 128) ⟨r.val, h.1⟩ ⟨c.val, h.2⟩)
      ((lands_block _ r c).2 ⟨rfl, rfl⟩)
    obtain ⟨h0, h1⟩ := (lands_block k r c).1 hk
    refine congrArg x (funext fun a => ?_)
    match a with
    | ⟨0, _⟩ => exact Fin.ext h0
    | ⟨1, _⟩ => exact Fin.ext h1
  · rw [dif_neg h, Routing.scatter_set_miss _ _ _ _ _ fun k hk => h ?_]
    · rfl
    · obtain ⟨h0, h1⟩ := (lands_block k r c).1 hk
      have := (k 0).isLt
      have := (k 1).isLt
      exact ⟨h0 ▸ (k 0).isLt, h1 ▸ (k 1).isLt⟩

/-- The table at an index: features, then score, then one; zero elsewhere. -/
theorem table_apply (x : FVec F S20000x128 .f32) (s : FVec F S20000 .f32) (r : Fin 20008) (c : Fin 136) :
    table x s (ix2 r c) =
      if c.val = 129 ∧ r.val < 20000 then (constant S_ .f32 0x3F800000#32 : FVec F S_ .f32) default
      else if h : c.val = 128 ∧ r.val < 20000 then s (ix1 (n0 := 20000) ⟨r.val, h.2⟩)
      else if h : r.val < 20000 ∧ c.val < 128 then x (ix2 (n0 := 20000) (n1 := 128) ⟨r.val, h.1⟩ ⟨c.val, h.2⟩)
      else (constant S_ .f32 0x00000000#32 : FVec F S_ .f32) default := by
  show table x s (ValueIdx.ix2 r c) = _
  unfold table
  rw [Routing.scatter_column_signed _ (by norm_num) rfl rfl rfl, corner_0, corner_1]
  have e129 : (129#32 : BitVec 32).toInt = 129 := by decide
  have e128 : (128#32 : BitVec 32).toInt = 128 := by decide
  have e0 : (0#32 : BitVec 32).toInt = 0 := by decide
  rw [e129, e0]
  show (if (129 : Int) = (c.val : Int) ∧ (0 : Int) ≤ (r.val : Int) ∧ (r.val : Int) < 0 + (20000 : ℕ) then _ else _) = _
  by_cases h : c.val = 129 ∧ r.val < 20000
  · rw [if_pos h, if_pos (by omega)]; rfl
  · rw [if_neg h, if_neg (by omega)]
    unfold table1
    rw [Routing.scatter_column_signed _ (by norm_num) rfl rfl rfl, corner_0, corner_1, e128, e0]
    show (if (128 : Int) = (c.val : Int) ∧ (0 : Int) ≤ (r.val : Int) ∧ (r.val : Int) < 0 + (20000 : ℕ) then _ else _) = _
    by_cases h' : c.val = 128 ∧ r.val < 20000
    · rw [dif_pos h', if_pos (by omega)]
      congr 1
      funext a
      match a with
      | ⟨0, _⟩ =>
        apply Fin.ext
        show ((r.val : Int) - 0).toNat % 20000 = r.val
        have := h'.2
        omega
    · rw [dif_neg h', if_neg (by omega), table0_apply]

end Cert.FineProof.KernelIdeal
-- ==== Proof.Rows.lean ====
/- What one grid step leaves in the output block: its arithmetic over the two blocks of gathered table rows. -/
module

public import Idealize.ShloMosaic.Lib.Pipeline.ValueKit
public import proofs.«01_k».proof.Proof.HypsKernelIdeal

@[expose] public section

set_option maxRecDepth 16384

noncomputable section

namespace Cert.FineProof.KernelIdeal

open Cert.KernelIdeal Cert.KernelIdeal.Gen
open Idealize.ShloMosaic Idealize.ShloMosaic.TcCoe Idealize.SL.Sem

variable {F : FTy → Type} [FloatOps F] [Named F]

/-- The 64 table rows that a step's neighbour words name. -/
def rows (X : S1x1x64.Idx → BitVec 32) (T : S20008x136.Idx → Elt F .f32) : S64x136.Idx → Elt F .f32 :=
  fun y => T (ix2 (n0 := 20008) (n1 := 136)
    ⟨(X (ix3 (n0 := 1) (n1 := 1) (n2 := 64) 0 0 (y 0))).toNat % 20008, Nat.mod_lt _ (by norm_num)⟩ (y 1))

/-- One step of the row loop stores row `k` of `rows`: the table row that word `k` names. -/
theorem row_piece {ms : Memref sig .tc .smem S1x1x64 .i32} (hs : ms.IsWhole)
    {mt : Memref sig .tc .vmem S20008x136 .f32} (ht : mt.IsWhole)
    (X : S1x1x64.Idx → BitVec 32) (hX : ∀ i, (X i).toNat ≤ 20000) (T : S20008x136.Idx → Elt F .f32)
    (k : ℕ) (inbw : ∀ a, (![0, 0, k] : Fin 3 → ℕ) a + S1x1x1.size a ≤ S1x1x64.size a)
    (h1 : 0 < S1x1x1.numel)
    (inb : ∀ a, (![(Scalar.indexCast (ms.view.readAt (Elt F) (Rect.unit (s := S1x1x64) ![0, 0, k] S1x1x1.size inbw).toLoadRect
      (hs.unread X) (Shape.Idx.first h1) : BitVec 32)).toNat, 0] : Fin 2 → ℕ) a + S1x136.size a ≤ S20008x136.size a)
    (inbk : ∀ a, (![k, 0] : Fin 2 → ℕ) a + S1x136.size a ≤ S64x136.size a)
    (hc hc' : S1x136.ShapeCasts S1x136) (x : S1x136.Idx) :
    shapeCast S1x136 (shapeCast S1x136 (mt.view.readAt (Elt F) (Rect.unit (s := S20008x136) _ S1x136.size inb).toLoadRect
      (ht.unread T)) hc) hc' x = rows X T ((Rect.unit (s := S64x136) ![k, 0] S1x136.size inbk).emb x) := by
  have e2 : ∀ w : S1x136.Idx → Elt F .f32, shapeCast S1x136 (shapeCast S1x136 w hc) hc' x = w x := fun w => by
    rw [shapeCast_self, shapeCast_self]
  refine (e2 _).trans ?_
  rw [View.readAt_apply, Memref.IsWhole.read_unread]
  have hk : k < 64 := inbw 2
  have hx0 : (x 0).val = 0 := Nat.lt_one_iff.mp (x 0).isLt
  have hw : ms.view.readAt (Elt F) (Rect.unit (s := S1x1x64) ![0, 0, k] S1x1x1.size inbw).toLoadRect (hs.unread X)
      (Shape.Idx.first h1) = X (ix3 (n0 := 1) (n1 := 1) (n2 := 64) 0 0 ⟨k, hk⟩) := by
    rw [View.readAt_apply, Memref.IsWhole.read_unread]
    congr 1
    funext a
    fin_cases a <;> rfl
  unfold rows
  congr 1
  funext a
  fin_cases a
  · apply Fin.ext
    show (Scalar.indexCast (ms.view.readAt (Elt F) (Rect.unit (s := S1x1x64) ![0, 0, k] S1x1x1.size inbw).toLoadRect
      (hs.unread X) (Shape.Idx.first h1) : BitVec 32)).toNat + 1 * (x 0).val = (X _).toNat % 20008
    rw [hw, hx0]
    have e : ((Rect.unit (s := S64x136) ![k, 0] S1x136.size inbk).emb x) 0 = (⟨k, hk⟩ : Fin 64) := by
      apply Fin.ext; show k + 1 * (x 0).val = k; omega
    rw [e]
    have := hX (ix3 (n0 := 1) (n1 := 1) (n2 := 64) 0 0 ⟨k, hk⟩)
    show (X (ix3 (n0 := 1) (n1 := 1) (n2 := 64) 0 0 ⟨k, hk⟩)).toNat + 1 * 0 = _
    rw [Nat.mod_eq_of_lt (by omega)]; omega
  · rfl

/-- A load of the whole row buffer after stores that cover it, each of them the part of `G` its rectangle names,
    is `G`. -/
theorem readCov_of_pieces {s : Shape} {e : EltTy} [∀ e, Nonempty (Elt F e)] {sp : Space} (v : View sig .tc sp s e)
    (L : List (View.Piece (Elt F) s e)) (off : Fin s.rank → ℕ) (hoff : off = fun _ => 0) (inb : ∀ a, off a + s.size a ≤ s.size a)
    (G : s.Idx → Elt F e) (hL : ∀ p ∈ L, ∀ x : p.1.shape.Idx, p.2 x = G (p.1.emb x))
    (hcov : ∀ y : s.Idx, ∃ p ∈ L, y ∈ p.1.set) :
    v.readCov L (Rect.unit off s.size inb).toLoadRect = G := by
  subst hoff
  rw [View.readCov_eq_canon']
  funext j
  have e : (Rect.unit (fun _ => 0) s.size inb).toLoadRect.idx j = j := by
    funext a; apply Fin.ext; show 0 + 1 * (j a).val = (j a).val; omega
  rw [e]
  exact View.canon_apply_of_pieces G L hL j (hcov j)

/-- Pieces that are parts of `G`, with one more that is. -/
theorem pieces_cons {s : Shape} {e : EltTy} {G : s.Idx → Elt F e} {r : Rect s} {w : r.shape.Idx → Elt F e}
    {L : List (View.Piece (Elt F) s e)} (hw : ∀ x, w x = G (r.emb x))
    (hL : ∀ p ∈ L, ∀ x : p.1.shape.Idx, p.2 x = G (p.1.emb x)) :
    ∀ p ∈ (⟨r, w⟩ : View.Piece (Elt F) s e) :: L, ∀ x : p.1.shape.Idx, p.2 x = G (p.1.emb x) := by
  intro p hp
  rcases List.mem_cons.mp hp with rfl | hp
  · exact hw
  · exact hL p hp

set_option maxHeartbeats 2000000 in
/-- The output block after a step: the step's arithmetic over the two gathered row blocks. -/
theorem outsAt0_eq (m : (ℓ : Loc nD τ sig) → Buf (Elt F) ℓ) (h : InRange m) (hO : Ok m) (hH : Hyps m hO) (c : Dev nD)
    (t : Fin (cfgM m hO).N) (a b : Vec F S64x136 .f32)
    (ha : a = rows (iblk m hO c 0 t) (iblk m hO c 2 t)) (hb : b = rows (iblk m hO c 1 t) (iblk m hO c 3 t)) :
    outsAt0 m hO hH c t = k0_pay1 (k0_pay138 (k0_pay132 a) (k0_pay134 b) (k0_pay135 a b) (k0_pay136 a b) (k0_pay137 a b)) := by
  unfold outsAt0 out0_A_4 kernelRun0_A
  dsimp only
  have h0 := word0_le m h hO c t
  have h1 := word1_le m h hO c t
  rw [View.read_writes_junk_eq_canon, View.canon_unit_zero (by funext a; fin_cases a <;> rfl)]
  unfold kernelRun0_A.sl.r_133 kernelRun0_A.sl.r_128 kernelRun0_A.sl.r_129 kernelRun0_A.sl.r_130
    kernelRun0_A.sl.r_131 kernelRun0_A.sl.r_132 kernelRun0_A.sl.v896 kernelRun0_A.sl.v897
  have hz : (![0, 0] : Fin 2 → ℕ) = fun _ => 0 := by funext a; fin_cases a <;> rfl
  rw [readCov_of_pieces (s := S64x136) _ _ _ hz _ a ?pa ?ca, readCov_of_pieces (s := S64x136) _ _ _ hz _ b ?pb ?cb]
  case ca => exact View.cover_of_tiledL _ S1x136.size (by sl_kernel_rfl)
  case cb => exact View.cover_of_tiledL _ S1x136.size (by sl_kernel_rfl)
  case pa =>
    subst ha
    unfold kernelRun0_A.sl.HS0_64
    iterate 64 refine pieces_cons (fun x => row_piece (hs0_0 m hO t) (hs0_2 m hO t) _ h0 _ _ _ _ _ _ _ _ x) ?_
    exact fun p hp => absurd hp List.not_mem_nil
  case pb =>
    subst hb
    unfold kernelRun0_A.sl.HS1_64
    iterate 64 refine pieces_cons (fun x => row_piece (hs0_1 m hO t) (hs0_3 m hO t) _ h1 _ _ _ _ _ _ _ _ x) ?_
    exact fun p hp => absurd hp List.not_mem_nil

end Cert.FineProof.KernelIdeal
-- ==== Proof.Blocks.lean ====
/- The blocks that a grid step reads: the neighbour words of its two patches and the two whole tables. -/
module

public import Idealize.ShloMosaic.Lib.Pipeline.ValueKit
public import proofs.«01_k».proof.Proof.Table
public import proofs.«01_k».proof.Proof.Rows

@[expose] public section

set_option maxRecDepth 16384

noncomputable section

namespace Cert.FineProof.KernelIdeal

open Cert.KernelIdeal Cert.KernelIdeal.Gen
open Idealize.ShloMosaic Idealize.ShloMosaic.TcCoe Idealize.SL.Sem

variable {F : FTy → Type} [FloatOps F] [Named F]

/-- The table words: the correspondences. -/
theorem tbl_0 (m : (ℓ : Loc nD τ sig) → Buf (Elt F) ℓ) : tbl m 0 = m (((0 : Dev nD).tc : Thread nD τ).loc main_arg0) :=
  V_main_arg0 m 0
theorem tbl_1 (m : (ℓ : Loc nD τ sig) → Buf (Elt F) ℓ) : tbl m 1 = m (((0 : Dev nD).tc : Thread nD τ).loc main_arg1) :=
  V_main_arg1 m 0

/-- The list of neighbour words with a unit axis, read at an index. -/
theorem unitAxis_apply {α : Type} (x : S512x64.Idx → α) (a : Fin 512) (k : Fin 64) :
    shapeCast S512x1x64 x shapeCasts_S512x64_S512x1x64 (ix3 (n0 := 512) (n1 := 1) (n2 := 64) a 0 k) = x (ix2 a k) := by
  pointwise

/-- The offset of the table word at step `t` is `t`. -/
theorem off1_eq : ∀ t : Fin grid0.N, k0_off1 (grid0.coords t) 0 = t.val := by decide +kernel

/-- The word of a table that steers a window at step `t` is entry `t`. -/
theorem tableWord (x : S256.Idx → BitVec 32) (t : Fin grid0.N) (p : Fin 256) (hp : p.val = t.val) :
    x ((Rect.unit (s := S256) (k0_off1 (grid0.coords t)) S1.size (k0_off1_inb (grid0.coords t))).emb
      (Shape.Idx.first (numel1_S1.symm ▸ Nat.one_pos))) = x (ix1 p) := by
  refine congrArg x (funext fun a => ?_)
  match a with
  | ⟨0, _⟩ =>
    apply Fin.ext
    exact (off1_eq t).trans hp.symm

/-- A word of a patch's neighbour list, where the patch number is the word `w`, read through the unit axis. -/
theorem patchWord (x : S512x64.Idx → BitVec 32) (w : BitVec 32) (hw : w.toNat < 512) (k : Fin 64)
    (i : S512x1x64.Idx) (h0 : (i 0).val = w.toNat * 1 + 1 * 0) (h2 : (i 2).val = 0 * 64 + 1 * k.val) :
    shapeCast S512x1x64 x shapeCasts_S512x64_S512x1x64 i = x (ix2 (n0 := 512) (n1 := 64) ⟨w.toNat, hw⟩ k) := by
  have e : i = ix3 (n0 := 512) (n1 := 1) (n2 := 64) ⟨w.toNat, hw⟩ 0 k := by
    funext a
    match a with
    | ⟨0, _⟩ => exact Fin.ext (h0.trans (by show _ = w.toNat; omega))
    | ⟨1, _⟩ => exact Subsingleton.elim (α := Fin 1) _ _
    | ⟨2, _⟩ => exact Fin.ext (h2.trans (by show _ = k.val; omega))
  rw [e, unitAxis_apply]

/-- Neighbour word `k` of the reference patch at step `t`. -/
theorem word0_apply (m : (ℓ : Loc nD τ sig) → Buf (Elt F) ℓ) (h : InRange m) (hO : Ok m) (c : Dev nD)
    (t : Fin (cfgM m hO).N) (p : Fin 256) (hp : p.val = t.val) (k : Fin 64) :
    (iblk m hO c 0 t : S1x1x64.Idx → BitVec 32) (ix3 (n0 := 1) (n1 := 1) (n2 := 64) 0 0 k)
      = m ((c.tc : Thread nD τ).loc main_arg2) (ix2 (n0 := 512) (n1 := 64)
        ⟨(m (((0 : Dev nD).tc : Thread nD τ).loc main_arg0) (ix1 p)).toNat, h.ref 0 _⟩ k) := by
  have e := V_main_v28 m c
  have w := (tableWord (tbl m 0) t p hp).trans (congrFun (tbl_0 m) (ix1 p))
  show V m c main_v28 ((((cfgM m hO).win 0).blk t).view.emb (ix3 (n0 := 1) (n1 := 1) (n2 := 64) 0 0 k)) = _
  rw [e]
  exact patchWord _ _ (h.ref 0 _) k _ (congrArg (fun v : BitVec 32 => v.toNat * 1 + 1 * 0) w) rfl

/-- Neighbour word `k` of the source patch at step `t`. -/
theorem word1_apply (m : (ℓ : Loc nD τ sig) → Buf (Elt F) ℓ) (h : InRange m) (hO : Ok m) (c : Dev nD)
    (t : Fin (cfgM m hO).N) (p : Fin 256) (hp : p.val = t.val) (k : Fin 64) :
    (iblk m hO c 1 t : S1x1x64.Idx → BitVec 32) (ix3 (n0 := 1) (n1 := 1) (n2 := 64) 0 0 k)
      = m ((c.tc : Thread nD τ).loc main_arg3) (ix2 (n0 := 512) (n1 := 64)
        ⟨(m (((0 : Dev nD).tc : Thread nD τ).loc main_arg1) (ix1 p)).toNat, h.src 0 _⟩ k) := by
  have e := V_main_v29 m c
  have w := (tableWord (tbl m 1) t p hp).trans (congrFun (tbl_1 m) (ix1 p))
  show V m c main_v29 ((((cfgM m hO).win 1).blk t).view.emb (ix3 (n0 := 1) (n1 := 1) (n2 := 64) 0 0 k)) = _
  rw [e]
  exact patchWord _ _ (h.src 0 _) k _ (congrArg (fun v : BitVec 32 => v.toNat * 1 + 1 * 0) w) rfl

/-- The reference side's table block is the whole table. -/
theorem iblk2_eq (m : (ℓ : Loc nD τ sig) → Buf (Elt F) ℓ) (hO : Ok m) (c : Dev nD) (t : Fin (cfgM m hO).N) :
    (iblk m hO c 2 t : S20008x136.Idx → Elt F .f32)
      = table (m ((c.tc : Thread nD τ).loc main_arg4)) (m ((c.tc : Thread nD τ).loc main_arg6)) := by
  rw [← V_main_v13 m c]
  refine funext fun (i : S20008x136.Idx) => ?_
  show V m c main_v13 ((((cfgM m hO).win 2).blk t).view.emb i) = V m c main_v13 i
  congr 1
  funext a
  match a with
  | ⟨0, _⟩ => apply Fin.ext; show 0 * 20008 + 1 * (i 0).val = (i 0).val; omega
  | ⟨1, _⟩ => apply Fin.ext; show 0 * 136 + 1 * (i 1).val = (i 1).val; omega

/-- The source side's table block is the whole table. -/
theorem iblk3_eq (m : (ℓ : Loc nD τ sig) → Buf (Elt F) ℓ) (hO : Ok m) (c : Dev nD) (t : Fin (cfgM m hO).N) :
    (iblk m hO c 3 t : S20008x136.Idx → Elt F .f32)
      = table (m ((c.tc : Thread nD τ).loc main_arg5)) (m ((c.tc : Thread nD τ).loc main_arg7)) := by
  rw [← V_main_v27 m c]
  refine funext fun (i : S20008x136.Idx) => ?_
  show V m c main_v27 ((((cfgM m hO).win 3).blk t).view.emb i) = V m c main_v27 i
  congr 1
  funext a
  match a with
  | ⟨0, _⟩ => apply Fin.ext; show 0 * 20008 + 1 * (i 0).val = (i 0).val; omega
  | ⟨1, _⟩ => apply Fin.ext; show 0 * 136 + 1 * (i 1).val = (i 1).val; omega

end Cert.FineProof.KernelIdeal
-- ==== Proof.KernelValue.lean ====
/- What the idealized kernel returns: the matching scores of the patches, as plain mathematics. -/
module

public import Idealize.ShloMosaic.Lib.Pipeline.ValueKit
public import Idealize.ShloMosaic.Lib.Pipeline.Covers
public import proofs.«01_k».proof.Proof.Pay
public import proofs.«01_k».proof.Proof.Blocks
public import proofs.«01_k».proof.Proof.Gen.KernelIdeal.Frame

@[expose] public section

set_option maxRecDepth 16384

noncomputable section

namespace Cert.FineProof.KernelIdeal

open Cert.KernelIdeal Cert.KernelIdeal.Gen
open Idealize.ShloMosaic Idealize.ShloMosaic.TcCoe Idealize.SL.Sem

/-- A gathered row is the table row that its word names. -/
theorem rows_apply (X : S1x1x64.Idx → BitVec 32) (T : FVec Ideal S20008x136 .f32) (w : Fin 64 → BitVec 32)
    (hw : ∀ k, X (ix3 (n0 := 1) (n1 := 1) (n2 := 64) 0 0 k) = w k) (n : Fin 64) (hn : (w n).toNat < 20008) (c : Fin 136) :
    rows (F := Ideal) X T (ix2 (n0 := 64) (n1 := 136) n c) = T (ix2 (n0 := 20008) (n1 := 136) ⟨(w n).toNat, hn⟩ c) := by
  unfold rows
  have e : (⟨(X (ix3 (n0 := 1) (n1 := 1) (n2 := 64) 0 0 n)).toNat % 20008, Nat.mod_lt _ (by norm_num)⟩ : Fin 20008)
      = ⟨(w n).toNat, hn⟩ := by
    apply Fin.ext
    show (X (ix3 (n0 := 1) (n1 := 1) (n2 := 64) 0 0 n)).toNat % 20008 = (w n).toNat
    rw [hw, Nat.mod_eq_of_lt hn]
  show T (ix2 (n0 := 20008) (n1 := 136) ⟨(X (ix3 (n0 := 1) (n1 := 1) (n2 := 64) 0 0 n)).toNat % 20008, _⟩ c) = _
  rw [e]

theorem zero_word : (constant S_ .f32 0x00000000#32 : FVec Ideal S_ .f32) default = (0 : EReal) := by pointwise
theorem one_word : (constant S_ .f32 0x3F800000#32 : FVec Ideal S_ .f32) default = (1 : EReal) := by pointwise

/-- The feature columns of a table row. -/
theorem table_feat (x : FVec Ideal S20000x128 .f32) (s : FVec Ideal S20000 .f32) (w : BitVec 32) (hw : w.toNat < 20008)
    (d : Fin 128) (hd : d.val < 136) :
    table x s (ix2 (n0 := 20008) (n1 := 136) ⟨w.toNat, hw⟩ ⟨d.val, hd⟩) = feat (fun r c => x (ix2 r c)) w d := by
  have hd' := d.isLt
  rw [table_apply, if_neg (fun h => by have := h.1; dsimp only at this; omega),
    dif_neg (fun h => by have := h.1; dsimp only at this; omega)]
  unfold feat
  by_cases h : w.toNat < 20000
  · rw [dif_pos ⟨h, hd'⟩, dif_pos h]
  · rw [dif_neg (fun h' => h h'.1), dif_neg h, zero_word]

/-- The score column of a table row. -/
theorem table_score (x : FVec Ideal S20000x128 .f32) (s : FVec Ideal S20000 .f32) (w : BitVec 32) (hw : w.toNat < 20008)
    (hd : 128 < 136) :
    table x s (ix2 (n0 := 20008) (n1 := 136) ⟨w.toNat, hw⟩ ⟨128, hd⟩) = score (fun r => s (ix1 r)) w := by
  rw [table_apply, if_neg (fun h => by have := h.1; dsimp only at this; omega)]
  unfold score
  by_cases h : w.toNat < 20000
  · rw [dif_pos ⟨rfl, h⟩, dif_pos h]
  · rw [dif_neg (fun h' => h h'.2), dif_neg (fun h' => h h'.1), dif_neg h, zero_word]

/-- The validity column of a table row. -/
theorem table_valid (x : FVec Ideal S20000x128 .f32) (s : FVec Ideal S20000 .f32) (w : BitVec 32) (hw : w.toNat < 20008)
    (hd : 129 < 136) :
    table x s (ix2 (n0 := 20008) (n1 := 136) ⟨w.toNat, hw⟩ ⟨129, hd⟩) = if w.toNat < 20000 then (1 : EReal) else 0 := by
  rw [table_apply]
  by_cases h : w.toNat < 20000
  · rw [if_pos ⟨rfl, h⟩, if_pos h, one_word]
  · rw [if_neg (fun h' => h h'.2), dif_neg (fun h' => h h'.2), dif_neg (fun h' => h h'.1), if_neg h, zero_word]

/-- One step's arithmetic on the rows that its words name: the matching scores. -/
theorem step_apply (X Y : S1x1x64.Idx → BitVec 32) (x y : FVec Ideal S20000x128 .f32) (s t : FVec Ideal S20000 .f32)
    (w v : Fin 64 → BitVec 32) (hX : ∀ k, X (ix3 (n0 := 1) (n1 := 1) (n2 := 64) 0 0 k) = w k)
    (hY : ∀ k, Y (ix3 (n0 := 1) (n1 := 1) (n2 := 64) 0 0 k) = v k)
    (hw : ∀ k, (w k).toNat < 20008) (hv : ∀ k, (v k).toNat < 20008) (a b : Vec Ideal S64x136 .f32)
    (ha : a = rows (F := Ideal) X (table x s)) (hb : b = rows (F := Ideal) Y (table y t)) (n j : Fin 64) :
    k0_pay1 (k0_pay138 (k0_pay132 a) (k0_pay134 b) (k0_pay135 a b) (k0_pay136 a b) (k0_pay137 a b)) (ix3 (n0 := 1) 0 n j)
      = matching (fun r c => x (ix2 r c)) (fun r c => y (ix2 r c)) (fun r => s (ix1 r)) (fun r => t (ix1 r)) w v n j := by
  have va : ∀ n : Fin 64, a (ix2 n ⟨129, by norm_num⟩) = if (w n).toNat < 20000 then (1 : EReal) else 0 := fun n => by
    rw [ha, rows_apply X _ w hX n (hw n), table_valid]
  have vb : ∀ n : Fin 64, b (ix2 n ⟨129, by norm_num⟩) = if (v n).toNat < 20000 then (1 : EReal) else 0 := fun n => by
    rw [hb, rows_apply Y _ v hY n (hv n), table_valid]
  have sa : ∀ n : Fin 64, a (ix2 n ⟨128, by norm_num⟩) = score (fun r => s (ix1 r)) (w n) := fun n => by
    rw [ha, rows_apply X _ w hX n (hw n), table_score]
  have sb : ∀ n : Fin 64, b (ix2 n ⟨128, by norm_num⟩) = score (fun r => t (ix1 r)) (v n) := fun n => by
    rw [hb, rows_apply Y _ v hY n (hv n), table_score]
  have fa : ∀ (n : Fin 64) (d : Fin 128) (hd : d.val < 136), a (ix2 n ⟨d.val, hd⟩) = feat (fun r c => x (ix2 r c)) (w n) d :=
    fun n d hd => by rw [ha, rows_apply X _ w hX n (hw n), table_feat]
  have fb : ∀ (n : Fin 64) (d : Fin 128) (hd : d.val < 136), b (ix2 n ⟨d.val, hd⟩) = feat (fun r c => y (ix2 r c)) (v n) d :=
    fun n d hd => by rw [hb, rows_apply Y _ v hY n (hv n), table_feat]
  have hS : ∀ n j : Fin 64, k0_pay136 a b (ix2 n j) = sim (fun r c => x (ix2 r c)) (fun r c => y (ix2 r c)) w v n j := fun n j => by
    rw [pay136_apply a b (fun n => (w n).toNat < 20000) (fun n => (v n).toNat < 20000) va vb]
    unfold sim
    simp only [fa, fb]
  rw [pay138_apply _ _ _ _ _ (pay137_apply a b), pay132_apply, pay134_apply, sa, sb,
    pay135_apply a b (fun n => (w n).toNat < 20000) (fun n => (v n).toNat < 20000) va vb]
  simp only [hS]
  unfold matching
  split <;> rfl

/-- The index map of the output: patch `t` at step `t`. -/
theorem coords0 : ∀ t : Fin grid0.N, cc0_transform_4 (grid0.coords t) 0 = t.val := by decide +kernel

/-- The output blocks cover the output array. -/
theorem covers4 (m : (ℓ : Loc nD τ sig) → Buf (Elt Ideal) ℓ) (hO : Ok m) : ((cfgM m hO).win 4).Covers := by
  refine Pipeline.Window.covers_of_index_surj _ rfl ?_ ?_
  · intro a
    match a with
    | ⟨0, _⟩ => show 0 < 1; norm_num
    | ⟨1, _⟩ => show 0 < 64; norm_num
    | ⟨2, _⟩ => show 0 < 64; norm_num
  · intro β
    have h0 : (β (0 : Fin 3)).val < (256 + 1 - 1) / 1 := (β (0 : Fin 3)).isLt
    have h1 : (β (1 : Fin 3)).val < (64 + 64 - 1) / 64 := (β (1 : Fin 3)).isLt
    have h2 : (β (2 : Fin 3)).val < (64 + 64 - 1) / 64 := (β (2 : Fin 3)).isLt
    let t : Fin grid0.N := ⟨(β (0 : Fin 3)).val, lt_of_lt_of_eq (show _ < 256 by omega) (by decide +kernel)⟩
    refine ⟨t, fun a => ?_⟩
    match a with
    | ⟨0, _⟩ => exact coords0 t
    | ⟨1, _⟩ => show 0 = (β (1 : Fin 3)).val; omega
    | ⟨2, _⟩ => show 0 = (β (2 : Fin 3)).val; omega

/-- The matching scores as an array of the kernel's arguments. -/
def out (m : (ℓ : Loc nD τ sig) → Buf (Elt Ideal) ℓ) (h : InRange m) (c : Dev nD) : S256x64x64.Idx → EReal := fun i =>
  matching (fun r d => m ((c.tc : Thread nD τ).loc main_arg4) (ix2 (n0 := 20000) (n1 := 128) r d))
    (fun r d => m ((c.tc : Thread nD τ).loc main_arg5) (ix2 (n0 := 20000) (n1 := 128) r d))
    (fun r => m ((c.tc : Thread nD τ).loc main_arg6) (ix1 (n0 := 20000) r))
    (fun r => m ((c.tc : Thread nD τ).loc main_arg7) (ix1 (n0 := 20000) r))
    (fun k => m ((c.tc : Thread nD τ).loc main_arg2) (ix2 (n0 := 512) (n1 := 64)
        ⟨(m (((0 : Dev nD).tc : Thread nD τ).loc main_arg0) (ix1 (n0 := 256) (i 0))).toNat, h.ref 0 _⟩ k))
    (fun k => m ((c.tc : Thread nD τ).loc main_arg3) (ix2 (n0 := 512) (n1 := 64)
        ⟨(m (((0 : Dev nD).tc : Thread nD τ).loc main_arg1) (ix1 (n0 := 256) (i 0))).toNat, h.src 0 _⟩ k)) (i 1) (i 2)

/-- The number of steps is the number of patches. -/
theorem steps (t : Fin grid0.N) : t.val < 256 := lt_of_lt_of_eq t.isLt (by decide +kernel)

/-- What one step leaves in the output block, read at an entry. -/
theorem block_apply (m : (ℓ : Loc nD τ sig) → Buf (Elt Ideal) ℓ) (h : InRange m) (hO : Ok m) (hH : Hyps m hO) (c : Dev nD)
    (t : Fin (cfgM m hO).N) (n j : Fin 64) :
    (outsAt0 m hO hH c t : S1x64x64.Idx → EReal) (ix3 (n0 := 1) (n1 := 64) (n2 := 64) 0 n j)
      = out m h c (ix3 (n0 := 256) (n1 := 64) (n2 := 64) ⟨t.val, steps t⟩ n j) := by
  refine (congrFun (outsAt0_eq m h hO hH c t _ _ rfl rfl) _).trans ?_
  exact step_apply (iblk m hO c 0 t) (iblk m hO c 1 t) _ _ _ _ _ _
    (fun k => word0_apply m h hO c t ⟨t.val, steps t⟩ rfl k) (fun k => word1_apply m h hO c t ⟨t.val, steps t⟩ rfl k)
    (fun k => Nat.lt_of_le_of_lt (h.refKnn c _) (by norm_num)) (fun k => Nat.lt_of_le_of_lt (h.srcKnn c _) (by norm_num))
    _ _ (congrArg (rows _) (iblk2_eq m hO c t)) (congrArg (rows _) (iblk3_eq m hO c t)) n j

/-- The output array after the run. -/
theorem final (m : (ℓ : Loc nD τ sig) → Buf (Elt Ideal) ℓ) (h : InRange m) (hO : Ok m) (hH : Hyps m hO) (c : Dev nD) :
    (dats m hO hH 0 c).arrAt 4 (cfgM m hO).N = out m h c := by
  refine (dats m hO hH 0 c).arrAt_eq_of_covers 4 (out m h c) (covers4 m hO) fun t _ y => ?_
  rw [after0_4]
  obtain ⟨z, n, j, hy⟩ : ∃ (z : Fin 1) (n : Fin 64) (j : Fin 64), (y : S1x64x64.Idx) = ix3 (n0 := 1) (n1 := 64) (n2 := 64) z n j :=
    ⟨y (0 : Fin 3), y (1 : Fin 3), y (2 : Fin 3), by
      funext d; match d with | ⟨0, _⟩ => rfl | ⟨1, _⟩ => rfl | ⟨2, _⟩ => rfl⟩
  obtain rfl : z = 0 := Subsingleton.elim _ _
  have e : ((((cfgM m hO).win 4).blk t).view.emb y : S256x64x64.Idx)
      = ix3 (n0 := 256) (n1 := 64) (n2 := 64) ⟨t.val, steps t⟩ n j := by
    funext d
    match d with
    | ⟨0, _⟩ =>
      have q : (y (0 : Fin 3)).val = 0 := congrArg (fun v : S1x64x64.Idx => (v 0).val) hy
      apply Fin.ext
      show cc0_transform_4 (grid0.coords t) 0 * 1 + 1 * (y (0 : Fin 3)).val = t.val
      rw [coords0, q]; omega
    | ⟨1, _⟩ =>
      have q : (y (1 : Fin 3)).val = n.val := congrArg (fun v : S1x64x64.Idx => (v 1).val) hy
      apply Fin.ext
      show 0 * 64 + 1 * (y (1 : Fin 3)).val = n.val
      rw [q]; omega
    | ⟨2, _⟩ =>
      have q : (y (2 : Fin 3)).val = j.val := congrArg (fun v : S1x64x64.Idx => (v 2).val) hy
      apply Fin.ext
      show 0 * 64 + 1 * (y (2 : Fin 3)).val = j.val
      rw [q]; omega
  refine Eq.trans ?_ (congrArg (out m h c) e).symm
  refine Eq.trans ?_ (block_apply m h hO hH c t n j)
  show (outsAt0 m hO hH c t : S1x64x64.Idx → EReal) (y : S1x64x64.Idx) = _
  rw [hy]

end Cert.FineProof.KernelIdeal
-- ==== Proof.RefGather.lean ====
/- What the reference's gathers read: the neighbour list of a node, and the padded features and scores of a point. -/
module

public import Idealize.ShloMosaic.Lib.Pipeline.ValueKit
public import Idealize.ShloMosaic.Lib.Routing.OpsOne
public import Idealize.ShloMosaic.Lib.ValueIdxCore
public import Idealize.ShloMosaic.Lib.ReduceAll
public import proofs.«01_k».proof.Proof.Gen.ReferenceIdeal.Run
public import proofs.«01_k».proof.Proof.Spec

@[expose] public section

set_option maxRecDepth 16384

noncomputable section

namespace Cert.FineProof.ReferenceIdeal

open Cert.ReferenceIdeal Cert.ReferenceIdeal.Gen
open Idealize.ShloMosaic Idealize.ShloMosaic.TcCoe Idealize.SL.Sem

/-- A word below `2 ^ 31` is not negative. -/
theorem slt_zero (w : BitVec 32) (h : w.toNat < 2 ^ 31) : IntOp.cmpi .slt w 0#32 = 0#1 := by
  have : w.slt 0#32 = false := by
    rw [BitVec.slt_eq_decide, BitVec.toInt_eq_toNat_of_lt (by omega)]
    simp
  show BitVec.ofBool (w.slt 0#32) = 0#1
  rw [this]; rfl

theorem sge_zero (w : BitVec 32) (h : w.toNat < 2 ^ 31) : IntOp.cmpi .sge w 0#32 = 1#1 := by
  have : (0#32).sle w = true := by
    rw [BitVec.sle_eq_decide, BitVec.toInt_eq_toNat_of_lt (x := w) (by omega)]
    simp
  show BitVec.ofBool ((0#32).sle w) = 1#1
  rw [this]; rfl

theorem sle_of (w : BitVec 32) (k : ℕ) (hk : k < 2 ^ 31) (h : w.toNat ≤ k) : IntOp.cmpi .sle w (BitVec.ofNat 32 k) = 1#1 := by
  have e : (BitVec.ofNat 32 k).toNat = k := by rw [BitVec.toNat_ofNat]; omega
  have : w.sle (BitVec.ofNat 32 k) = true := by
    rw [BitVec.sle_eq_decide, BitVec.toInt_eq_toNat_of_lt (by omega), BitVec.toInt_eq_toNat_of_lt (by omega), e]
    simpa using h
  show BitVec.ofBool (w.sle (BitVec.ofNat 32 k)) = 1#1
  rw [this]; rfl

theorem slt_of (w : BitVec 32) (k : ℕ) (hk : k < 2 ^ 31) (h : w.toNat < 2 ^ 31) :
    IntOp.cmpi .slt w (BitVec.ofNat 32 k) = if w.toNat < k then 1#1 else 0#1 := by
  have e : (BitVec.ofNat 32 k).toNat = k := by rw [BitVec.toNat_ofNat]; omega
  have : w.slt (BitVec.ofNat 32 k) = decide (w.toNat < k) := by
    rw [BitVec.slt_eq_decide, BitVec.toInt_eq_toNat_of_lt (by omega), BitVec.toInt_eq_toNat_of_lt (by omega), e]
    simp
  show BitVec.ofBool (w.slt (BitVec.ofNat 32 k)) = _
  rw [this]
  by_cases h : w.toNat < k
  · rw [if_pos h, decide_eq_true h]; rfl
  · rw [if_neg h, decide_eq_false h]; rfl

/-- The node numbers as the reference's gather wants them: a negative one counted from the end. -/
def nodeIdx (x : IVec S256 32) : IVec S256x1 32 :=
  broadcastInDim S256x1 ![0] bcast_S256_S256x1_0 (select (cmpi .slt x (broadcastInDim S256 ![] bcast_S_S256 (constantI S_ 32 0#32))) (addi x (broadcastInDim S256 ![] bcast_S_S256 (constantI S_ 32 512#32))) x)

/-- A node number in range stays as it is. -/
theorem nodeIdx_apply (x : IVec S256 32) (hx : ∀ i, (x i).toNat < 512) (p : Fin 256) (z : Fin 1) :
    nodeIdx x (ix2 (n0 := 256) (n1 := 1) p z) = x (ix1 p) := by
  pointwise [nodeIdx]
  rw [slt_zero _ (by have := hx (ix1 p); omega)]
  rfl

/-- The guard of the reference's row gather: every node number lies between the first and the last row. -/
def nodeGuard (v : IVec S256x1 32) : IVec S256 1 :=
  Host.reduce IntOp.andi (andi (cmpi .sge v (broadcastInDim S256x1 ![] bcast_S_S256x1 (constantI S_ 32 0#32))) (cmpi .sle v (broadcastInDim S256x1 ![0, 1] bcast_S1x1_S256x1_0_1 (broadcastInDim S1x1 ![1] bcast_S1_S1x1_1 (constantI S1 32 511#32))))) (constantI S_ 1 1#1) reducesTo_S256x1_S256_d1 h_S_

/-- The guard holds for node numbers in range. -/
theorem nodeGuard_apply (x : IVec S256 32) (hx : ∀ i, (x i).toNat < 512) (p : S256.Idx) : nodeGuard (nodeIdx x) p = 1#1 := by
  refine Host.reduce_andi_one _ _ _ _ _ rfl fun i => ?_
  obtain ⟨a, z, rfl⟩ : ∃ (a : Fin 256) (z : Fin 1), i = ix2 (n0 := 256) (n1 := 1) a z := ⟨i 0, i 1, by
    funext d; match d with | ⟨0, _⟩ => rfl | ⟨1, _⟩ => rfl⟩
  have e := nodeIdx_apply x hx a z
  have h := hx (ix1 a)
  show IntOp.andi (IntOp.cmpi .sge (nodeIdx x (ix2 (n0 := 256) (n1 := 1) a z)) 0#32)
    (IntOp.cmpi .sle (nodeIdx x (ix2 (n0 := 256) (n1 := 1) a z)) (BitVec.ofNat 32 511)) = 1#1
  rw [e, sge_zero _ (by omega), sle_of _ 511 (by norm_num) (by omega)]
  rfl

/-- The guarded gather of node rows reads the row of the node. -/
theorem takeRows {α : Type} (arr : S512x64.Idx → α) (bad : S256x64.Idx → α) (x : IVec S256 32)
    (hx : ∀ i, (x i).toNat < 512) (p : Fin 256) (k : Fin 64) :
    select (broadcastInDim S256x64 ![0] bcast_S256_S256x64_0 (nodeGuard (nodeIdx x)))
      (Host.gather gather_S512x64_S256x1_S256x64_1_0_n_n_0_1_164 arr (nodeIdx x)) bad (ix2 (n0 := 256) (n1 := 64) p k)
      = arr (ix2 (n0 := 512) (n1 := 64) ⟨(x (ix1 p)).toNat, hx _⟩ k) := by
  show Scalar.select (nodeGuard (nodeIdx x) _) _ _ = _
  rw [nodeGuard_apply x hx]
  exact Routing.gather_row (nb := 512) (B := 64) (n := 256) gather_S512x64_S256x1_S256x64_1_0_n_n_0_1_164 rfl rfl rfl rfl rfl
    arr (nodeIdx x) p k ⟨(x (ix1 p)).toNat, hx _⟩ ((nodeIdx_apply x hx p 0).trans (by simp)) (by norm_num)

/-- The point numbers as the reference's gathers want them: a negative one counted from the end. -/
def pointIdx (w : IVec S256x64 32) : IVec S256x64x1 32 :=
  broadcastInDim S256x64x1 ![0, 1] bcast_S256x64_S256x64x1_0_1 (select (cmpi .slt w (broadcastInDim S256x64 ![] bcast_S_S256x64 (constantI S_ 32 0#32))) (addi w (broadcastInDim S256x64 ![] bcast_S_S256x64 (constantI S_ 32 20001#32))) w)

/-- A point number in range stays as it is. -/
theorem pointIdx_apply (w : IVec S256x64 32) (hw : ∀ i, (w i).toNat ≤ 20000) (p : Fin 256) (k : Fin 64) (z : Fin 1) :
    pointIdx w (ix3 (n0 := 256) (n1 := 64) (n2 := 1) p k z) = w (ix2 p k) := by
  pointwise [pointIdx]
  rw [slt_zero _ (by have := hw (ix2 p k); omega)]
  rfl

/-- The guard of the reference's point gathers: every point number lies between the first and the last row. -/
def pointGuard (v : IVec S256x64x1 32) : IVec S256x64 1 :=
  Host.reduce IntOp.andi (andi (cmpi .sge v (broadcastInDim S256x64x1 ![] bcast_S_S256x64x1 (constantI S_ 32 0#32))) (cmpi .sle v (broadcastInDim S256x64x1 ![0, 1, 2] bcast_S1x1x1_S256x64x1_0_1_2 (broadcastInDim S1x1x1 ![2] bcast_S1_S1x1x1_2 (constantI S1 32 20000#32))))) (constantI S_ 1 1#1) reducesTo_S256x64x1_S256x64_d2 h_S_

/-- The guard holds for point numbers in range. -/
theorem pointGuard_apply (w : IVec S256x64 32) (hw : ∀ i, (w i).toNat ≤ 20000) (p : S256x64.Idx) :
    pointGuard (pointIdx w) p = 1#1 := by
  refine Host.reduce_andi_one _ _ _ _ _ rfl fun i => ?_
  obtain ⟨a, k, z, rfl⟩ : ∃ (a : Fin 256) (k : Fin 64) (z : Fin 1), i = ix3 (n0 := 256) (n1 := 64) (n2 := 1) a k z :=
    ⟨i 0, i 1, i 2, by funext d; match d with | ⟨0, _⟩ => rfl | ⟨1, _⟩ => rfl | ⟨2, _⟩ => rfl⟩
  have e := pointIdx_apply w hw a k z
  have h := hw (ix2 a k)
  show IntOp.andi (IntOp.cmpi .sge (pointIdx w (ix3 (n0 := 256) (n1 := 64) (n2 := 1) a k z)) 0#32)
    (IntOp.cmpi .sle (pointIdx w (ix3 (n0 := 256) (n1 := 64) (n2 := 1) a k z)) (BitVec.ofNat 32 20000)) = 1#1
  rw [e, sge_zero _ (by omega), sle_of _ 20000 (by norm_num) (by omega)]
  rfl

/-- The gather of feature rows reads the row that the index word names. -/
theorem gather_feats {α : Type} (arr : S20001x128.Idx → α) (idx : IVec S256x64x1 32) (p : Fin 256) (k : Fin 64) (d : Fin 128)
    (b : Fin 20001) (hb : idx (ix3 (n0 := 256) (n1 := 64) (n2 := 1) p k 0) = BitVec.ofNat 32 b.val) :
    Host.gather gather_S20001x128_S256x64x1_S256x64x128_2_0_n_n_0_2_1128 arr idx (ix3 (n0 := 256) (n1 := 64) (n2 := 128) p k d)
      = arr (ix2 b d) := by
  unfold Host.gather
  refine congrArg arr (funext fun a => Fin.ext ?_)
  have hbl := b.isLt
  match a with
  | ⟨0, _⟩ =>
    show GatherDims.start _ _ idx 0 + GatherDims.batchCoord _ _ 0 + GatherDims.offCoord _ _ 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S20001x128_S256x64x1_S256x64x128_2_0_n_n_0_2_1128.startIndexMap from List.mem_singleton.mpr rfl)]
    have hsi : gather_S20001x128_S256x64x1_S256x64x128_2_0_n_n_0_2_1128.siIdx (ix3 (n0 := 256) (n1 := 64) (n2 := 128) p k d)
        ⟨List.idxOf (0 : Fin 2) gather_S20001x128_S256x64x1_S256x64x128_2_0_n_n_0_2_1128.startIndexMap,
          List.idxOf_lt_length_iff.2 (List.mem_singleton.mpr rfl)⟩ = ix3 (n0 := 256) (n1 := 64) (n2 := 1) p k 0 := by
      funext q; refine Fin.ext ?_
      match q with
      | ⟨0, _⟩ => rfl
      | ⟨1, _⟩ => rfl
      | ⟨2, _⟩ => rfl
    rw [hsi, hb, StableHlo.Predicate.toInt_ofNat_small _ (by omega)]
    show min ((b.val : Int)).toNat (20001 - 1) = b.val
    rw [Int.toNat_natCast]; omega
  | ⟨1, _⟩ =>
    show GatherDims.start _ _ idx 1 + GatherDims.batchCoord _ _ 1 + GatherDims.offCoord _ _ 1 = d.val
    rw [GatherDims.batchCoord_eq_zero _ _ _ List.not_mem_nil]
    unfold GatherDims.start
    rw [dif_neg (show ¬ (1 : Fin 2) ∈ gather_S20001x128_S256x64x1_S256x64x128_2_0_n_n_0_2_1128.startIndexMap from by decide)]
    simp only [Nat.zero_add]
    rfl

/-- The gather of scores reads the entry that the index word names. -/
theorem gather_scores {α : Type} (arr : S20001.Idx → α) (idx : IVec S256x64x1 32) (p : Fin 256) (k : Fin 64)
    (b : Fin 20001) (hb : idx (ix3 (n0 := 256) (n1 := 64) (n2 := 1) p k 0) = BitVec.ofNat 32 b.val) :
    Host.gather gather_S20001_S256x64x1_S256x64_n_0_n_n_0_2_1 arr idx (ix2 (n0 := 256) (n1 := 64) p k) = arr (ix1 b) := by
  have hbl := b.isLt
  have e := ValueIdx.gather_take_apply (N := 20001) (R := 256) (C := 64) (by norm_num)
    gather_S20001_S256x64x1_S256x64_n_0_n_n_0_2_1_wf arr idx (ix2 (n0 := 256) (n1 := 64) p k)
  refine (show _ = _ from e).trans (congrArg arr (funext fun a => ?_))
  match a with
  | ⟨0, _⟩ =>
    apply Fin.ext
    have hi : ValueIdx.takeIdx (R := 256) (C := 64) (ix2 (n0 := 256) (n1 := 64) p k) = ix3 (n0 := 256) (n1 := 64) (n2 := 1) p k 0 := by
      funext q; match q with
      | ⟨0, _⟩ => rfl
      | ⟨1, _⟩ => rfl
      | ⟨2, _⟩ => rfl
    show min (idx (ValueIdx.takeIdx _)).toInt.toNat (20001 - 1) = b.val
    rw [hi, hb, StableHlo.Predicate.toInt_ofNat_small _ (by omega), Int.toNat_natCast]; omega

/-- The features with the padded row of zeros below them. -/
def padFeats (x : FVec Ideal S20000x128 .f32) : FVec Ideal S20001x128 .f32 :=
  concatenate S20001x128 0 [⟨S20000x128, x⟩, ⟨S1x128, (broadcastInDim S1x128 ![] bcast_S_S1x128 (constant S_ .f32 0x00000000#32))⟩] concatenates_S20000x128_S1x128_S20001x128_d0

theorem padFeats_apply (x : FVec Ideal S20000x128 .f32) (w : BitVec 32) (hw : w.toNat < 20001) (d : Fin 128) :
    padFeats x (ix2 (n0 := 20001) (n1 := 128) ⟨w.toNat, hw⟩ d) = feat (fun r c => x (ix2 r c)) w d := by
  unfold feat
  pointwise [padFeats]

/-- The scores with a padded zero at the end. -/
def padScores (s : FVec Ideal S20000 .f32) : FVec Ideal S20001 .f32 :=
  concatenate S20001 0 [⟨S20000, s⟩, ⟨S1, (broadcastInDim S1 ![] bcast_S_S1 (constant S_ .f32 0x00000000#32))⟩] concatenates_S20000_S1_S20001_d0

theorem padScores_apply (s : FVec Ideal S20000 .f32) (w : BitVec 32) (hw : w.toNat < 20001) :
    padScores s (ix1 (n0 := 20001) ⟨w.toNat, hw⟩) = score (fun r => s (ix1 r)) w := by
  unfold score
  pointwise [padScores]

end Cert.FineProof.ReferenceIdeal
-- ==== Proof.RefOps.lean ====
/- The reference step by step, each step read at an entry. -/
module

public import proofs.«01_k».proof.Proof.RefGather
public import proofs.«01_k».proof.Proof.Consts

@[expose] public section

set_option maxRecDepth 16384

noncomputable section

namespace Cert.FineProof.ReferenceIdeal

open Cert.ReferenceIdeal Cert.ReferenceIdeal.Gen
open Idealize.ShloMosaic Idealize.ShloMosaic.TcCoe Idealize.SL.Sem

/-- The neighbour lists of the 256 nodes that `x` names. -/
def nodeRows (arr : IVec S512x64 32) (x : IVec S256 32) : IVec S256x64 32 :=
  select (broadcastInDim S256x64 ![0] bcast_S256_S256x64_0 (nodeGuard (nodeIdx x)))
    (Host.gather gather_S512x64_S256x1_S256x64_1_0_n_n_0_1_164 arr (nodeIdx x))
    (broadcastInDim S256x64 ![] bcast_S_S256x64 (constantI S_ 32 2147483648#32))

theorem nodeRows_apply (arr : IVec S512x64 32) (x : IVec S256 32) (hx : ∀ i, (x i).toNat < 512) (p : Fin 256) (k : Fin 64) :
    nodeRows arr x (ix2 (n0 := 256) (n1 := 64) p k) = arr (ix2 (n0 := 512) (n1 := 64) ⟨(x (ix1 p)).toNat, hx _⟩ k) :=
  takeRows arr _ x hx p k

/-- For each of the 256 nodes that `x` names, which of its neighbours are points. -/
def nodeMask (arr : IVec S512x64 32) (x : IVec S256 32) : IVec S256x64 1 :=
  select (broadcastInDim S256x64 ![0] bcast_S256_S256x64_0 (nodeGuard (nodeIdx x)))
    (Host.gather gather_S512x64_S256x1_S256x64_1_0_n_n_0_1_164
      (cmpi .slt arr (broadcastInDim S512x64 ![] bcast_S_S512x64 (constantI S_ 32 20000#32))) (nodeIdx x))
    (broadcastInDim S256x64 ![] bcast_S_S256x64 (constantI S_ 1 1#1))

theorem nodeMask_apply (arr : IVec S512x64 32) (ha : ∀ i, (arr i).toNat ≤ 20000) (x : IVec S256 32)
    (hx : ∀ i, (x i).toNat < 512) (p : Fin 256) (k : Fin 64) :
    nodeMask arr x (ix2 (n0 := 256) (n1 := 64) p k)
      = if (nodeRows arr x (ix2 (n0 := 256) (n1 := 64) p k)).toNat < 20000 then 1#1 else 0#1 := by
  rw [nodeRows_apply arr x hx]
  refine (takeRows _ _ x hx p k).trans ?_
  have h := ha (ix2 (n0 := 512) (n1 := 64) ⟨(x (ix1 p)).toNat, hx _⟩ k)
  exact slt_of _ 20000 (by norm_num) (by omega)

/-- A choice whose condition holds takes its first side. -/
theorem select_of_one {s : Shape} {α : Type} (c : IVec s 1) (x y : s.Idx → α) (i : s.Idx) (h : c i = 1#1) :
    select c x y i = x i := by
  show Scalar.select (c i) (x i) (y i) = x i
  rw [h]; rfl

/-- The features of the points that `w` names. -/
def points (x : FVec Ideal S20000x128 .f32) (w : IVec S256x64 32) : FVec Ideal S256x64x128 .f32 :=
  select (broadcastInDim S256x64x128 ![0, 1] bcast_S256x64_S256x64x128_0_1 (pointGuard (pointIdx w)))
    (Host.gather gather_S20001x128_S256x64x1_S256x64x128_2_0_n_n_0_2_1128 (padFeats x) (pointIdx w))
    (broadcastInDim S256x64x128 ![] bcast_S_S256x64x128 (constant S_ .f32 0x7FC00000#32))

theorem points_apply (x : FVec Ideal S20000x128 .f32) (w : IVec S256x64 32) (hw : ∀ i, (w i).toNat ≤ 20000)
    (p : Fin 256) (k : Fin 64) (d : Fin 128) :
    points x w (ix3 (n0 := 256) (n1 := 64) (n2 := 128) p k d)
      = feat (fun r c => x (ix2 r c)) (w (ix2 (n0 := 256) (n1 := 64) p k)) d := by
  have hb : (w (ix2 (n0 := 256) (n1 := 64) p k)).toNat < 20001 := Nat.lt_succ_of_le (hw _)
  rw [← padFeats_apply x _ hb d]
  have hi : pointIdx w (ix3 (n0 := 256) (n1 := 64) (n2 := 1) p k 0)
      = BitVec.ofNat 32 (⟨(w (ix2 (n0 := 256) (n1 := 64) p k)).toNat, hb⟩ : Fin 20001).val := by
    rw [pointIdx_apply w hw p k 0, BitVec.ofNat_toNat, BitVec.setWidth_eq]
  rw [← gather_feats (padFeats x) (pointIdx w) p k d _ hi]
  unfold points
  generalize Host.gather _ _ _ = g
  generalize hG : pointGuard (pointIdx w) = G
  have h1 : ∀ i, G i = 1#1 := fun i => hG ▸ pointGuard_apply w hw i
  exact select_of_one _ _ _ _ (h1 _)

/-- The scores of the points that `w` names. -/
def pointScores (s : FVec Ideal S20000 .f32) (w : IVec S256x64 32) : FVec Ideal S256x64 .f32 :=
  select (pointGuard (pointIdx w))
    (Host.gather gather_S20001_S256x64x1_S256x64_n_0_n_n_0_2_1 (padScores s) (pointIdx w))
    (broadcastInDim S256x64 ![] bcast_S_S256x64 (constant S_ .f32 0x7FC00000#32))

theorem pointScores_apply (s : FVec Ideal S20000 .f32) (w : IVec S256x64 32) (hw : ∀ i, (w i).toNat ≤ 20000)
    (p : Fin 256) (k : Fin 64) :
    pointScores s w (ix2 (n0 := 256) (n1 := 64) p k)
      = score (fun r => s (ix1 r)) (w (ix2 (n0 := 256) (n1 := 64) p k)) := by
  have hb : (w (ix2 (n0 := 256) (n1 := 64) p k)).toNat < 20001 := Nat.lt_succ_of_le (hw _)
  rw [← padScores_apply s _ hb]
  have hi : pointIdx w (ix3 (n0 := 256) (n1 := 64) (n2 := 1) p k 0)
      = BitVec.ofNat 32 (⟨(w (ix2 (n0 := 256) (n1 := 64) p k)).toNat, hb⟩ : Fin 20001).val := by
    rw [pointIdx_apply w hw p k 0, BitVec.ofNat_toNat, BitVec.setWidth_eq]
  rw [← gather_scores (padScores s) (pointIdx w) p k _ hi]
  unfold pointScores
  generalize Host.gather _ _ _ = g
  exact select_of_one _ _ _ _ (pointGuard_apply w hw _)

/-- The mask of pairs of points. -/
def pairMask (a b : IVec S256x64 1) : IVec S256x64x64 1 :=
  andi (broadcastInDim S256x64x64 ![0, 1, 2] bcast_S256x64x1_S256x64x64_0_1_2 (broadcastInDim S256x64x1 ![0, 1] bcast_S256x64_S256x64x1_0_1 a))
    (broadcastInDim S256x64x64 ![0, 1, 2] bcast_S256x1x64_S256x64x64_0_1_2 (broadcastInDim S256x1x64 ![0, 2] bcast_S256x64_S256x1x64_0_2 b))

theorem pairMask_apply (a b : IVec S256x64 1) (p : Fin 256) (n j : Fin 64) :
    pairMask a b (ix3 (n0 := 256) (n1 := 64) (n2 := 64) p n j)
      = IntOp.andi (a (ix2 (n0 := 256) (n1 := 64) p n)) (b (ix2 (n0 := 256) (n1 := 64) p j)) := by
  pointwise [pairMask]

/-- The masked similarities. -/
def sims (M : IVec S256x64x64 1) (A B : FVec Ideal S256x64x128 .f32) : FVec Ideal S256x64x64 .f32 :=
  select M (Host.divf (Host.dotGeneral dot_S256x64x128_S256x64x128_S256x64x64_2_2_1_1_0_0 none A B)
    (broadcastInDim S256x64x64 ![] bcast_S_S256x64x64 (id (Host.sqrt (constant S_ .f32 0x43000000#32)))))
    (broadcastInDim S256x64x64 ![] bcast_S_S256x64x64 (id (constant S_ .f32 0xCE6E6B28#32)))

theorem div_root (x : EReal) : Ideal.div x (Ideal.sqrt (Ideal.ofBits .f32 0x43000000#32)) = x * (((Real.sqrt 128)⁻¹ : ℝ) : EReal) := by
  rw [ofBits_128, Ideal.sqrt_coe, if_neg (show ¬(128 : ℝ) < 0 from by norm_num),
    Ideal.div_coe (show Real.sqrt 128 ≠ 0 from (Real.sqrt_pos.mpr (by norm_num)).ne'), one_div]

theorem sims_apply (M : IVec S256x64x64 1) (A B : FVec Ideal S256x64x128 .f32) (p : Fin 256) (n j : Fin 64) :
    sims M A B (ix3 (n0 := 256) (n1 := 64) (n2 := 64) p n j) = Scalar.select (M (ix3 p n j))
      ((∑ d : Fin 128, (A (ix3 p n d) * B (ix3 p j d) : EReal)) * (((Real.sqrt 128)⁻¹ : ℝ) : EReal)) missing := by
  pointwise [sims, id]
  exact congrArg (fun v => Scalar.select (M (ix3 p n j)) v missing) (div_root _)

/-- The exponentials along each row. -/
def expRows (S : FVec Ideal S256x64x64 .f32) : FVec Ideal S256x64x64 .f32 :=
  Host.exp (subf S (broadcastInDim S256x64x64 ![0, 1, 2] bcast_S256x64x1_S256x64x64_0_1_2 (broadcastInDim S256x64x1 ![0, 1] bcast_S256x64_S256x64x1_0_1 (maximumf (broadcastInDim S256x64 ![] bcast_S_S256x64 (constant S_ .f32 0xFF800000#32)) (Host.reduce FloatOps.maximumf S (constant S_ .f32 0xFF800000#32) reducesTo_S256x64x64_S256x64_d2 h_S_)))))

theorem expRows_apply (S : FVec Ideal S256x64x64 .f32) (p : Fin 256) (n j : Fin 64) :
    expRows S (ix3 (n0 := 256) (n1 := 64) (n2 := 64) p n j)
      = Ideal.exp (S (ix3 p n j) - Finset.fold max lowest (fun k => S (ix3 (n0 := 256) (n1 := 64) (n2 := 64) p n k)) Finset.univ) := by
  pointwise [expRows]
  rw [max_fold_max]
  rfl

/-- The exponentials along each column. -/
def expCols (S : FVec Ideal S256x64x64 .f32) : FVec Ideal S256x64x64 .f32 :=
  Host.exp (subf S (broadcastInDim S256x64x64 ![0, 1, 2] bcast_S256x1x64_S256x64x64_0_1_2 (broadcastInDim S256x1x64 ![0, 2] bcast_S256x64_S256x1x64_0_2 (maximumf (broadcastInDim S256x64 ![] bcast_S_S256x64 (constant S_ .f32 0xFF800000#32)) (Host.reduce FloatOps.maximumf S (constant S_ .f32 0xFF800000#32) reducesTo_S256x64x64_S256x64_d1 h_S_)))))

theorem expCols_apply (S : FVec Ideal S256x64x64 .f32) (p : Fin 256) (n j : Fin 64) :
    expCols S (ix3 (n0 := 256) (n1 := 64) (n2 := 64) p n j)
      = Ideal.exp (S (ix3 p n j) - Finset.fold max lowest (fun k => S (ix3 (n0 := 256) (n1 := 64) (n2 := 64) p k j)) Finset.univ) := by
  pointwise [expCols]
  rw [max_fold_max]
  rfl

/-- The matching scores from the mask, the exponentials and the points' own scores. -/
def scores (M : IVec S256x64x64 1) (R C : FVec Ideal S256x64x64 .f32) (s t : FVec Ideal S256x64 .f32) : FVec Ideal S256x64x64 .f32 :=
  select M (mulf (mulf (mulf (Host.divf R (broadcastInDim S256x64x64 ![0, 1, 2] bcast_S256x64x1_S256x64x64_0_1_2 (broadcastInDim S256x64x1 ![0, 1] bcast_S256x64_S256x64x1_0_1 (Host.reduceAdd R (constant S_ .f32 0x00000000#32) reducesTo_S256x64x64_S256x64_d2 h_S_)))) (Host.divf C (broadcastInDim S256x64x64 ![0, 1, 2] bcast_S256x1x64_S256x64x64_0_1_2 (broadcastInDim S256x1x64 ![0, 2] bcast_S256x64_S256x1x64_0_2 (Host.reduceAdd C (constant S_ .f32 0x00000000#32) reducesTo_S256x64x64_S256x64_d1 h_S_))))) (broadcastInDim S256x64x64 ![0, 1, 2] bcast_S256x64x1_S256x64x64_0_1_2 (broadcastInDim S256x64x1 ![0, 1] bcast_S256x64_S256x64x1_0_1 s))) (broadcastInDim S256x64x64 ![0, 1, 2] bcast_S256x1x64_S256x64x64_0_1_2 (broadcastInDim S256x1x64 ![0, 2] bcast_S256x64_S256x1x64_0_2 t))) (broadcastInDim S256x64x64 ![] bcast_S_S256x64x64 (id (constant S_ .f32 0x00000000#32)))

theorem scores_apply (M : IVec S256x64x64 1) (R C : FVec Ideal S256x64x64 .f32) (s t : FVec Ideal S256x64 .f32)
    (p : Fin 256) (n j : Fin 64) :
    scores M R C s t (ix3 (n0 := 256) (n1 := 64) (n2 := 64) p n j) = Scalar.select (M (ix3 p n j))
      (Ideal.div (R (ix3 p n j)) (∑ k : Fin 64, (R (ix3 (n0 := 256) (n1 := 64) (n2 := 64) p n k) : EReal))
        * Ideal.div (C (ix3 p n j)) (∑ k : Fin 64, (C (ix3 (n0 := 256) (n1 := 64) (n2 := 64) p k j) : EReal))
        * s (ix2 p n) * t (ix2 p j)) (0 : EReal) := by
  pointwise [scores, id]

end Cert.FineProof.ReferenceIdeal
-- ==== Proof.RefValue.lean ====
/- What the reference returns: the matching scores of the patches, as plain mathematics. -/
module

public import proofs.«01_k».proof.Proof.RefOps

@[expose] public section

set_option maxRecDepth 16384

noncomputable section

namespace Cert.FineProof.ReferenceIdeal

open Cert.ReferenceIdeal Cert.ReferenceIdeal.Gen Cert.ReferenceIdeal.Value
open Idealize.ShloMosaic Idealize.ShloMosaic.TcCoe Idealize.SL.Sem

/-- The reference as a function of its arguments. -/
def result (rc sc : IVec S256 32) (rk sk : IVec S512x64 32) (x y : FVec Ideal S20000x128 .f32) (s t : FVec Ideal S20000 .f32) :
    FVec Ideal S256x64x64 .f32 :=
  let M := pairMask (nodeMask rk rc) (nodeMask sk sc)
  let S := sims M (points x (nodeRows rk rc)) (points y (nodeRows sk sc))
  scores M (expRows S) (expCols S) (pointScores s (nodeRows rk rc)) (pointScores t (nodeRows sk sc))

/-- The indices of a three-axis array are the triples of its coordinates. -/
theorem ix3_eta {a b c : ℕ} (i : (⟨3, ![a, b, c]⟩ : Shape).Idx) : i = ix3 (n0 := a) (n1 := b) (n2 := c) (i 0) (i 1) (i 2) := by
  funext d; match d with | ⟨0, _⟩ => rfl | ⟨1, _⟩ => rfl | ⟨2, _⟩ => rfl

theorem ix2_eta {a b : ℕ} (i : (⟨2, ![a, b]⟩ : Shape).Idx) : i = ix2 (n0 := a) (n1 := b) (i 0) (i 1) := by
  funext d; match d with | ⟨0, _⟩ => rfl | ⟨1, _⟩ => rfl

/-- The reference's result at an entry. -/
theorem result_apply (rc sc : IVec S256 32) (rk sk : IVec S512x64 32) (x y : FVec Ideal S20000x128 .f32) (s t : FVec Ideal S20000 .f32)
    (hrc : ∀ i, (rc i).toNat < 512) (hsc : ∀ i, (sc i).toNat < 512)
    (hrk : ∀ i, (rk i).toNat ≤ 20000) (hsk : ∀ i, (sk i).toNat ≤ 20000) (p : Fin 256) (n j : Fin 64) :
    result rc sc rk sk x y s t (ix3 (n0 := 256) (n1 := 64) (n2 := 64) p n j)
      = matching (fun r c => x (ix2 r c)) (fun r c => y (ix2 r c)) (fun r => s (ix1 r)) (fun r => t (ix1 r))
        (fun k => rk (ix2 (n0 := 512) (n1 := 64) ⟨(rc (ix1 p)).toNat, hrc _⟩ k))
        (fun k => sk (ix2 (n0 := 512) (n1 := 64) ⟨(sc (ix1 p)).toNat, hsc _⟩ k)) n j := by
  have hr : ∀ i, (nodeRows rk rc i).toNat ≤ 20000 := fun i => by
    obtain ⟨a, k, rfl⟩ : ∃ (a : Fin 256) (k : Fin 64), i = ix2 (n0 := 256) (n1 := 64) a k := ⟨i 0, i 1, ix2_eta i⟩
    rw [nodeRows_apply rk rc hrc]; exact hrk _
  have hs : ∀ i, (nodeRows sk sc i).toNat ≤ 20000 := fun i => by
    obtain ⟨a, k, rfl⟩ : ∃ (a : Fin 256) (k : Fin 64), i = ix2 (n0 := 256) (n1 := 64) a k := ⟨i 0, i 1, ix2_eta i⟩
    rw [nodeRows_apply sk sc hsc]; exact hsk _
  have hM : ∀ n j : Fin 64, pairMask (nodeMask rk rc) (nodeMask sk sc) (ix3 (n0 := 256) (n1 := 64) (n2 := 64) p n j)
      = if (rk (ix2 (n0 := 512) (n1 := 64) ⟨(rc (ix1 p)).toNat, hrc _⟩ n)).toNat < 20000
          ∧ (sk (ix2 (n0 := 512) (n1 := 64) ⟨(sc (ix1 p)).toNat, hsc _⟩ j)).toNat < 20000 then 1#1 else 0#1 := fun n j => by
    rw [pairMask_apply, nodeMask_apply rk hrk rc hrc, nodeMask_apply sk hsk sc hsc, nodeRows_apply rk rc hrc, nodeRows_apply sk sc hsc]
    by_cases h1 : (rk (ix2 (n0 := 512) (n1 := 64) ⟨(rc (ix1 p)).toNat, hrc _⟩ n)).toNat < 20000 <;>
      by_cases h2 : (sk (ix2 (n0 := 512) (n1 := 64) ⟨(sc (ix1 p)).toNat, hsc _⟩ j)).toNat < 20000 <;>
        simp only [h1, h2, and_self, and_true, and_false, true_and, false_and, if_true, if_false] <;> rfl
  have hS : ∀ n j : Fin 64, sims (pairMask (nodeMask rk rc) (nodeMask sk sc)) (points x (nodeRows rk rc)) (points y (nodeRows sk sc))
      (ix3 (n0 := 256) (n1 := 64) (n2 := 64) p n j)
      = sim (fun r c => x (ix2 r c)) (fun r c => y (ix2 r c))
        (fun k => rk (ix2 (n0 := 512) (n1 := 64) ⟨(rc (ix1 p)).toNat, hrc _⟩ k))
        (fun k => sk (ix2 (n0 := 512) (n1 := 64) ⟨(sc (ix1 p)).toNat, hsc _⟩ k)) n j := fun n j => by
    rw [sims_apply, hM]
    unfold sim
    simp only [points_apply x _ hr, points_apply y _ hs, nodeRows_apply rk rc hrc, nodeRows_apply sk sc hsc]
    split <;> rfl
  show scores _ _ _ _ _ _ = _
  rw [scores_apply, hM, pointScores_apply s _ hr, pointScores_apply t _ hs, nodeRows_apply rk rc hrc, nodeRows_apply sk sc hsc]
  simp only [expRows_apply, expCols_apply, hS]
  unfold matching softmax
  split <;> rfl

end Cert.FineProof.ReferenceIdeal
-- ==== Proof.Algebraic.lean ====
/- The value claim: the idealized kernel and the reference end with the same matching scores. -/
module

public import proofs.«01_k».proof.Defs
public import proofs.«01_k».proof.Proof.KernelValue
public import proofs.«01_k».proof.Proof.RefValue
public import proofs.«01_k».proof.Proof.Gen.Pre_indices_in_range

@[expose] public section

set_option maxRecDepth 16384

noncomputable section

namespace Cert.FineProof

open Idealize.ShloMosaic Idealize.ShloMosaic.TcCoe Idealize.SL.Sem

/-- The reference's function of arguments in range is the kernel's array of matching scores. -/
theorem result_eq_out (m : (ℓ : Loc Cert.KernelIdeal.nD Cert.KernelIdeal.τ Cert.KernelIdeal.sig) → Buf (Elt Ideal) ℓ)
    (h : KernelIdeal.InRange m) (c : Dev Cert.KernelIdeal.nD) :
    ReferenceIdeal.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      = KernelIdeal.out m h c := by
  obtain rfl : c = 0 := Subsingleton.elim _ _
  refine funext fun (i : Cert.KernelIdeal.S256x64x64.Idx) => ?_
  obtain ⟨p, n, j, rfl⟩ : ∃ (p : Fin 256) (n j : Fin 64), i = ix3 (n0 := 256) (n1 := 64) (n2 := 64) p n j :=
    ⟨i 0, i 1, i 2, ReferenceIdeal.ix3_eta i⟩
  exact ReferenceIdeal.result_apply _ _ _ _ _ _ _ _ (h.ref 0) (h.src 0) (h.refKnn 0) (h.srcKnn 0) p n j

/-- The idealized kernel and the reference return the same matching scores and leave their arguments alone. -/
theorem algebraic : Cert.algebraic_KernelIdeal_ReferenceIdeal (hKernelIdeal := Cert.KernelIdeal.Gen.facts)
    (hReferenceIdeal := Cert.ReferenceIdeal.Gen.facts) (hPre_indices_in_range := Cert.Pre_indices_in_range.Gen.facts) := by
  intro m g m' g' hpre hargs
  have r := KernelIdeal.inRange_of_pre m hpre
  have hO := KernelIdeal.ok_of m r
  have hH := KernelIdeal.hyps_of m r hO
  refine ⟨fun c => KernelIdeal.out m r c, ?_, ?_⟩
  · refine (θ_run Cert.KernelIdeal.defs _ _).mono (fun x hx c => ⟨?_, hx.2 c⟩)
      (θ_run_and (Cert.KernelIdeal.Gen.run_main m g hO hH) (Cert.KernelIdeal.Gen.unchanged m g hO hH))
    exact (hx.1.out_eq c 4).trans (KernelIdeal.final m r hO hH c)
  · refine (θ_run Cert.ReferenceIdeal.defs _ _).mono (fun x hx c => ⟨(hx c).1.trans ?_, (hx c).2⟩)
      (Cert.ReferenceIdeal.Value.run (F := Ideal) m' g')
    obtain ⟨a0, a1, a2, a3, a4, a5, a6, a7⟩ := hargs c
    refine Eq.trans ?_ (result_eq_out m r c)
    rw [← a0, ← a1, ← a2, ← a3, ← a4, ← a5, ← a6, ← a7]
    rfl

end Cert.FineProof
-- ==== Proof.PartRun.lean ====
/- The run of the reference of the partition: its host operations in order, and what the result buffers hold. -/
module

public import proofs.«01_k».proof.Proof.Gen.Reference2Ideal
public import Idealize.ShloMosaic.Lib.StableHlo.Run
public import Idealize.ShloMosaic.Lib.Pipeline.Frame

@[expose] public section

set_option maxRecDepth 16384

noncomputable section

namespace Cert.PartitionProof.Reference

open Cert.Reference2Ideal Cert.Reference2Ideal.Gen
open Idealize.ShloMosaic Idealize.ShloMosaic.TcCoe Idealize.SL.Sem Idealize.ShloMosaic.StableHlo

variable {F : FTy → Type} [FloatOps F]

/-- The host operations of the reference, in order. -/
abbrev ops : List (HloOp τ sig (Elt F)) :=
  [ binary main_arg1 main_arg1 main_v0 (mulf : (⟨S512x3, .f32⟩ : BufTy).Contents (Elt F) → (⟨S512x3, .f32⟩ : BufTy).Contents (Elt F) → (⟨S512x3, .f32⟩ : BufTy).Contents (Elt F)),
    nullary main_cst (constant S_ .f32 0x00000000#32),
    binary main_v0 main_cst main_v1 ((fun x v => Host.reduceAdd x v reducesTo_S512x3_S512_d1 h_S_) : (⟨S512x3, .f32⟩ : BufTy).Contents (Elt F) → (⟨S_, .f32⟩ : BufTy).Contents (Elt F) → (⟨S512, .f32⟩ : BufTy).Contents (Elt F)),
    binary main_arg0 main_arg0 main_v2 (mulf : (⟨S20000x3, .f32⟩ : BufTy).Contents (Elt F) → (⟨S20000x3, .f32⟩ : BufTy).Contents (Elt F) → (⟨S20000x3, .f32⟩ : BufTy).Contents (Elt F)),
    nullary main_cst_0 (constant S_ .f32 0x00000000#32),
    binary main_v2 main_cst_0 main_v3 ((fun x v => Host.reduceAdd x v reducesTo_S20000x3_S20000_d1 h_S_) : (⟨S20000x3, .f32⟩ : BufTy).Contents (Elt F) → (⟨S_, .f32⟩ : BufTy).Contents (Elt F) → (⟨S20000, .f32⟩ : BufTy).Contents (Elt F)),
    unary main_v1 main_v4 (broadcastInDim S512x1 ![0] bcast_S512_S512x1_0 : (⟨S512, .f32⟩ : BufTy).Contents (Elt F) → (⟨S512x1, .f32⟩ : BufTy).Contents (Elt F)),
    unary main_v3 main_v5 (broadcastInDim S1x20000 ![1] bcast_S20000_S1x20000_1 : (⟨S20000, .f32⟩ : BufTy).Contents (Elt F) → (⟨S1x20000, .f32⟩ : BufTy).Contents (Elt F)),
    unary main_v4 main_v6 (broadcastInDim S512x20000 ![0, 1] bcast_S512x1_S512x20000_0_1 : (⟨S512x1, .f32⟩ : BufTy).Contents (Elt F) → (⟨S512x20000, .f32⟩ : BufTy).Contents (Elt F)),
    unary main_v5 main_v7 (broadcastInDim S512x20000 ![0, 1] bcast_S1x20000_S512x20000_0_1 : (⟨S1x20000, .f32⟩ : BufTy).Contents (Elt F) → (⟨S512x20000, .f32⟩ : BufTy).Contents (Elt F)),
    binary main_v6 main_v7 main_v8 (addf : (⟨S512x20000, .f32⟩ : BufTy).Contents (Elt F) → (⟨S512x20000, .f32⟩ : BufTy).Contents (Elt F) → (⟨S512x20000, .f32⟩ : BufTy).Contents (Elt F)),
    unary main_arg0 main_v9 ((transpose S3x20000 [1, 0] · transposes_S20000x3_S3x20000_1_0) : (⟨S20000x3, .f32⟩ : BufTy).Contents (Elt F) → (⟨S3x20000, .f32⟩ : BufTy).Contents (Elt F)),
    binary main_arg1 main_v9 main_v10 ((fun l r => Host.dotGeneral dot_S512x3_S3x20000_S512x20000_1_0_0_1_n_n none l r) : (⟨S512x3, .f32⟩ : BufTy).Contents (Elt F) → (⟨S3x20000, .f32⟩ : BufTy).Contents (Elt F) → (⟨S512x20000, .f32⟩ : BufTy).Contents (Elt F)),
    nullary main_cst_1 (constant S_ .f32 0x40000000#32),
    unary main_cst_1 main_v11 (broadcastInDim S512x20000 ![] bcast_S_S512x20000 : (⟨S_, .f32⟩ : BufTy).Contents (Elt F) → (⟨S512x20000, .f32⟩ : BufTy).Contents (Elt F)),
    binary main_v11 main_v10 main_v12 (mulf : (⟨S512x20000, .f32⟩ : BufTy).Contents (Elt F) → (⟨S512x20000, .f32⟩ : BufTy).Contents (Elt F) → (⟨S512x20000, .f32⟩ : BufTy).Contents (Elt F)),
    binary main_v8 main_v12 main_v13 (subf : (⟨S512x20000, .f32⟩ : BufTy).Contents (Elt F) → (⟨S512x20000, .f32⟩ : BufTy).Contents (Elt F) → (⟨S512x20000, .f32⟩ : BufTy).Contents (Elt F)),
    nullary main_cst_2 (constant S_ .f32 0x00000000#32),
    unary main_cst_2 main_v14 (broadcastInDim S512x20000 ![] bcast_S_S512x20000 : (⟨S_, .f32⟩ : BufTy).Contents (Elt F) → (⟨S512x20000, .f32⟩ : BufTy).Contents (Elt F)),
    binary main_v13 main_v14 main_v15 (maximumf : (⟨S512x20000, .f32⟩ : BufTy).Contents (Elt F) → (⟨S512x20000, .f32⟩ : BufTy).Contents (Elt F) → (⟨S512x20000, .f32⟩ : BufTy).Contents (Elt F)),
    TRef.nullary (TRef.of (T := ⟨S512x20000, .i32⟩) main_call0_v0) (iotaInDim S512x20000 32 0),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S512x20000, .f32⟩) main_v15) (TRef.of (T := ⟨S512x20000, .i32⟩) main_call0_v0) (TRef.of (T := ⟨S_, .f32⟩) main_call0_cst) (TRef.of (T := ⟨S_, .i32⟩) main_call0_c) (TRef.of (T := ⟨S20000, .f32⟩) main_call0_v1_0) (fun x y u v j => (Host.argReduce reducer_argmin_f32_i32 x y u v reducesTo_S512x20000_S20000_d0 h_S_ j).1),
    TRef.quaternary (TRef.of (T := ⟨S512x20000, .f32⟩) main_v15) (TRef.of (T := ⟨S512x20000, .i32⟩) main_call0_v0) (TRef.of (T := ⟨S_, .f32⟩) main_call0_cst) (TRef.of (T := ⟨S_, .i32⟩) main_call0_c) (TRef.of (T := ⟨S20000, .i32⟩) main_v16) (fun x y u v j => (Host.argReduce reducer_argmin_f32_i32 x y u v reducesTo_S512x20000_S20000_d0 h_S_ j).2),
    nullary main_cst_3 (constant S_ .f32 0x7F800000#32),
    binary main_v15 main_cst_3 main_v17 ((fun x v => Host.reduce FloatOps.minimumf x v reducesTo_S512x20000_S20000_d0 h_S_) : (⟨S512x20000, .f32⟩ : BufTy).Contents (Elt F) → (⟨S_, .f32⟩ : BufTy).Contents (Elt F) → (⟨S20000, .f32⟩ : BufTy).Contents (Elt F)),
    unary main_v16 main_v18 (broadcastInDim S1x20000 ![1] bcast_S20000_S1x20000_1 : (⟨S20000, .i32⟩ : BufTy).Contents (Elt F) → (⟨S1x20000, .i32⟩ : BufTy).Contents (Elt F)),
    unary main_v17 main_v19 (broadcastInDim S1x20000 ![1] bcast_S20000_S1x20000_1 : (⟨S20000, .f32⟩ : BufTy).Contents (Elt F) → (⟨S1x20000, .f32⟩ : BufTy).Contents (Elt F)) ]

theorem main_eq (c : Dev nD) : main (F := F) c = seq ops := rfl

theorem ops_sub : (ops : List (HloOp τ sig (Elt F))).Forall fun op => op.bufs ⊆ tcRefs τ sig :=
  ⟨binary_bufs_sub .., nullary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., nullary_bufs_sub .., nullary_bufs_sub .., quaternary_bufs_sub .., quaternary_bufs_sub .., nullary_bufs_sub .., binary_bufs_sub .., unary_bufs_sub .., unary_bufs_sub ..⟩

theorem ops_fresh : ∀ op ∈ (ops : List (HloOp τ sig (Elt F))), op.fresh = ∅ :=
  List.forall_iff_forall_mem.mp (forall_fresh_of_map rfl)

/-- The squared distances of the nodes to the points. -/
def dists (x : FVec F S20000x3 .f32) (y : FVec F S512x3 .f32) : FVec F S512x20000 .f32 :=
  maximumf (subf (addf (broadcastInDim S512x20000 ![0, 1] bcast_S512x1_S512x20000_0_1
        (broadcastInDim S512x1 ![0] bcast_S512_S512x1_0
          (Host.reduceAdd (mulf y y) (constant S_ .f32 0x00000000#32) reducesTo_S512x3_S512_d1 h_S_)))
      (broadcastInDim S512x20000 ![0, 1] bcast_S1x20000_S512x20000_0_1
        (broadcastInDim S1x20000 ![1] bcast_S20000_S1x20000_1
          (Host.reduceAdd (mulf x x) (constant S_ .f32 0x00000000#32) reducesTo_S20000x3_S20000_d1 h_S_))))
    (mulf (broadcastInDim S512x20000 ![] bcast_S_S512x20000 (constant S_ .f32 0x40000000#32))
      (Host.dotGeneral dot_S512x3_S3x20000_S512x20000_1_0_0_1_n_n none y
        (transpose S3x20000 [1, 0] x transposes_S20000x3_S3x20000_1_0))))
    (broadcastInDim S512x20000 ![] bcast_S_S512x20000 (constant S_ .f32 0x00000000#32))

/-- The reduction of an array with places to the places, as the reference writes it. -/
def places {s t : Shape} {axes : List (Fin s.rank)} (h : s.ReducesTo axes t) (y : IVec s 32) (D : FVec F s .f32) : IVec t 32 := fun j =>
  (Host.argReduce reducer_argmin_f32_i32 D y (constant S_ .f32 0x7F800000#32) (constantI S_ 32 0#32) h h_S_ j).2

/-- The node of every point, of the distances. -/
def nodes (D : FVec F S512x20000 .f32) : IVec S20000 32 :=
  places reducesTo_S512x20000_S20000_d0 (iotaInDim S512x20000 32 0) D

/-- The least distance of every point, of the distances. -/
def least (D : FVec F S512x20000 .f32) : FVec F S20000 .f32 :=
  Host.reduce FloatOps.minimumf D (constant S_ .f32 0x7F800000#32) reducesTo_S512x20000_S20000_d0 h_S_

theorem after_v18 (V : Valuation τ sig (Elt F)) : after ops V (Proc.devRef .tc main_v18)
    = broadcastInDim S1x20000 ![1] bcast_S20000_S1x20000_1
        (nodes (dists (V (Proc.devRef .tc main_arg0)) (V (Proc.devRef .tc main_arg1)))) := by
  simp only [ops, TRef.nullary, TRef.quaternary, TRef.toBuf, TRef.ofBuf, cast_eq]
  after_results_simp
  rfl

theorem after_v19 (V : Valuation τ sig (Elt F)) : after ops V (Proc.devRef .tc main_v19)
    = broadcastInDim S1x20000 ![1] bcast_S20000_S1x20000_1
        (least (dists (V (Proc.devRef .tc main_arg0)) (V (Proc.devRef .tc main_arg1)))) := by
  simp only [ops, TRef.nullary, TRef.quaternary, TRef.toBuf, TRef.ofBuf, cast_eq]
  after_results_simp
  rfl

theorem after_arg0 (V : Valuation τ sig (Elt F)) : after ops V (Proc.devRef .tc main_arg0) = V (Proc.devRef .tc main_arg0) := by
  simp only [ops, TRef.nullary, TRef.quaternary, TRef.toBuf, TRef.ofBuf, cast_eq]
  after_results_simp

theorem after_arg1 (V : Valuation τ sig (Elt F)) : after ops V (Proc.devRef .tc main_arg1) = V (Proc.devRef .tc main_arg1) := by
  simp only [ops, TRef.nullary, TRef.quaternary, TRef.toBuf, TRef.ofBuf, cast_eq]
  after_results_simp

theorem scoped_refs : (Finset.univ.filter fun b : Ref sig .tc => b.isScoped) = ∅ := by decide
theorem scoped_sems : (Finset.univ.filter fun sm : SemLoc sig => sm.isScoped .tc) = ∅ := by decide

/-- The reference terminates with the nodes and the least distances in its results and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = broadcastInDim S1x20000 ![1] bcast_S20000_S1x20000_1
          (nodes (dists (m ((c.tc : Thread nD τ).loc main_arg0)) (m ((c.tc : Thread nD τ).loc main_arg1))))
      ∧ r.2.mem ((c.tc : Thread nD τ).loc main_v19) = broadcastInDim S1x20000 ![1] bcast_S20000_S1x20000_1
          (least (dists (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans (after_v18 _), (h c main_v19).trans (after_v19 _),
      (h c main_arg0).trans (after_arg0 _), (h c main_arg1).trans (after_arg1 _)⟩)
    (run_seq scoped_refs scoped_sems defs main (fun _ => ops) main_eq (fun _ => ops_sub) m ρ fun _ => ops_fresh)

end Cert.PartitionProof.Reference
-- ==== Proof.PartSpec.lean ====
/- The partition in plain words: a point's squared distance to a node, and the node nearest to a point, the lowest
   of them where several are equally near. -/
module

public import Idealize.ShloMosaic.PureOps.Ideal.Laws

@[expose] public section

noncomputable section

namespace Cert.PartitionProof

open Idealize.ShloMosaic

/-- The squared distance of a point and a node, from their three coordinates each, not below zero. -/
def sqdist (p c : Fin 3 → EReal) : EReal :=
  max (∑ k, p k * p k + ∑ k, c k * c k - Ideal.ofBits FTy.f32 0x40000000#32 * ∑ k, p k * c k) 0

/-- The word is the place of the least value, and of the first of the least values. -/
def IsLow (f : Fin 512 → EReal) (w : BitVec 32) : Prop :=
  ∃ n : Fin 512, w = BitVec.ofNat 32 n.val ∧ (∀ k, f n ≤ f k) ∧ ∀ k, f k = f n → n ≤ k

/-- There is only one such place. -/
theorem IsLow.unique {f : Fin 512 → EReal} {v w : BitVec 32} (hv : IsLow f v) (hw : IsLow f w) : v = w := by
  obtain ⟨a, rfl, ha, ha'⟩ := hv
  obtain ⟨b, rfl, hb, hb'⟩ := hw
  have e : f a = f b := le_antisymm (ha b) (hb a)
  rw [le_antisymm (ha' b e.symm) (hb' a e)]

/-- The place as an integer is the place. -/
theorem toInt_place (n : Fin 512) : (BitVec.ofNat 32 n.val).toInt = (n.val : ℤ) := by
  have h := n.isLt
  rw [BitVec.toInt_eq_toNat_of_lt (by simp only [BitVec.toNat_ofNat]; omega), BitVec.toNat_ofNat, Nat.mod_eq_of_lt (by omega)]

/-- The least of a list of values from infinity, as a fold over the places, is at most every value and one of them. -/
theorem fold_min_spec (f : Fin 512 → EReal) :
    (∀ k, Finset.univ.fold min ⊤ f ≤ f k) ∧ ∃ k, f k = Finset.univ.fold min ⊤ f := by
  have e : Finset.univ.fold min ⊤ f = Finset.univ.inf f := rfl
  rw [e]
  refine ⟨fun k => Finset.inf_le (Finset.mem_univ k), ?_⟩
  obtain ⟨k, -, hk⟩ := Finset.exists_mem_eq_inf Finset.univ ⟨0, Finset.mem_univ _⟩ f
  exact ⟨k, hk.symm⟩

/-- The infinity both programs fold their minima from. -/
theorem ofBits_inf : Ideal.ofBits .f32 0x7F800000#32 = (⊤ : EReal) := by
  simp [Ideal.ofBits, Ideal.ieee]

end Cert.PartitionProof
-- ==== Proof.PartRef.lean ====
/- The reference of the partition, read at an index. -/
module

public import proofs.«01_k».proof.Proof.PartRun
public import proofs.«01_k».proof.Proof.PartSpec
public import Idealize.ShloMosaic.Lib.Pipeline.ValueKit
public import Idealize.ShloMosaic.Lib.Routing.OpsOne
public import Idealize.ShloMosaic.PureOps.Reduce

@[expose] public section

set_option maxRecDepth 16384

noncomputable section

namespace Cert.PartitionProof.Reference

open Cert.Reference2Ideal Cert.Reference2Ideal.Gen
open Idealize.ShloMosaic Idealize.ShloMosaic.TcCoe Idealize.SL.Sem

/-- The distances are the plain ones. -/
theorem dists_apply (x : FVec Ideal S20000x3 .f32) (y : FVec Ideal S512x3 .f32) (n : Fin 512) (p : Fin 20000) :
    dists x y (ix2 n p) = sqdist (fun k => x (ix2 p k)) fun k => y (ix2 n k) := by
  pointwise [dists, sqdist]
  rw [add_comm]
  simp only [mul_comm (y _) (x _)]

/-- The least distance is the fold of the minimum over the nodes. -/
theorem least_apply (D : FVec Ideal S512x20000 .f32) (p : Fin 20000) :
    least D (ix1 p) = Finset.univ.fold min ⊤ fun n : Fin 512 => D (ix2 n p) := by
  pointwise [least]
  rw [ofBits_inf]

/-- The order of the pairs: by value, then by place. -/
def Before (a b : EReal × BitVec 32) : Prop := a.1 < b.1 ∨ a.1 = b.1 ∧ a.2.toInt ≤ b.2.toInt

theorem Before.refl (a : EReal × BitVec 32) : Before a a := .inr ⟨rfl, le_refl _⟩

theorem Before.trans {a b c : EReal × BitVec 32} (h : Before a b) (k : Before b c) : Before a c := by
  rcases h with h | ⟨h, h'⟩ <;> rcases k with k | ⟨k, k'⟩
  · exact .inl (h.trans k)
  · exact .inl (k ▸ h)
  · exact .inl (h ▸ k)
  · exact .inr ⟨h.trans k, h'.trans k'⟩

/-- The reducer keeps one of its two pairs, the one before the other. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨u, v⟩ := a
  obtain ⟨s, t⟩ := b
  rcases lt_trichotomy u s with h | h | h
  · have e : reducer_argmin_f32_i32 (F := Ideal) (u, v) (s, t) = (u, v) := by
      simp [reducer_argmin_f32_i32, Ideal.cmpf_def, Ideal.cmp, Scalar.select, IntOp.ori, IntOp.andi, h, h.ne]
    rw [e]
    exact ⟨.inl rfl, .refl _, .inl h⟩
  · subst h
    by_cases hv : v.toInt < t.toInt
    · have e : reducer_argmin_f32_i32 (F := Ideal) (u, v) (u, t) = (u, v) := by
        simp [reducer_argmin_f32_i32, Ideal.cmpf_def, Ideal.cmp, Scalar.select, IntOp.ori, IntOp.andi, IntOp.cmpi, BitVec.slt, hv]
      rw [e]
      exact ⟨.inl rfl, .refl _, .inr ⟨rfl, hv.le⟩⟩
    · have e : reducer_argmin_f32_i32 (F := Ideal) (u, v) (u, t) = (u, t) := by
        simp [reducer_argmin_f32_i32, Ideal.cmpf_def, Ideal.cmp, Scalar.select, IntOp.ori, IntOp.andi, IntOp.cmpi, BitVec.slt, hv]
      rw [e]
      exact ⟨.inr rfl, .inr ⟨rfl, not_lt.mp hv⟩, .refl _⟩
  · have e : reducer_argmin_f32_i32 (F := Ideal) (u, v) (s, t) = (s, t) := by
      simp [reducer_argmin_f32_i32, Ideal.cmpf_def, Ideal.cmp, Scalar.select, IntOp.ori, IntOp.andi, not_lt.mpr h.le, h.ne']
    rw [e]
    exact ⟨.inr rfl, .inl h, .refl _⟩

/-- A fold of the reducer is the starting pair or one of the list's, and before all of them. -/
theorem foldl_spec (l : List (EReal × BitVec 32)) : ∀ a : EReal × BitVec 32,
    (l.foldl (reducer_argmin_f32_i32 (F := Ideal)) a = a ∨ l.foldl (reducer_argmin_f32_i32 (F := Ideal)) a ∈ l)
      ∧ Before (l.foldl (reducer_argmin_f32_i32 (F := Ideal)) a) a
      ∧ ∀ b ∈ l, Before (l.foldl (reducer_argmin_f32_i32 (F := Ideal)) a) b := by
  induction l with
  | nil => exact fun a => ⟨.inl rfl, .refl _, fun b hb => absurd hb List.not_mem_nil⟩
  | cons c l ih =>
    intro a
    obtain ⟨hm, ha, hc⟩ := reducer_spec a c
    obtain ⟨im, ia, il⟩ := ih (reducer_argmin_f32_i32 (F := Ideal) a c)
    rw [List.foldl_cons]
    refine ⟨?_, ia.trans ha, fun b hb => ?_⟩
    · rcases im with im | im
      · rw [im]
        exact hm.imp id fun h => by rw [h]; exact List.mem_cons_self
      · exact .inr (List.mem_cons_of_mem _ im)
    · rcases List.mem_cons.mp hb with rfl | hb
      · exact ia.trans hc
      · exact il b hb

/-- The pairs that are folded at a column: the column's values with their partners. -/
theorem mem_fiber {n0 n1 : ℕ} {α β : Type} (h : (⟨2, ![n0, n1]⟩ : Shape).ReducesTo [0] ⟨1, ![n1]⟩)
    (x : (⟨2, ![n0, n1]⟩ : Shape).Idx → α) (y : (⟨2, ![n0, n1]⟩ : Shape).Idx → β) (p : Fin n1) (b : α × β) :
    b ∈ Host.argReduceFiber x y h (ix1 p) ↔ ∃ n : Fin n0, b = (x (ix2 n p), y (ix2 n p)) := by
  have hv : ∀ i : (⟨2, ![n0, n1]⟩ : Shape).Idx, (h.drop i 0 : ℕ) = i 1 := fun i => Shape.ReducesTo.drop_apply_val h i 0
  unfold Host.argReduceFiber
  rw [List.mem_map]
  constructor
  · rintro ⟨i, hi, rfl⟩
    have hd := of_decide_eq_true (List.mem_filter.mp hi).2
    generalize (⟨2, ![n0, n1]⟩ : Shape).rowMajor.symm i = q at hd ⊢
    obtain ⟨n, k, rfl⟩ : ∃ (n : Fin n0) (k : Fin n1), q = ix2 n k := ⟨q 0, q 1, (ix2_eta q).symm⟩
    have hk : k = p := Fin.ext ((hv (ix2 n k)).symm.trans (congrArg (fun v : (⟨1, ![n1]⟩ : Shape).Idx => (v 0).val) hd))
    subst hk
    exact ⟨n, rfl⟩
  · rintro ⟨n, rfl⟩
    refine ⟨(⟨2, ![n0, n1]⟩ : Shape).rowMajor (ix2 n p), List.mem_filter.mpr ⟨List.mem_finRange _, decide_eq_true ?_⟩, ?_⟩
    · rw [Equiv.symm_apply_apply]
      funext a
      match a with
      | ⟨0, _⟩ => exact Fin.ext (hv (ix2 n p))
    · rw [Equiv.symm_apply_apply]

/-- The place that the reduction with places finds in a column is the first of the column's least values. -/
theorem argReduce_column {n1 : ℕ} (h : (⟨2, ![512, n1]⟩ : Shape).ReducesTo [0] ⟨1, ![n1]⟩)
    (D : FVec Ideal (⟨2, ![512, n1]⟩ : Shape) .f32) (p : Fin n1) :
    IsLow (fun n => D (ix2 n p)) (places (F := Ideal) h (iotaInDim ⟨2, ![512, n1]⟩ 32 0) D (ix1 p)) := by
  unfold places
  rw [Ideal.argReduce_eq_reduce2, Host.reduce2_eq_foldl_fiber]
  have mem : ∀ b : EReal × BitVec 32,
      b ∈ Host.argReduceFiber (α := Ideal .f32) D (iotaInDim ⟨2, ![512, n1]⟩ 32 0) h (ix1 p)
        ↔ ∃ n : Fin 512, b = (D (ix2 n p), BitVec.ofNat 32 n.val) :=
    fun b => mem_fiber h D (iotaInDim ⟨2, ![512, n1]⟩ 32 0) p b
  generalize Host.argReduceFiber (α := Ideal .f32) D (iotaInDim ⟨2, ![512, n1]⟩ 32 0) h (ix1 p) = l at mem ⊢
  obtain ⟨hm, ha, hl⟩ := foldl_spec l (⊤, 0#32)
  have hs : ((constant S_ .f32 0x7F800000#32 : FVec Ideal S_ .f32) (Shape.Idx.first h_S_), constantI S_ 32 0#32 (Shape.Idx.first h_S_))
      = ((⊤ : EReal), 0#32) := Prod.ext ofBits_inf rfl
  rw [hs]
  generalize hr : l.foldl (reducer_argmin_f32_i32 (F := Ideal)) ((⊤ : EReal), 0#32) = r at hm ha hl
  have key : ∃ n : Fin 512, r = (D (ix2 n p), BitVec.ofNat 32 n.val) := by
    rcases hm with rfl | hm
    · rcases hl _ ((mem _).mpr ⟨0, rfl⟩) with e | ⟨e, -⟩
      · exact absurd e not_top_lt
      · exact ⟨0, Prod.ext e rfl⟩
    · exact (mem r).mp hm
  obtain ⟨n, rfl⟩ := key
  refine ⟨n, rfl, fun k => ?_, fun k hk => ?_⟩
  · rcases hl _ ((mem _).mpr ⟨k, rfl⟩) with e | ⟨e, -⟩
    · exact e.le
    · exact e.le
  · rcases hl _ ((mem _).mpr ⟨k, rfl⟩) with e | ⟨-, e⟩
    · exact absurd hk e.ne'
    · have h' : (BitVec.ofNat 32 n.val).toInt ≤ (BitVec.ofNat 32 k.val).toInt := e
      rw [toInt_place, toInt_place] at h'
      exact Fin.le_def.mpr (by exact_mod_cast h')

/-- The node of a point is the first of the nearest. -/
theorem nodes_apply (D : FVec Ideal S512x20000 .f32) (p : Fin 20000) : IsLow (fun n => D (ix2 n p)) (nodes (F := Ideal) D (ix1 p)) := by
  unfold nodes
  exact argReduce_column reducesTo_S512x20000_S20000_d0 D p

/-- A list as an array of one row, read at an index. -/
theorem row_apply {α : Type} (X : S20000.Idx → α) (p : Fin 20000) :
    broadcastInDim S1x20000 ![1] bcast_S20000_S1x20000_1 X (ix2 (n0 := 1) (n1 := 20000) 0 p) = X (ix1 p) := by
  pointwise

/-- The node of a point, in the points and the nodes. -/
theorem nodes_dists (x : FVec Ideal S20000x3 .f32) (y : FVec Ideal S512x3 .f32) (p : Fin 20000) :
    IsLow (fun n => sqdist (fun k => x (ix2 p k)) fun k => y (ix2 n k)) (nodes (F := Ideal) (dists x y) (ix1 p)) := by
  have h := nodes_apply (dists x y) p
  generalize nodes (F := Ideal) (dists x y) (ix1 p) = w at h ⊢
  simp only [dists_apply] at h
  exact h

/-- The least distance of a point, in the points and the nodes. -/
theorem least_dists (x : FVec Ideal S20000x3 .f32) (y : FVec Ideal S512x3 .f32) (p : Fin 20000) :
    least (F := Ideal) (dists x y) (ix1 p)
      = Finset.univ.fold min ⊤ fun n : Fin 512 => sqdist (fun k => x (ix2 p k)) fun k => y (ix2 n k) := by
  rw [least_apply]
  simp only [dists_apply]

end Cert.PartitionProof.Reference
-- ==== Proof.PartKernel.lean ====
/- What the idealized partition call computes: every point's node and its least squared distance. -/
module

public import Idealize.ShloMosaic.Lib.Pipeline.ValueKit
public import Idealize.ShloMosaic.Lib.Pipeline.Covers
public import Idealize.ShloMosaic.Lib.Routing.OpsOne
public import Idealize.ShloMosaic.Lib.SortNet.Extract
public import proofs.«01_k».proof.Proof.PartSpec
public import proofs.«01_k».proof.Proof.Gen.Kernel2Ideal.Frame

@[expose] public section

set_option maxRecDepth 16384

noncomputable section

namespace Cert.PartitionProof.Kernel

open Cert.Kernel2Ideal Cert.Kernel2Ideal.Gen
open Idealize.ShloMosaic Idealize.ShloMosaic.TcCoe Idealize.SL.Sem

/-- The points with five columns of zeros added. -/
def points (x : FVec Ideal S20000x3 .f32) : FVec Ideal S20000x8 .f32 :=
  pad S20000x8 ![0, 0] ![0, 5] ![0, 0] x (sitofp .f32 (constantI S_ 32 0#32)) pads_S20000x3_S20000x8_000_050 h_S_

/-- The nodes with five columns of zeros added, one node a column. -/
def nodes (y : FVec Ideal S512x3 .f32) : FVec Ideal S8x512 .f32 :=
  transpose S8x512 [1, 0] (pad S512x8 ![0, 0] ![0, 5] ![0, 0] y (sitofp .f32 (constantI S_ 32 0#32)) pads_S512x3_S512x8_000_050 h_S_ :
    FVec Ideal S512x8 .f32) transposes_S512x8_S8x512_1_0

theorem V_main_v0 (m : (ℓ : Loc nD τ sig) → Buf (Elt Ideal) ℓ) (c : Dev nD) :
    V m c main_v0 = points (m ((c.tc : Thread nD τ).loc main_arg0)) := by
  show StableHlo.after (List.flatten [hostOps0, hostOps0_1, hostOps0_2, hostOps0_3, hostOps0_4]) _ (Proc.devRef .tc main_v0) = _
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results_simp
  rfl

theorem V_main_v2 (m : (ℓ : Loc nD τ sig) → Buf (Elt Ideal) ℓ) (c : Dev nD) :
    V m c main_v2 = nodes (m ((c.tc : Thread nD τ).loc main_arg1)) := by
  show StableHlo.after (List.flatten [hostOps0, hostOps0_1, hostOps0_2, hostOps0_3, hostOps0_4]) _ (Proc.devRef .tc main_v2) = _
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results_simp
  rfl

theorem zero_of_word : (FloatOps.sitofp .f32 0#32 : Ideal .f32) = (0 : EReal) := by
  show (((0#32 : BitVec 32).toInt : ℝ) : EReal) = 0
  simp

/-- The three coordinates with five zeros after them. -/
def padded (p : Fin 3 → EReal) (k : Fin 8) : EReal := if h : k.val < 3 then p ⟨k.val, h⟩ else 0

theorem points_apply (x : FVec Ideal S20000x3 .f32) (p : Fin 20000) (k : Fin 8) :
    points x (ix2 p k) = padded (fun k => x (ix2 p k)) k := by
  pointwise [points, padded]
  rw [zero_of_word]

theorem nodes_apply (y : FVec Ideal S512x3 .f32) (n : Fin 512) (k : Fin 8) :
    nodes y (ix2 k n) = padded (fun k => y (ix2 n k)) k := by
  pointwise [nodes, padded]
  rw [zero_of_word]

/-- Sums of products over the eight columns are sums over the three coordinates. -/
theorem sum_padded (p q : Fin 3 → EReal) : ∑ k, padded p k * padded q k = ∑ k, p k * q k := by
  rw [Fin.sum_univ_eight, Fin.sum_univ_three]
  simp [padded]

/-- The block's distances. -/
theorem pay1_apply (x : Vec Ideal S2000x8 .f32) (y : Vec Ideal S8x512 .f32) (P : Fin 2000 → Fin 3 → EReal) (N : Fin 512 → Fin 3 → EReal)
    (hx : ∀ p k, x (ix2 (n0 := 2000) (n1 := 8) p k) = padded (P p) k) (hy : ∀ n k, y (ix2 (n0 := 8) (n1 := 512) k n) = padded (N n) k)
    (p : Fin 2000) (n : Fin 512) : k0_pay1 x y (ix2 (n0 := 2000) (n1 := 512) p n) = sqdist (P p) (N n) := by
  pointwise [k0_pay1]
  simp only [hx, hy, sum_padded]
  rfl

/-- The block's least distances. -/
theorem pay4_apply (x : Vec Ideal S2000x8 .f32) (y : Vec Ideal S8x512 .f32) (P : Fin 2000 → Fin 3 → EReal) (N : Fin 512 → Fin 3 → EReal)
    (hx : ∀ p k, x (ix2 (n0 := 2000) (n1 := 8) p k) = padded (P p) k) (hy : ∀ n k, y (ix2 (n0 := 8) (n1 := 512) k n) = padded (N n) k)
    (p : Fin 2000) : k0_pay4 x y (ix3 (n0 := 1) (n1 := 1) (n2 := 2000) 0 0 p) = Finset.univ.fold min ⊤ fun n => sqdist (P p) (N n) := by
  pointwise [k0_pay4, k0_pay2]
  simp only [pay1_apply x y P N hx hy, ofBits_inf]

/-- A word is the signed minimum of a family from the greatest word when it is one of the family and at most all. -/
theorem fold_minsi_eq {ι : Type*} [Fintype ι] [DecidableEq ι] (g : ι → BitVec 32) (n : ι) (hn : ∀ k, (g n).toInt ≤ (g k).toInt) :
    Finset.univ.fold IntOp.minsi 2147483647#32 g = g n := by
  have key : ∀ s : Finset ι, n ∈ s → s.fold IntOp.minsi 2147483647#32 g = g n := by
    intro s hs
    have spec : ∀ s : Finset ι, (s.fold IntOp.minsi 2147483647#32 g).toInt ≤ 2147483647
        ∧ (∀ k ∈ s, (s.fold IntOp.minsi 2147483647#32 g).toInt ≤ (g k).toInt)
        ∧ (s.fold IntOp.minsi 2147483647#32 g = 2147483647#32 ∨ ∃ k ∈ s, s.fold IntOp.minsi 2147483647#32 g = g k) := by
      intro s
      induction s using Finset.induction_on with
      | empty => exact ⟨by rw [Finset.fold_empty]; decide, by simp, .inl rfl⟩
      | insert a s ha ih =>
        obtain ⟨i1, i2, i3⟩ := ih
        rw [Finset.fold_insert ha, SortNet.toInt_minsi]
        refine ⟨(min_le_right _ _).trans i1, fun k hk => ?_, ?_⟩
        · rcases Finset.mem_insert.mp hk with rfl | hk
          · exact min_le_left _ _
          · exact (min_le_right _ _).trans (i2 k hk)
        · rcases SortNet.toInt_minsi (g a) (s.fold IntOp.minsi 2147483647#32 g) ▸ min_choice (g a).toInt _ with e | e
          · exact .inr ⟨a, Finset.mem_insert_self _ _, BitVec.eq_of_toInt_eq e⟩
          · rw [BitVec.eq_of_toInt_eq e]
            exact i3.imp id fun ⟨k, hk, e⟩ => ⟨k, Finset.mem_insert_of_mem hk, e⟩
    obtain ⟨s1, s2, s3⟩ := spec s
    apply BitVec.eq_of_toInt_eq
    refine le_antisymm (s2 n hs) ?_
    rcases s3 with e | ⟨k, -, e⟩
    · rw [e]
      have h1 := @BitVec.toInt_lt 32 (g n)
      show (g n).toInt ≤ 2147483647
      omega
    · rw [e]; exact hn k
  exact key _ (Finset.mem_univ n)

/-- The first lane holding the minimum. -/
theorem first_lane (f : Fin 512 → EReal) :
    IsLow f (Finset.univ.fold IntOp.minsi 2147483647#32 fun n : Fin 512 =>
      if f n = Finset.univ.fold min ⊤ f then BitVec.ofNat 32 n.val else 512#32) := by
  obtain ⟨hle, k0, hk0⟩ := fold_min_spec f
  obtain ⟨n, hn, hmin⟩ := Finset.exists_min_image (Finset.univ.filter fun n : Fin 512 => f n = Finset.univ.fold min ⊤ f) id
    ⟨k0, Finset.mem_filter.mpr ⟨Finset.mem_univ _, hk0⟩⟩
  have hn' := (Finset.mem_filter.mp hn).2
  refine ⟨n, ?_, fun k => hn' ▸ hle k, fun k hk => hmin k (Finset.mem_filter.mpr ⟨Finset.mem_univ _, hk.trans hn'⟩)⟩
  refine (fold_minsi_eq _ n fun k => ?_).trans (if_pos hn')
  rw [if_pos hn']
  by_cases hk : f k = Finset.univ.fold min ⊤ f
  · rw [if_pos hk, toInt_place, toInt_place]
    have := hmin k (Finset.mem_filter.mpr ⟨Finset.mem_univ _, hk⟩)
    exact_mod_cast Fin.le_def.mp this
  · rw [if_neg hk, toInt_place]
    have := n.isLt
    have e : (512#32 : BitVec 32).toInt = 512 := by decide
    rw [e]; omega

/-- The block's nodes. -/
theorem pay3_apply (x : Vec Ideal S2000x8 .f32) (y : Vec Ideal S8x512 .f32) (P : Fin 2000 → Fin 3 → EReal) (N : Fin 512 → Fin 3 → EReal)
    (hx : ∀ p k, x (ix2 (n0 := 2000) (n1 := 8) p k) = padded (P p) k) (hy : ∀ n k, y (ix2 (n0 := 8) (n1 := 512) k n) = padded (N n) k)
    (p : Fin 2000) : IsLow (fun n => sqdist (P p) (N n)) (k0_pay3 x y (ix3 (n0 := 1) (n1 := 1) (n2 := 2000) 0 0 p)) := by
  have e := first_lane fun n => sqdist (P p) (N n)
  have q : k0_pay3 x y (ix3 (n0 := 1) (n1 := 1) (n2 := 2000) 0 0 p) = Finset.univ.fold IntOp.minsi 2147483647#32 fun n : Fin 512 =>
      if sqdist (P p) (N n) = Finset.univ.fold min ⊤ (fun n => sqdist (P p) (N n)) then BitVec.ofNat 32 n.val else 512#32 := by
    pointwise [k0_pay3, k0_pay2]
    simp only [pay1_apply x y P N hx hy, ofBits_inf]
  rw [q]; exact e

end Cert.PartitionProof.Kernel
-- ==== Proof.PartValue.lean ====
/- The arrays that the idealized partition call returns: every point's node and its least squared distance. -/
module

public import proofs.«01_k».proof.Proof.PartKernel

@[expose] public section

set_option maxRecDepth 16384

noncomputable section

namespace Cert.PartitionProof.Kernel

open Cert.Kernel2Ideal Cert.Kernel2Ideal.Gen
open Idealize.ShloMosaic Idealize.ShloMosaic.TcCoe Idealize.SL.Sem

/-- The index maps: block `t` of the points and of the two outputs at step `t`. -/
theorem coords0 : ∀ t : Fin grid0.N, cc0_transform_0 (grid0.coords t) 0 = t.val := by decide +kernel
theorem coords2 : ∀ t : Fin grid0.N, cc0_transform_2 (grid0.coords t) 0 = t.val := by decide +kernel
theorem coords3 : ∀ t : Fin grid0.N, cc0_transform_3 (grid0.coords t) 0 = t.val := by decide +kernel

theorem steps (t : Fin grid0.N) : t.val < 10 := lt_of_lt_of_eq t.isLt (by decide +kernel)

/-- The point that lane `p` of block `t` holds. -/
def point (t : Fin 10) (p : Fin 2000) : Fin 20000 := ⟨t.val * 2000 + p.val, by have := t.isLt; have := p.isLt; omega⟩

variable (m : (ℓ : Loc nD τ sig) → Buf (Elt Ideal) ℓ) (c : Dev nD)

/-- The coordinates of a point and of a node. -/
def pt (p : Fin 20000) (k : Fin 3) : EReal := m ((c.tc : Thread nD τ).loc main_arg0) (ix2 (n0 := 20000) (n1 := 3) p k)
def nd (n : Fin 512) (k : Fin 3) : EReal := m ((c.tc : Thread nD τ).loc main_arg1) (ix2 (n0 := 512) (n1 := 3) n k)

/-- The blocks that a step reads. -/
theorem iblk0_apply (t : Fin cfg0.N) (p : Fin 2000) (k : Fin 8) :
    (iblk m c 0 t : S2000x8.Idx → EReal) (ix2 (n0 := 2000) (n1 := 8) p k) = padded (pt m c (point ⟨t.val, steps t⟩ p)) k := by
  show V m c main_v0 (((cfg0.win 0).blk t).view.emb (ix2 (n0 := 2000) (n1 := 8) p k)) = _
  rw [V_main_v0 m c]
  have e : (((cfg0.win 0).blk t).view.emb (ix2 (n0 := 2000) (n1 := 8) p k) : S20000x8.Idx)
      = ix2 (n0 := 20000) (n1 := 8) (point ⟨t.val, steps t⟩ p) k := by
    funext d
    match d with
    | ⟨0, _⟩ =>
      apply Fin.ext
      show cc0_transform_0 (grid0.coords t) 0 * 2000 + 1 * p.val = t.val * 2000 + p.val
      rw [coords0]; omega
    | ⟨1, _⟩ =>
      apply Fin.ext
      show 0 * 8 + 1 * k.val = k.val
      omega
  exact (congrArg (points _) e).trans (points_apply _ _ _)

theorem iblk1_apply (t : Fin cfg0.N) (n : Fin 512) (k : Fin 8) :
    (iblk m c 1 t : S8x512.Idx → EReal) (ix2 (n0 := 8) (n1 := 512) k n) = padded (nd m c n) k := by
  show V m c main_v2 (((cfg0.win 1).blk t).view.emb (ix2 (n0 := 8) (n1 := 512) k n)) = _
  rw [V_main_v2 m c]
  have e : (((cfg0.win 1).blk t).view.emb (ix2 (n0 := 8) (n1 := 512) k n) : S8x512.Idx)
      = ix2 (n0 := 8) (n1 := 512) k n := by
    funext d
    match d with
    | ⟨0, _⟩ =>
      apply Fin.ext
      show 0 * 8 + 1 * k.val = k.val
      omega
    | ⟨1, _⟩ =>
      apply Fin.ext
      show 0 * 512 + 1 * n.val = n.val
      omega
  exact (congrArg (nodes _) e).trans (nodes_apply _ _ _)

/-- The node word of a point: the first of the nearest nodes. -/
def near (p : Fin 20000) : BitVec 32 := Finset.univ.fold IntOp.minsi 2147483647#32 fun n : Fin 512 =>
  if sqdist (pt m c p) (nd m c n) = Finset.univ.fold min ⊤ (fun n => sqdist (pt m c p) (nd m c n)) then BitVec.ofNat 32 n.val else 512#32

theorem near_isLow (p : Fin 20000) : IsLow (fun n => sqdist (pt m c p) (nd m c n)) (near m c p) := first_lane _

/-- The least squared distance of a point. -/
def leastDist (p : Fin 20000) : EReal := Finset.univ.fold min ⊤ fun n => sqdist (pt m c p) (nd m c n)

/-- The outputs by blocks. -/
def out2 : S10x1x2000.Idx → BitVec 32 := fun i => near m c (point (i 0) (i 2))
def out3 : S10x1x2000.Idx → EReal := fun i => leastDist m c (point (i 0) (i 2))

theorem block2_apply (t : Fin cfg0.N) (p : Fin 2000) :
    (out0_2 (iblk m c 0 t) (iblk m c 1 t) : S1x1x2000.Idx → BitVec 32) (ix3 (n0 := 1) (n1 := 1) (n2 := 2000) 0 0 p)
      = near m c (point ⟨t.val, steps t⟩ p) := by
  unfold out0_2
  rw [View.canon_unit_zero (by funext a; fin_cases a <;> rfl), View.ld_unit_zero (by funext a; fin_cases a <;> rfl),
    View.ld_unit_zero (by funext a; fin_cases a <;> rfl)]
  exact (pay3_apply _ _ (fun p => pt m c (point ⟨t.val, steps t⟩ p)) (nd m c) (iblk0_apply m c t) (iblk1_apply m c t) p).unique
    (near_isLow m c _)

theorem block3_apply (t : Fin cfg0.N) (p : Fin 2000) :
    (out0_3 (iblk m c 0 t) (iblk m c 1 t) : S1x1x2000.Idx → EReal) (ix3 (n0 := 1) (n1 := 1) (n2 := 2000) 0 0 p)
      = leastDist m c (point ⟨t.val, steps t⟩ p) := by
  unfold out0_3
  rw [View.canon_unit_zero (by funext a; fin_cases a <;> rfl), View.ld_unit_zero (by funext a; fin_cases a <;> rfl),
    View.ld_unit_zero (by funext a; fin_cases a <;> rfl)]
  exact pay4_apply _ _ (fun p => pt m c (point ⟨t.val, steps t⟩ p)) (nd m c) (iblk0_apply m c t) (iblk1_apply m c t) p

/-- The output blocks cover the output arrays. -/
theorem covers2 : ((cfg0).win 2).Covers := by
  refine Pipeline.Window.covers_of_index_surj _ rfl ?_ ?_
  · intro a
    match a with
    | ⟨0, _⟩ => show 0 < 1; norm_num
    | ⟨1, _⟩ => show 0 < 1; norm_num
    | ⟨2, _⟩ => show 0 < 2000; norm_num
  · intro β
    have h0 : (β (0 : Fin 3)).val < (10 + 1 - 1) / 1 := (β (0 : Fin 3)).isLt
    have h1 : (β (1 : Fin 3)).val < (1 + 1 - 1) / 1 := (β (1 : Fin 3)).isLt
    have h2 : (β (2 : Fin 3)).val < (2000 + 2000 - 1) / 2000 := (β (2 : Fin 3)).isLt
    let t : Fin grid0.N := ⟨(β (0 : Fin 3)).val, lt_of_lt_of_eq (show _ < 10 by omega) (by decide +kernel)⟩
    refine ⟨t, fun a => ?_⟩
    match a with
    | ⟨0, _⟩ => exact coords2 t
    | ⟨1, _⟩ => show 0 = (β (1 : Fin 3)).val; omega
    | ⟨2, _⟩ => show 0 = (β (2 : Fin 3)).val; omega

theorem covers3 : ((cfg0).win 3).Covers := by
  refine Pipeline.Window.covers_of_index_surj _ rfl ?_ ?_
  · intro a
    match a with
    | ⟨0, _⟩ => show 0 < 1; norm_num
    | ⟨1, _⟩ => show 0 < 1; norm_num
    | ⟨2, _⟩ => show 0 < 2000; norm_num
  · intro β
    have h0 : (β (0 : Fin 3)).val < (10 + 1 - 1) / 1 := (β (0 : Fin 3)).isLt
    have h1 : (β (1 : Fin 3)).val < (1 + 1 - 1) / 1 := (β (1 : Fin 3)).isLt
    have h2 : (β (2 : Fin 3)).val < (2000 + 2000 - 1) / 2000 := (β (2 : Fin 3)).isLt
    let t : Fin grid0.N := ⟨(β (0 : Fin 3)).val, lt_of_lt_of_eq (show _ < 10 by omega) (by decide +kernel)⟩
    refine ⟨t, fun a => ?_⟩
    match a with
    | ⟨0, _⟩ => exact coords3 t
    | ⟨1, _⟩ => show 0 = (β (1 : Fin 3)).val; omega
    | ⟨2, _⟩ => show 0 = (β (2 : Fin 3)).val; omega

/-- An index of an output block. -/
theorem block_index (y : S1x1x2000.Idx) : y = ix3 (n0 := 1) (n1 := 1) (n2 := 2000) 0 0 (y 2) := by
  funext d
  match d with
  | ⟨0, _⟩ => exact Subsingleton.elim (α := Fin 1) _ _
  | ⟨1, _⟩ => exact Subsingleton.elim (α := Fin 1) _ _
  | ⟨2, _⟩ => rfl

/-- Where a lane of output block `t` lies in the output array. -/
theorem emb2 (t : Fin cfg0.N) (p : Fin 2000) : (((cfg0.win 2).blk t).view.emb (ix3 (n0 := 1) (n1 := 1) (n2 := 2000) 0 0 p) : S10x1x2000.Idx)
    = ix3 (n0 := 10) (n1 := 1) (n2 := 2000) ⟨t.val, steps t⟩ 0 p := by
  funext d
  match d with
  | ⟨0, _⟩ =>
    apply Fin.ext
    show cc0_transform_2 (grid0.coords t) 0 * 1 + 1 * 0 = t.val
    rw [coords2]; omega
  | ⟨1, _⟩ => exact Subsingleton.elim (α := Fin 1) _ _
  | ⟨2, _⟩ =>
    apply Fin.ext
    show 0 * 2000 + 1 * p.val = p.val
    omega

theorem emb3 (t : Fin cfg0.N) (p : Fin 2000) : (((cfg0.win 3).blk t).view.emb (ix3 (n0 := 1) (n1 := 1) (n2 := 2000) 0 0 p) : S10x1x2000.Idx)
    = ix3 (n0 := 10) (n1 := 1) (n2 := 2000) ⟨t.val, steps t⟩ 0 p := by
  funext d
  match d with
  | ⟨0, _⟩ =>
    apply Fin.ext
    show cc0_transform_3 (grid0.coords t) 0 * 1 + 1 * 0 = t.val
    rw [coords3]; omega
  | ⟨1, _⟩ => exact Subsingleton.elim (α := Fin 1) _ _
  | ⟨2, _⟩ =>
    apply Fin.ext
    show 0 * 2000 + 1 * p.val = p.val
    omega

/-- The output arrays after the run. -/
theorem block2_eq (t : Fin cfg0.N) (y : S1x1x2000.Idx) : (out0_2 (iblk m c 0 t) (iblk m c 1 t) : S1x1x2000.Idx → BitVec 32) y
    = out2 m c (((cfg0.win 2).blk t).view.emb y) := by
  obtain ⟨p, rfl⟩ : ∃ p : Fin 2000, y = ix3 (n0 := 1) (n1 := 1) (n2 := 2000) 0 0 p := ⟨y 2, block_index y⟩
  exact (block2_apply m c t p).trans (congrArg (out2 m c) (emb2 t p)).symm

theorem final2 : (dats m 0 c).arrAt 2 cfg0.N = out2 m c := by
  refine (dats m 0 c).arrAt_eq_of_covers 2 (out2 m c) covers2 fun t _ y => ?_
  rw [after0_2]
  have h := block2_eq m c t y
  generalize out2 m c = g at h ⊢
  refine Eq.trans ?_ h
  generalize out0_2 (iblk m c 0 t) (iblk m c 1 t) = z
  rfl

theorem block3_eq (t : Fin cfg0.N) (y : S1x1x2000.Idx) : (out0_3 (iblk m c 0 t) (iblk m c 1 t) : S1x1x2000.Idx → EReal) y
    = out3 m c (((cfg0.win 3).blk t).view.emb y) := by
  obtain ⟨p, rfl⟩ : ∃ p : Fin 2000, y = ix3 (n0 := 1) (n1 := 1) (n2 := 2000) 0 0 p := ⟨y 2, block_index y⟩
  exact (block3_apply m c t p).trans (congrArg (out3 m c) (emb3 t p)).symm

theorem final3 : (dats m 0 c).arrAt 3 cfg0.N = out3 m c := by
  refine (dats m 0 c).arrAt_eq_of_covers 3 (out3 m c) covers3 fun t _ y => ?_
  rw [after0_3]
  have h := block3_eq m c t y
  generalize out3 m c = g at h ⊢
  refine Eq.trans ?_ h
  generalize out0_3 (iblk m c 0 t) (iblk m c 1 t) = z
  rfl

/-- The results: the output blocks in a row. -/
theorem result4 : Pipeline.afterTail₀ cfgs (dats m) 0 (V0 m) [hostOps1] c main_v4
    = shapeCast S1x20000 (out2 m c) shapeCasts_S10x1x2000_S1x20000 := by
  unfold Pipeline.afterTail₀
  show StableHlo.after (List.flatten [hostOps1]) _ (Proc.devRef .tc main_v4) = _
  simp only [hostOps1, List.flatten_cons, List.flatten_nil, List.append_nil]
  after_results_simp
  have e := (Pipeline.withArrays_arr spec0 launch0.win.arr_inj c (V0 m c) (fun w => (dats m 0 c).arrAt w (cfgs 0).N) 2).trans (final2 m c)
  exact congrArg (fun x : S10x1x2000.Idx → BitVec 32 => shapeCast S1x20000 x shapeCasts_S10x1x2000_S1x20000) e

theorem result5 : Pipeline.afterTail₀ cfgs (dats m) 0 (V0 m) [hostOps1] c main_v5
    = shapeCast S1x20000 (out3 m c) shapeCasts_S10x1x2000_S1x20000 := by
  unfold Pipeline.afterTail₀
  show StableHlo.after (List.flatten [hostOps1]) _ (Proc.devRef .tc main_v5) = _
  simp only [hostOps1, List.flatten_cons, List.flatten_nil, List.append_nil]
  after_results_simp
  have e := (Pipeline.withArrays_arr spec0 launch0.win.arr_inj c (V0 m c) (fun w => (dats m 0 c).arrAt w (cfgs 0).N) 3).trans (final3 m c)
  exact congrArg (fun x : S10x1x2000.Idx → EReal => shapeCast S1x20000 x shapeCasts_S10x1x2000_S1x20000) e

/-- The results at a point. -/
theorem cast2_apply (p : Fin 20000) : shapeCast S1x20000 (out2 m c) shapeCasts_S10x1x2000_S1x20000 (ix2 (n0 := 1) (n1 := 20000) 0 p)
    = near m c p := by
  pointwise
  refine congrArg (near m c) ?_
  exact Fin.ext (by show p.val / 2000 * 2000 + p.val % 2000 = p.val; omega)

theorem cast3_apply (p : Fin 20000) : shapeCast S1x20000 (out3 m c) shapeCasts_S10x1x2000_S1x20000 (ix2 (n0 := 1) (n1 := 20000) 0 p)
    = leastDist m c p := by
  pointwise
  refine congrArg (leastDist m c) ?_
  exact Fin.ext (by show p.val / 2000 * 2000 + p.val % 2000 = p.val; omega)

end Cert.PartitionProof.Kernel
-- ==== Proof.PartClaims.lean ====
/- The claims of the partition: the frames, the empty ledger, and the equality of the nodes and of the least distances. -/
module

public import proofs.«01_k».proof.Defs
public import proofs.«01_k».proof.Proof.PartRef
public import proofs.«01_k».proof.Proof.PartValue
public import proofs.«01_k».proof.Proof.Gen.Kernel2.Frame
public import Idealize.ShloMosaic.Adequacy

@[expose] public section

set_option maxRecDepth 16384

noncomputable section

namespace Cert.PartitionProof

open Idealize.ShloMosaic Idealize.ShloMosaic.TcCoe Idealize.SL.Sem

/-- The partition on words runs and leaves its arguments alone. -/
theorem frame_kernel : Cert.quiescent_Kernel2 (hKernel2 := Cert.Kernel2.Gen.facts) := fun m g _ => Cert.Kernel2.Gen.frame m g

/-- So does the idealized partition. -/
theorem frame_kernelIdeal : Cert.quiescent_Kernel2Ideal (hKernel2Ideal := Cert.Kernel2Ideal.Gen.facts) :=
  fun m g _ => Cert.Kernel2Ideal.Gen.frame m g

/-- So does the reference. -/
theorem frame_referenceIdeal : Cert.quiescent_Reference2Ideal (hReference2Ideal := Cert.Reference2Ideal.Gen.facts) :=
  fun m g _ => (θ_run Cert.Reference2Ideal.defs _ _).mono
    (fun r h => ⟨fun c => (h c).2.2, sem_eq_zero_of_no_sems (by decide) r.2⟩)
    (Reference.run (F := Ideal) m g)

/-- No operation is replaced. -/
theorem preserves : Cert.preserves_Kernel2_Kernel2Ideal := trivial

/-- The reference's nodes of the kernel's arguments are the kernel's. -/
theorem nodes_eq (m : (ℓ : Loc Cert.Kernel2Ideal.nD Cert.Kernel2Ideal.τ Cert.Kernel2Ideal.sig) → Buf (Elt Ideal) ℓ) (c : Dev Cert.Kernel2Ideal.nD)
    (x : FVec Ideal Cert.Reference2Ideal.S20000x3 .f32) (y : FVec Ideal Cert.Reference2Ideal.S512x3 .f32)
    (hx : x = m ((c.tc : Thread Cert.Kernel2Ideal.nD Cert.Kernel2Ideal.τ).loc Cert.Kernel2Ideal.main_arg0))
    (hy : y = m ((c.tc : Thread Cert.Kernel2Ideal.nD Cert.Kernel2Ideal.τ).loc Cert.Kernel2Ideal.main_arg1)) :
    broadcastInDim Cert.Reference2Ideal.S1x20000 ![1] Cert.Reference2Ideal.Gen.facts.bcast_S20000_S1x20000_1
      (Reference.nodes (F := Ideal) (Reference.dists x y))
    = shapeCast Cert.Kernel2Ideal.S1x20000 (Kernel.out2 m c) Cert.Kernel2Ideal.Gen.facts.shapeCasts_S10x1x2000_S1x20000 := by
  refine funext fun (i : Cert.Kernel2Ideal.S1x20000.Idx) => ?_
  obtain ⟨z, p, rfl⟩ : ∃ (z : Fin 1) (p : Fin 20000), i = ix2 (n0 := 1) (n1 := 20000) z p := ⟨i 0, i 1, (ix2_eta i).symm⟩
  obtain rfl : z = 0 := Subsingleton.elim _ _
  refine (Reference.row_apply _ p).trans (Eq.trans ?_ (Kernel.cast2_apply m c p).symm)
  have h := Reference.nodes_dists x y p
  generalize Reference.nodes (F := Ideal) (Reference.dists x y) (ix1 p) = w at h ⊢
  subst hx hy
  exact h.unique (Kernel.near_isLow m c p)

/-- So are the least distances. -/
theorem least_eq (m : (ℓ : Loc Cert.Kernel2Ideal.nD Cert.Kernel2Ideal.τ Cert.Kernel2Ideal.sig) → Buf (Elt Ideal) ℓ) (c : Dev Cert.Kernel2Ideal.nD)
    (x : FVec Ideal Cert.Reference2Ideal.S20000x3 .f32) (y : FVec Ideal Cert.Reference2Ideal.S512x3 .f32)
    (hx : x = m ((c.tc : Thread Cert.Kernel2Ideal.nD Cert.Kernel2Ideal.τ).loc Cert.Kernel2Ideal.main_arg0))
    (hy : y = m ((c.tc : Thread Cert.Kernel2Ideal.nD Cert.Kernel2Ideal.τ).loc Cert.Kernel2Ideal.main_arg1)) :
    broadcastInDim Cert.Reference2Ideal.S1x20000 ![1] Cert.Reference2Ideal.Gen.facts.bcast_S20000_S1x20000_1
      (Reference.least (F := Ideal) (Reference.dists x y))
    = shapeCast Cert.Kernel2Ideal.S1x20000 (Kernel.out3 m c) Cert.Kernel2Ideal.Gen.facts.shapeCasts_S10x1x2000_S1x20000 := by
  refine funext fun (i : Cert.Kernel2Ideal.S1x20000.Idx) => ?_
  obtain ⟨z, p, rfl⟩ : ∃ (z : Fin 1) (p : Fin 20000), i = ix2 (n0 := 1) (n1 := 20000) z p := ⟨i 0, i 1, (ix2_eta i).symm⟩
  obtain rfl : z = 0 := Subsingleton.elim _ _
  refine (Reference.row_apply _ p).trans (Eq.trans ?_ (Kernel.cast3_apply m c p).symm)
  have h := Reference.least_dists x y p
  generalize Reference.least (F := Ideal) (Reference.dists x y) (ix1 p) = w at h ⊢
  subst hx hy
  exact h

/-- The idealized partition and the reference return the same nodes and the same least distances and leave their
    arguments alone. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => shapeCast Cert.Kernel2Ideal.S1x20000 (Kernel.out2 m c) Cert.Kernel2Ideal.Gen.facts.shapeCasts_S10x1x2000_S1x20000,
    fun c => shapeCast Cert.Kernel2Ideal.S1x20000 (Kernel.out3 m c) Cert.Kernel2Ideal.Gen.facts.shapeCasts_S10x1x2000_S1x20000, ?_, ?_⟩
  · refine (θ_run Cert.Kernel2Ideal.defs _ _).mono (fun x hx c => ⟨?_, ?_, hx.2 c⟩)
      (θ_run_and (Cert.Kernel2Ideal.Gen.run_main m g) (Cert.Kernel2Ideal.Gen.unchanged m g))
    · exact ((hx.1 c).2 Cert.Kernel2Ideal.main_v4 (Pipeline.mem_restRefs_of Cert.Kernel2Ideal.main_v4 (by decide) (by decide))).trans
        (Kernel.result4 m c)
    · exact ((hx.1 c).2 Cert.Kernel2Ideal.main_v5 (Pipeline.mem_restRefs_of Cert.Kernel2Ideal.main_v5 (by decide) (by decide))).trans
        (Kernel.result5 m c)
  · refine (θ_run Cert.Reference2Ideal.defs _ _).mono (fun x hx c => ?_) (Reference.run (F := Ideal) m' g')
    obtain ⟨a0, a1⟩ := hargs c
    exact ⟨(hx c).1.trans (nodes_eq m c _ _ a0 a1), (hx c).2.1.trans (least_eq m c _ _ a0 a1), (hx c).2.2⟩

end Cert.PartitionProof
-- ==== Proof.CoarseOrder.lean ====
/- Picking the greatest again and again, striking out each, gives the values in order, the earlier of equal ones first. -/
module

public import Idealize.ShloMosaic.Lib.SortFacts

@[expose] public section

noncomputable section

namespace Cert.CoarseProof

open Idealize.ShloMosaic

variable {α : Type} [LinearOrder α] {n : ℕ}

/-- `a` comes before `b`: it is greater, or equal and earlier. -/
def Ahead (f : Fin n → α) (a b : Fin n) : Prop := f b < f a ∨ (f a = f b ∧ a < b)

instance (f : Fin n → α) (a b : Fin n) : Decidable (Ahead f a b) := by unfold Ahead; infer_instance

theorem ahead_total (f : Fin n → α) (a b : Fin n) : ¬Ahead f a b → ¬Ahead f b a → a = b := by
  unfold Ahead
  intro h1 h2
  push Not at h1 h2
  have e : f a = f b := le_antisymm h1.1 h2.1
  exact le_antisymm (h2.2 e.symm) (h1.2 e)

theorem ahead_asymm (f : Fin n → α) (a b : Fin n) : Ahead f a b → ¬Ahead f b a := by
  unfold Ahead
  rintro (h | ⟨h, h'⟩) (k | ⟨k, k'⟩)
  · exact lt_asymm h k
  · exact absurd (k ▸ h) (lt_irrefl _)
  · exact absurd (h ▸ k) (lt_irrefl _)
  · exact lt_asymm h' k'

theorem ahead_trans (f : Fin n → α) (a b c : Fin n) : Ahead f a b → Ahead f b c → Ahead f a c := by
  unfold Ahead
  rintro (h | ⟨h, h'⟩) (k | ⟨k, k'⟩)
  · exact .inl (k.trans h)
  · exact .inl (k ▸ h)
  · exact .inl (h ▸ k)
  · exact .inr ⟨h.trans k, h'.trans k'⟩

/-- The sort that puts an element before the equal ones sorts by value and place. -/
theorem stableSort_ahead (f : Fin n → α) (R : Fin n → Fin n → Bool) (hR : ∀ a b, R a b = decide (f b < f a)) (l : List (Fin n))
    (hl : l.Pairwise (· < ·)) : stableSort R l = stableSort (fun a b => decide (Ahead f a b)) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    rw [hR, decide_eq_decide]
    unfold Ahead
    constructor
    · exact .inl
    · rintro (h | ⟨-, h⟩)
      · exact h
      · exact absurd h (lt_asymm hab)

/-- The sorted positions are in order. -/
theorem sortedFrom_ahead (f : Fin n → α) (R : Fin n → Fin n → Bool) (hR : ∀ a b, R a b = decide (f b < f a)) (i j : Fin n) (hij : i < j) :
    Ahead f (sortedFrom R i) (sortedFrom R j) := by
  have e : sortedFrom R = sortedFrom (fun a b => decide (Ahead f a b)) := by
    funext k
    unfold sortedFrom
    have := stableSort_ahead f R hR (List.finRange n) (List.pairwise_lt_finRange n)
    rw [List.get_of_eq (show sortPositions n R = sortPositions n (fun a b => decide (Ahead f a b)) from this)]
    rfl
  have hne : sortedFrom R i ≠ sortedFrom R j := fun h => absurd (sortedFrom_injective R h) (ne_of_lt hij)
  have h := sortedFrom_noInversion (fun a b => decide (Ahead f a b)) (fun a b => decide (Ahead f a b))
    (fun a b h => decide_eq_false (ahead_asymm f a b (of_decide_eq_true h))) (fun a b h => h)
    (fun a b c hab hbc => decide_eq_false fun hac => by
      have h1 := of_decide_eq_false hab
      have h2 := of_decide_eq_false hbc
      by_cases hba : Ahead f b a
      · exact h2 (ahead_trans f b a c hba hac)
      · exact h2 (ahead_total f a b h1 hba ▸ hac)) i j hij
  rw [← e] at h
  by_contra hn
  exact hne (ahead_total f _ _ hn (of_decide_eq_false h))

/-- `p` is the first of the greatest. -/
def IsTop (g : Fin n → α) (p : Fin n) : Prop := (∀ q, g q ≤ g p) ∧ ∀ q, g q = g p → p ≤ q

theorem IsTop.unique {g : Fin n → α} {p q : Fin n} (hp : IsTop g p) (hq : IsTop g q) : p = q := by
  have e : g p = g q := le_antisymm (hq.1 p) (hp.1 q)
  exact le_antisymm (hp.2 q e.symm) (hq.2 p e)

/-- The picks, each struck out with a value below all, are the positions in order. -/
theorem picks_sorted (f : Fin n → α) (d : α) (hd : ∀ p, d < f p) (σ : Fin n → Fin n) (hσ : ∀ i j, i < j → Ahead f (σ i) (σ j))
    (hs : Function.Surjective σ) (g : ℕ → Fin n → α) (p : ℕ → Fin n) (h0 : g 0 = f)
    (hg : ∀ k q, g (k + 1) q = if q = p k then d else g k q) (hp : ∀ k, IsTop (g k) (p k)) (k : ℕ) (hk : k < n) :
    p k = σ ⟨k, hk⟩ ∧ g k (p k) = f (σ ⟨k, hk⟩) := by
  have hinj : Function.Injective σ := Finite.injective_iff_surjective.mpr hs
  have main : ∀ k, k ≤ n → (∀ i : Fin n, i.val < k → g k (σ i) = d) ∧ (∀ i : Fin n, k ≤ i.val → g k (σ i) = f (σ i))
      ∧ ∀ hk : k < n, p k = σ ⟨k, hk⟩ := by
    intro k
    induction k with
    | zero =>
      intro _
      refine ⟨fun i hi => absurd hi (Nat.not_lt_zero _), fun i _ => by rw [h0], fun hk => ?_⟩
      refine (hp 0).unique ⟨fun q => ?_, fun q hq => ?_⟩
      all_goals rw [h0] at *
      all_goals obtain ⟨i, rfl⟩ := hs q
      all_goals rcases Nat.eq_zero_or_pos i.val with e | e
      · rw [show i = ⟨0, hk⟩ from Fin.ext e]
      · rcases hσ ⟨0, hk⟩ i e with h | ⟨h, -⟩
        · exact h.le
        · exact h.ge
      · rw [show i = ⟨0, hk⟩ from Fin.ext e]
      · rcases hσ ⟨0, hk⟩ i e with h | ⟨-, h⟩
        · exact absurd hq (ne_of_lt h)
        · exact h.le
    | succ k ih =>
      intro hk1
      obtain ⟨i1, i2, i3⟩ := ih (Nat.le_of_succ_le hk1)
      have e := i3 hk1
      have a1 : ∀ i : Fin n, i.val < k + 1 → g (k + 1) (σ i) = d := by
        intro i hi
        rw [hg, e]
        by_cases hik : i.val = k
        · rw [if_pos (congrArg σ (Fin.ext hik))]
        · rw [if_neg fun h => hik (congrArg Fin.val (hinj h)), i1 i (by omega)]
      have a2 : ∀ i : Fin n, k + 1 ≤ i.val → g (k + 1) (σ i) = f (σ i) := by
        intro i hi
        rw [hg, e, if_neg fun h => by have := congrArg Fin.val (hinj h); simp only at this; omega, i2 i (by omega)]
      refine ⟨a1, a2, fun hk => ?_⟩
      have b := a2 ⟨k + 1, hk⟩ (le_refl _)
      refine (hp (k + 1)).unique ⟨fun q => ?_, fun q hq => ?_⟩
      all_goals obtain ⟨i, rfl⟩ := hs q
      all_goals rcases lt_trichotomy i.val (k + 1) with h | h | h
      · rw [a1 i h, b]; exact (hd _).le
      · rw [show i = ⟨k + 1, hk⟩ from Fin.ext h]
      · rw [a2 i h.le, b]
        rcases hσ ⟨k + 1, hk⟩ i h with h | ⟨h, -⟩
        · exact h.le
        · exact h.ge
      · rw [a1 i h, b] at hq; exact absurd hq (ne_of_lt (hd _))
      · rw [show i = ⟨k + 1, hk⟩ from Fin.ext h]
      · rw [a2 i h.le, b] at hq
        rcases hσ ⟨k + 1, hk⟩ i h with h | ⟨-, h⟩
        · exact absurd hq (ne_of_lt h)
        · exact h.le
  obtain ⟨-, m2, m3⟩ := main k hk.le
  refine ⟨m3 hk, ?_⟩
  rw [m3 hk]
  exact m2 _ (le_refl _)

end Cert.CoarseProof
-- ==== Proof.CoarseSpec.lean ====
/- The coarse matching's scores in plain words: of unit rows the exponentials of the inner products, over their sums along the
   row and along the column; they are never below zero, whatever the features. -/
module

public import Idealize.ShloMosaic.PureOps.Ideal.Laws

@[expose] public section

noncomputable section

namespace Cert.CoarseProof

open Idealize.ShloMosaic

/-- A row over its length and a little more. -/
def unitAt (x : Fin 512 → Fin 256 → EReal) (r : Fin 512) (k : Fin 256) : EReal :=
  Ideal.div (x r k) (Ideal.sqrt (∑ i, x r i * x r i) + Ideal.ofBits .f32 0x322BCC77#32)

/-- The exponential of the inner product of two unit rows. -/
def simAt (x y : Fin 512 → Fin 256 → EReal) (r l : Fin 512) : EReal := Ideal.exp (∑ k, unitAt x r k * unitAt y l k)

/-- The score of a row and a lane that both count, and zero for the others. -/
def scoreAt (x y : Fin 512 → Fin 256 → EReal) (a b : Fin 512 → BitVec 32) (r l : Fin 512) : EReal :=
  Scalar.select (IntOp.andi (IntOp.cmpi .sgt (a r) 0#32) (IntOp.cmpi .sgt (b l) 0#32))
    (Ideal.div (simAt x y r l) (∑ i, simAt x y r i) * Ideal.div (simAt x y r l) (∑ i, simAt x y i l)) 0

/-! ## They are not below zero -/

/-- A number that is not an infinity. -/
def IsReal (v : EReal) : Prop := ∃ a : ℝ, v = (a : EReal)

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨x, hx⟩ := ih
    obtain ⟨y, hy⟩ := h a
    exact ⟨y + x, by rw [Finset.sum_insert ha, hx, hy, EReal.coe_add]⟩

theorem square_nonneg (x : EReal) : 0 ≤ x * x := by
  induction x with
  | bot => simp
  | top => simp
  | coe a => rw [← EReal.coe_mul]; exact_mod_cast mul_self_nonneg a

theorem eps_real : ∃ e : ℝ, 0 < e ∧ Ideal.ofBits .f32 0x322BCC77#32 = (e : EReal) := by
  refine ⟨11258999 * (2 ^ 50)⁻¹, by positivity, ?_⟩
  simp [Ideal.ofBits, Ideal.ieee]

/-- Coordinates of unit rows are real: a row with an infinite coordinate is zero over its length. -/
theorem unitAt_real (x : Fin 512 → Fin 256 → EReal) (r : Fin 512) (k : Fin 256) : IsReal (unitAt x r k) := by
  unfold unitAt
  obtain ⟨e, he, hE⟩ := eps_real
  rw [hE]
  have hle : x r k * x r k ≤ ∑ i, x r i * x r i :=
    Finset.single_le_sum (f := fun i => x r i * x r i) (fun i _ => square_nonneg (x r i)) (Finset.mem_univ k)
  generalize (∑ i, x r i * x r i) = s at hle
  have h0 : 0 ≤ s := (square_nonneg _).trans hle
  generalize x r k = v at hle
  induction s with
  | bot => exact absurd h0 (by simp)
  | top =>
    refine ⟨0, ?_⟩
    have e1 : Ideal.sqrt ⊤ + (e : EReal) = ⊤ := EReal.top_add_coe e
    rw [e1]
    simp [Ideal.div]
  | coe s =>
    have hs : 0 ≤ s := by exact_mod_cast h0
    have e1 : Ideal.sqrt (s : EReal) + (e : EReal) = ((Real.sqrt s + e : ℝ) : EReal) := by
      rw [EReal.coe_add]
      congr 1
      show (if s < 0 then ⊥ else (Real.sqrt s : EReal)) = _
      rw [if_neg (not_lt.mpr hs)]
    have hpos : 0 < Real.sqrt s + e := add_pos_of_nonneg_of_pos (Real.sqrt_nonneg s) he
    rw [e1]
    unfold Ideal.div
    rw [if_neg (by exact_mod_cast hpos.ne'), ← EReal.coe_inv]
    induction v with
    | bot => exact absurd hle (by simp)
    | top => exact absurd hle (by simp)
    | coe v => exact ⟨v * (Real.sqrt s + e)⁻¹, by rw [EReal.coe_mul]⟩

/-- The exponentials are real and above zero. -/
theorem simAt_pos (x y : Fin 512 → Fin 256 → EReal) (r l : Fin 512) : ∃ a : ℝ, 0 < a ∧ simAt x y r l = (a : EReal) := by
  obtain ⟨b, hb⟩ := IsReal.sum Finset.univ (fun k => unitAt x r k * unitAt y l k) fun k => by
    obtain ⟨u, hu⟩ := unitAt_real x r k
    obtain ⟨w, hw⟩ := unitAt_real y l k
    exact ⟨u * w, by rw [hu, hw, EReal.coe_mul]⟩
  unfold simAt
  rw [hb]
  exact ⟨Real.exp b, Real.exp_pos b, rfl⟩

/-- One of positive real numbers over the sum of them is not below zero. -/
theorem share_nonneg (f : Fin 512 → EReal) (hf : ∀ i, ∃ a : ℝ, 0 < a ∧ f i = (a : EReal)) (i : Fin 512) : 0 ≤ Ideal.div (f i) (∑ j, f j) := by
  obtain ⟨s, hs⟩ := IsReal.sum Finset.univ f fun j => (hf j).imp fun a h => h.2
  obtain ⟨a, ha, hfa⟩ := hf i
  have hle : f i ≤ ∑ j, f j := Finset.single_le_sum (fun j _ => by
    obtain ⟨b, hb, e⟩ := hf j
    rw [e]; exact_mod_cast hb.le) (Finset.mem_univ i)
  rw [hs] at hle ⊢
  rw [hfa] at hle ⊢
  have hs0 : 0 < s := ha.trans_le (by exact_mod_cast hle)
  unfold Ideal.div
  rw [if_neg (by exact_mod_cast hs0.ne'), ← EReal.coe_inv, ← EReal.coe_mul]
  exact_mod_cast mul_nonneg ha.le (inv_nonneg.mpr hs0.le)

theorem scoreAt_nonneg (x y : Fin 512 → Fin 256 → EReal) (a b : Fin 512 → BitVec 32) (r l : Fin 512) : 0 ≤ scoreAt x y a b r l := by
  unfold scoreAt Scalar.select
  split_ifs
  · exact mul_nonneg (share_nonneg (fun i => simAt x y r i) (fun i => simAt_pos x y r i) l)
      (share_nonneg (fun i => simAt x y i l) (fun i => simAt_pos x y i l) r)
  · exact le_rfl

/-- What is struck out is below every score. -/
theorem struck_lt (v : EReal) (h : 0 ≤ v) : Ideal.ofBits .f32 0xBF800000#32 < v := by
  have e : Ideal.ofBits .f32 0xBF800000#32 = ((-1 : ℝ) : EReal) := by
    have h1 : Ideal.ofBits .f32 0xBF800000#32 = ((-(8388608 * (2 ^ 23)⁻¹) : ℝ) : EReal) := by
      simp [Ideal.ofBits, Ideal.ieee]
    rw [h1]
    norm_num
  rw [e]
  exact (by exact_mod_cast neg_one_lt_zero (R := ℝ) : ((-1 : ℝ) : EReal) < 0).trans_le h

end Cert.CoarseProof
-- ==== Proof.CoarseRef.lean ====
/- The reference's coarse matching read: its scores, and which of them it picks. -/
module

public import proofs.«01_k».proof.Proof.Gen.Reference3Ideal.Run
public import proofs.«01_k».proof.Proof.CoarseOrder
public import proofs.«01_k».proof.Proof.CoarseSpec
public import Idealize.ShloMosaic.Lib.Pipeline.ValueKit
public import Idealize.ShloMosaic.PureOps.Ideal.Laws
public import Idealize.ShloMosaic.Lib.Routing.Words

@[expose] public section

set_option maxRecDepth 16384

noncomputable section

namespace Cert.CoarseProof.Reference3Ideal

open Cert.Reference3Ideal Cert.Reference3Ideal.Gen Cert.Reference3Ideal.Value
open Idealize.ShloMosaic Idealize.ShloMosaic.TcCoe Idealize.SL.Sem

variable {F : FTy → Type} [FloatOps F]

/-! ## The terms -/

/-- Rows over their lengths. -/
def unit (x : FVec F S512x256 .f32) : FVec F S512x256 .f32 :=
  Host.divf x (broadcastInDim S512x256 ![0, 1] bcast_S512x1_S512x256_0_1 (addf (Host.sqrt (broadcastInDim S512x1 ![0] bcast_S512_S512x1_0
    (Host.reduceAdd (mulf x x) (constant S_ .f32 0x00000000#32) reducesTo_S512x256_S512_d1 h_S_)))
    (broadcastInDim S512x1 ![] bcast_S_S512x1 (constant S_ .f32 0x322BCC77#32))))

/-- The exponentials of the inner products of the rows. -/
def sims (x0 x1 : FVec F S512x256 .f32) : FVec F S512x512 .f32 :=
  Host.exp (Host.dotGeneral dot_S512x256_S256x512_S512x512_1_0_0_1_n_n none (unit x0)
    (transpose S256x512 [1, 0] (unit x1) transposes_S512x256_S256x512_1_0))

/-- Which rows and lanes count. -/
def mask (x2 x3 : IVec S512 32) : IVec S512x512 1 :=
  andi (broadcastInDim S512x512 ![0, 1] bcast_S512x1_S512x512_0_1 (broadcastInDim S512x1 ![0] bcast_S512_S512x1_0
      (cmpi .sgt x2 (broadcastInDim S512 ![] bcast_S_S512 (constantI S_ 32 0#32)))))
    (broadcastInDim S512x512 ![0, 1] bcast_S1x512_S512x512_0_1 (broadcastInDim S1x512 ![1] bcast_S512_S1x512_1
      (cmpi .sgt x3 (broadcastInDim S512 ![] bcast_S_S512 (constantI S_ 32 0#32)))))

/-- The product of the two normalisations. -/
def both (e : FVec F S512x512 .f32) : FVec F S512x512 .f32 :=
  mulf (Host.divf e (broadcastInDim S512x512 ![0, 1] bcast_S512x1_S512x512_0_1 (broadcastInDim S512x1 ![0] bcast_S512_S512x1_0
      (Host.reduceAdd e (constant S_ .f32 0x00000000#32) reducesTo_S512x512_S512_d1 h_S_))))
    (Host.divf e (broadcastInDim S512x512 ![0, 1] bcast_S1x512_S512x512_0_1 (broadcastInDim S1x512 ![1] bcast_S512_S1x512_1
      (Host.reduceAdd e (constant S_ .f32 0x00000000#32) reducesTo_S512x512_S512_d0 h_S_))))

/-- The scores. -/
def scores (x0 x1 : FVec F S512x256 .f32) (x2 x3 : IVec S512 32) : FVec F S512x512 .f32 :=
  select (mask x2 x3) (both (sims x0 x1)) (broadcastInDim S512x512 ![] bcast_S_S512x512 (id (constant S_ .f32 0x00000000#32)))

/-- The picks of a row of scores. -/
def picks (v : FVec F S262144 .f32) : FVec F S256 .f32 × IVec S256 32 :=
  Host.topK S256 0 (FloatOps.cmpfTotal .gt) v sliceFits_S262144_S256

/-- The scores of this memory. -/
def mine (m : (ℓ : Loc nD τ sig) → Buf (Elt F) ℓ) (c : Dev nD) : FVec F S512x512 .f32 :=
  scores (m ((c.tc : Thread nD τ).loc main_arg0)) (m ((c.tc : Thread nD τ).loc main_arg1)) (m ((c.tc : Thread nD τ).loc main_arg2))
    (m ((c.tc : Thread nD τ).loc main_arg3))

def rowOf (w : IVec S256 32) : IVec S256 32 :=
  select (andi (cmpi .ne (signi w) (broadcastInDim S256 ![] bcast_S_S256 (signi (id (constantI S_ 32 512#32))))) (cmpi .ne (Host.remsi w (broadcastInDim S256 ![] bcast_S_S256 (id (constantI S_ 32 512#32)))) (broadcastInDim S256 ![] bcast_S_S256 (constantI S_ 32 0#32)))) (subi (Host.divsi w (broadcastInDim S256 ![] bcast_S_S256 (id (constantI S_ 32 512#32)))) (broadcastInDim S256 ![] bcast_S_S256 (constantI S_ 32 1#32))) (Host.divsi w (broadcastInDim S256 ![] bcast_S_S256 (id (constantI S_ 32 512#32))))

def divisor : IVec S_ 32 := select (cmpi .eq (id (constantI S_ 32 512#32)) (constantI S_ 32 0#32)) (constantI S_ 32 1#32) (id (constantI S_ 32 512#32))

def laneOf (w : IVec S256 32) : IVec S256 32 :=
  select (andi (cmpi .ne (cmpi .slt (Host.remsi w (broadcastInDim S256 ![] bcast_S_S256 divisor)) (broadcastInDim S256 ![] bcast_S_S256 (constantI S_ 32 0#32))) (broadcastInDim S256 ![] bcast_S_S256 (cmpi .slt divisor (constantI S_ 32 0#32)))) (cmpi .ne (Host.remsi w (broadcastInDim S256 ![] bcast_S_S256 divisor)) (broadcastInDim S256 ![] bcast_S_S256 (constantI S_ 32 0#32)))) (addi (Host.remsi w (broadcastInDim S256 ![] bcast_S_S256 divisor)) (broadcastInDim S256 ![] bcast_S_S256 divisor)) (Host.remsi w (broadcastInDim S256 ![] bcast_S_S256 divisor))

theorem out2_eq (m : (ℓ : Loc nD τ sig) → Buf (Elt F) ℓ) (c : Dev nD) :
    res_main_values m c = (picks (shapeCast S262144 (mine m c) shapeCasts_S512x512_S262144)).1 := rfl

theorem out0_eq (m : (ℓ : Loc nD τ sig) → Buf (Elt F) ℓ) (c : Dev nD) :
    res_main_v33 m c = rowOf (picks (shapeCast S262144 (mine m c) shapeCasts_S512x512_S262144)).2 := rfl

theorem out1_eq (m : (ℓ : Loc nD τ sig) → Buf (Elt F) ℓ) (c : Dev nD) :
    res_main_v34 m c = laneOf (picks (shapeCast S262144 (mine m c) shapeCasts_S512x512_S262144)).2 := rfl

/-! ## Rows and lanes of a place -/

theorem rowOf_apply (w : IVec S256 32) (j : S256.Idx) (n : ℕ) (hn : n < 262144) (h : w j = BitVec.ofNat 32 n) :
    rowOf w j = BitVec.ofNat 32 (n / 512) := by
  unfold rowOf
  pointwise
  rw [h]
  have e : (id (constantI S_ 32 512#32) : IVec S_ 32) ix0 = BitVec.ofNat 32 512 := rfl
  rw [e, Routing.remsi_word _ (by omega) (by omega) (by omega), Routing.divsi_word _ (by omega) (by omega) (by omega)]
  have en : (BitVec.ofNat 32 n).toNat = n := by rw [BitVec.toNat_ofNat, Nat.mod_eq_of_lt (by omega)]
  have em : (BitVec.ofNat 32 n).msb = false := by
    rw [BitVec.msb_eq_decide, en]
    exact decide_eq_false (by omega)
  by_cases h0 : n = 0
  · subst h0; rfl
  · have ez : ¬BitVec.ofNat 32 n = 0 := fun hz => h0 (by rw [← en, hz]; rfl)
    rw [if_neg ez, em]
    have e1 : ¬(BitVec.ofNat 32 512 = 0) := by decide
    have e2 : (BitVec.ofNat 32 512).msb = false := by decide
    rw [if_neg e1, e2]
    have e3 : IntOp.cmpi .ne (1#32 : BitVec 32) 1#32 = 0#1 := by decide
    simp [e3, IntOp.andi, Scalar.select]

theorem laneOf_apply (w : IVec S256 32) (j : S256.Idx) (n : ℕ) (hn : n < 262144) (h : w j = BitVec.ofNat 32 n) :
    laneOf w j = BitVec.ofNat 32 (n % 512) := by
  have ed : ∀ i, divisor i = BitVec.ofNat 32 512 := fun i => rfl
  unfold laneOf
  generalize divisor = d at ed
  pointwise
  rw [h, ed, Routing.remsi_word _ (by omega) (by omega) (by omega)]
  have en : (BitVec.ofNat 32 (n % 512)).toNat = n % 512 := by rw [BitVec.toNat_ofNat, Nat.mod_eq_of_lt (by omega)]
  have es : (BitVec.ofNat 32 (n % 512)).slt 0#32 = false := by
    rw [BitVec.slt_zero_eq_msb, BitVec.msb_eq_decide, en]
    exact decide_eq_false (by omega)
  have e3 : IntOp.cmpi .ne (IntOp.cmpi .slt (BitVec.ofNat 32 (n % 512)) 0#32) (IntOp.cmpi .slt (BitVec.ofNat 32 512) 0#32) = 0#1 := by
    have e1 : IntOp.cmpi .slt (BitVec.ofNat 32 (n % 512)) 0#32 = 0#1 := congrArg BitVec.ofBool es
    rw [e1]; decide
  rw [e3]
  simp [IntOp.andi, Scalar.select]

/-! ## What is picked -/

theorem along_fin {n : ℕ} (j : Shape.Idx ⟨1, ![n]⟩) (k : Fin n) : j.along 0 k = ix1 (n0 := n) k := by
  funext a
  obtain rfl : a = 0 := Subsingleton.elim _ _
  exact Function.update_self _ _ _

/-- A sort of two lists by a comparison. -/
theorem sort2_eq {n : ℕ} {α β : Type} (cmp : α × β → α × β → BitVec 1) (x : Shape.Idx ⟨1, ![n]⟩ → α) (y : Shape.Idx ⟨1, ![n]⟩ → β) :
    Host.sort2 ⟨1, ![n]⟩ 0 cmp x y
      = (fun j => x (ix1 (sortedFrom (fun k k' : Fin n => cmp (x (ix1 k), y (ix1 k)) (x (ix1 k'), y (ix1 k')) == 1#1) (j 0))),
        fun j => y (ix1 (sortedFrom (fun k k' : Fin n => cmp (x (ix1 k), y (ix1 k)) (x (ix1 k'), y (ix1 k')) == 1#1) (j 0)))) := by
  unfold Host.sort2
  rw [dif_pos (show 0 < (⟨1, ![n]⟩ : Shape).rank from Nat.one_pos)]
  refine Prod.ext (funext fun j => ?_) (funext fun j => ?_)
  · have e := fun k : Fin n => along_fin j k
    show x (j.along 0 (sortedFrom (fun k k' : Fin n => cmp (x (j.along 0 k), y (j.along 0 k)) (x (j.along 0 k'), y (j.along 0 k')) == 1#1) (j 0))) = _
    simp only [e]
    exact congrArg x (e _)
  · have e := fun k : Fin n => along_fin j k
    show y (j.along 0 (sortedFrom (fun k k' : Fin n => cmp (x (j.along 0 k), y (j.along 0 k)) (x (j.along 0 k'), y (j.along 0 k')) == 1#1) (j 0))) = _
    simp only [e]
    exact congrArg y (e _)

/-- The `m` greatest of `n` values: a way through all of them, greatest first, equal ones by their places. -/
theorem topK_spec {n m : ℕ} (v : Shape.Idx ⟨1, ![n]⟩ → EReal) (h : Shape.Slices ⟨1, ![n]⟩ (fun _ => 0) ⟨1, ![m]⟩) (hmn : m ≤ n) :
    ∃ σ : Fin n → Fin n, Function.Surjective σ ∧ (∀ i j, i < j → Ahead (fun q => v (ix1 (n0 := n) q)) (σ i) (σ j))
    ∧ (∀ k : Fin m, (Host.topK ⟨1, ![m]⟩ 0 (FloatOps.cmpfTotal (F := Ideal) (φ := .f32) .gt) v h).1 (ix1 (n0 := m) k)
        = v (ix1 (n0 := n) (σ ⟨k.val, by omega⟩)))
    ∧ ∀ k : Fin m, (Host.topK ⟨1, ![m]⟩ 0 (FloatOps.cmpfTotal (F := Ideal) (φ := .f32) .gt) v h).2 (ix1 (n0 := m) k)
        = BitVec.ofNat 32 (σ ⟨k.val, by omega⟩).val := by
  have hR : ∀ a b : Fin n, (FloatOps.cmpfTotal (F := Ideal) (φ := .f32) .gt (v (ix1 a)) (v (ix1 b)) == 1#1) = decide (v (ix1 b) < v (ix1 a)) := by
    intro a b
    show (Ideal.cmp .ogt (v (ix1 a)) (v (ix1 b)) == 1#1) = _
    by_cases hab : v (ix1 b) < v (ix1 a) <;> simp [Ideal.cmp, hab]
  refine ⟨sortedFrom fun a b => FloatOps.cmpfTotal (F := Ideal) (φ := .f32) .gt (v (ix1 a)) (v (ix1 b)) == 1#1, sortedFrom_surjective _,
    fun i j hij => sortedFrom_ahead (fun q => v (ix1 (n0 := n) q)) _ hR i j hij, fun k => ?_, fun k => ?_⟩
  · show extractStridedSlice ⟨1, ![m]⟩ (fun _ => 0) (Host.sort2 ⟨1, ![n]⟩ 0 (fun l r => FloatOps.cmpfTotal (F := Ideal) (φ := .f32) .gt l.1 r.1)
      v (fun i => iotaInDim ⟨1, ![n]⟩ 32 0 i)).1 h (ix1 k) = _
    rw [sort2_eq]
    unfold extractStridedSlice
    refine congrArg v (congrArg ix1 (congrArg _ (Fin.ext ?_)))
    exact Nat.zero_add _
  · show extractStridedSlice ⟨1, ![m]⟩ (fun _ => 0) (Host.sort2 ⟨1, ![n]⟩ 0 (fun l r => FloatOps.cmpfTotal (F := Ideal) (φ := .f32) .gt l.1 r.1)
      v (fun i => iotaInDim ⟨1, ![n]⟩ 32 0 i)).2 h (ix1 k) = _
    rw [sort2_eq]
    unfold extractStridedSlice
    refine congrArg (fun q : Fin n => BitVec.ofNat 32 q.val) (congrArg _ (Fin.ext ?_))
    exact Nat.zero_add _

/-! ## The scores -/

theorem unit_apply (x : FVec Ideal S512x256 .f32) (r : Fin 512) (k : Fin 256) :
    unit (F := Ideal) x (ix2 r k) = unitAt (fun r k => x (ix2 (n0 := 512) (n1 := 256) r k)) r k := by
  unfold unit unitAt
  pointwise

theorem sims_apply (x0 x1 : FVec Ideal S512x256 .f32) (r l : Fin 512) : sims (F := Ideal) x0 x1 (ix2 r l)
    = simAt (fun r k => x0 (ix2 (n0 := 512) (n1 := 256) r k)) (fun r k => x1 (ix2 (n0 := 512) (n1 := 256) r k)) r l := by
  unfold sims simAt
  simp only [← unit_apply]
  generalize unit (F := Ideal) x0 = y0, unit (F := Ideal) x1 = y1
  pointwise

theorem mask_apply (x2 x3 : IVec S512 32) (r l : Fin 512) : mask x2 x3 (ix2 r l)
    = IntOp.andi (IntOp.cmpi .sgt (x2 (ix1 r)) 0#32) (IntOp.cmpi .sgt (x3 (ix1 l)) 0#32) := by
  unfold mask
  pointwise

theorem both_apply (e : FVec Ideal S512x512 .f32) (r l : Fin 512) : both (F := Ideal) e (ix2 r l)
    = Ideal.div (e (ix2 r l)) (∑ i : Fin 512, e (ix2 r i)) * Ideal.div (e (ix2 r l)) (∑ i : Fin 512, e (ix2 i l)) := by
  unfold both
  pointwise

/-- The reference's scores are those. -/
theorem scores_apply (x0 x1 : FVec Ideal S512x256 .f32) (x2 x3 : IVec S512 32) (r l : Fin 512) : scores (F := Ideal) x0 x1 x2 x3 (ix2 r l)
    = scoreAt (fun r k => x0 (ix2 (n0 := 512) (n1 := 256) r k)) (fun r k => x1 (ix2 (n0 := 512) (n1 := 256) r k))
        (fun r => x2 (ix1 (n0 := 512) r)) (fun l => x3 (ix1 (n0 := 512) l)) r l := by
  unfold scores scoreAt
  simp only [← sims_apply, ← mask_apply, ← both_apply]
  generalize both (F := Ideal) _ = b, mask x2 x3 = k
  pointwise
  have e : (id (constant S_ .f32 0x00000000#32) : FVec Ideal S_ .f32) ix0 = (0 : EReal) := Ideal.ofBits_zero_f32
  rw [e]

end Cert.CoarseProof.Reference3Ideal
-- ==== Proof.CoarseFrame.lean ====
/- The frame of the coarse matching: the scores in the scratch buffer, and the lanes of the outputs, after so many trips of
   the loop; the run of the body; the run of the program. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.WritesUnit
public import Idealize.ShloMosaic.Lib.Pipeline.Value
public import Idealize.ShloMosaic.Lib.VecWindow
public import Idealize.ShloMosaic.Lib.LaneScatter.Fold
public import Idealize.ShloMosaic.Lib.WordArith.Masks

@[expose] public section

set_option maxRecDepth 16384

noncomputable section

namespace Cert.CoarseProof.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the loop computes -/

/-- The row numbers and the lane numbers of the scores, and the lane numbers of the outputs. -/
abbrev rows : IVec S512x512 32 := iota .tc S512x512 32 [0] iota_S512x512_d0_w32
abbrev lanes : IVec S512x512 32 := iota .tc S512x512 32 [1] iota_S512x512_d1_w32
abbrev places : IVec S1x256 32 := iota .tc S1x256 32 [1] iota_S1x256_d1_w32

/-- The scores before the first trip. -/
def start (x0 x1 : Vec F S512x256 .f32) (x2 : Vec F S512x1 .i32) (x3 : Vec F S1x512 .i32) : FVec F S512x512 .f32 :=
  k0_pay1 (k0_pay11 x0 x1 x2 x3)

theorem start_of {x0 x1 y0 y1 : Vec F S512x256 .f32} {x2 y2 : Vec F S512x1 .i32} {x3 y3 : Vec F S1x512 .i32} (h0 : y0 = x0) (h1 : y1 = x1)
    (h2 : y2 = x2) (h3 : y3 = x3) : k0_pay1 (k0_pay11 y0 y1 y2 y3) = start x0 x1 x2 x3 := by
  subst h0 h1 h2 h3; rfl

/-- The scores before trip `k`: each trip strikes out its greatest. -/
def left (s : FVec F S512x512 .f32) : ℕ → FVec F S512x512 .f32
  | 0 => s
  | k + 1 => k0_pay8 rows lanes (left s k)

/-- The one index of a vector of one element. -/
abbrev one : S1x1.Idx := fun _ => ⟨0, by decide +revert⟩

/-- The outputs after the loop: at lane `k` the row, the column and the score that trip `k` found. -/
def rowOut (s : FVec F S512x512 .f32) : Vec F S1x256 .i32 := fun j => k0_pay5 rows (left s (j 1).val) one
def laneOut (s : FVec F S512x512 .f32) : Vec F S1x256 .i32 := fun j => k0_pay7 rows lanes (left s (j 1).val) one
def scoreOut (s : FVec F S512x512 .f32) : Vec F S1x256 .f32 := fun j => k0_pay4 (left s (j 1).val) one

/-- The lanes before `k` hold what they hold after the loop. -/
def Done (s : FVec F S512x512 .f32) (k : ℕ) (a b : Vec F S1x256 .i32) (g : Vec F S1x256 .f32) : Prop :=
  ∀ j : S1x256.Idx, (j 1).val < k → a j = rowOut s j ∧ b j = laneOut s j ∧ g j = scoreOut s j

theorem trips_eq : k0_t1_loop.trips = 256 := by decide +kernel

/-- Lane `j` is written at trip `j` alone. -/
theorem pay9_apply (k : Fin k0_t1_loop.trips) (j : S1x256.Idx) :
    k0_pay9 places 0#32 1#32 k j = if (j 1).val = k.val then 1#1 else 0#1 := by
  have hk : k.val < 256 := lt_of_lt_of_eq k.isLt trips_eq
  have hj : (j 1).val < 256 := (j 1).isLt
  have hv : (Scf.iv 0#32 1#32 k.val).toNat = k.val := WordArith.toNat_iv_zero_one k.val (by omega)
  have hp : (places j).toNat = (j 1).val := by
    show (BitVec.ofNat 32 (0 * 256 + (j 1).val)).toNat = _
    rw [BitVec.toNat_ofNat]
    omega
  have he : k0_pay9 places 0#32 1#32 k j = if places j = Scf.iv 0#32 1#32 k.val then 1#1 else 0#1 := by
    unfold k0_pay9
    show (Scalar.cmpi .eq (places j) (Scf.iv 0#32 1#32 k.val)) = _
    generalize places j = p, Scf.iv 0#32 1#32 k.val = q
    by_cases h : p = q
    · simp [Scalar.cmpi, IntOp.cmpi, h]
    · simp [Scalar.cmpi, IntOp.cmpi, beq_eq_false_iff_ne.mpr h, h]
  rw [he]
  by_cases h : (j 1).val = k.val
  · rw [if_pos h, if_pos (BitVec.eq_of_toNat_eq (by rw [hp, hv, h]))]
  · rw [if_neg h, if_neg fun e => h (by rw [← hp, ← hv, e])]

/-- One element put at every lane where the bit is set. -/
theorem spread {α : Type} (q : IVec S1x256 1) (x : S1x1.Idx → α) (y : S1x256.Idx → α) (j : S1x256.Idx) :
    select q (broadcastTo S1x256 (shapeCast S1x1 x shapeCasts_S1x1_S1x1) broadcasts_S1x1_S1x256) (shapeCast S1x256 y shapeCasts_S1x256_S1x256) j
      = if q j = 1#1 then x one else y j := by
  rw [shapeCast_self, shapeCast_self]
  show (if q j = 1#1 then broadcastTo S1x256 x broadcasts_S1x1_S1x256 j else y j) = _
  rw [broadcastTo_apply x broadcasts_S1x1_S1x256 j one (fun a => by fin_cases a <;> rfl)]

/-- A trip sets its own lane. -/
theorem done_succ (s : FVec F S512x512 .f32) (k : Fin k0_t1_loop.trips) (a b : Vec F S1x256 .i32) (g : Vec F S1x256 .f32)
    (h : Done s k.val a b g) (x7 : FVec F S512x512 .f32) (x4 x5 : Vec F S1x256 .i32) (x6 : Vec F S1x256 .f32) (h7 : x7 = left s k.val)
    (h4 : x4 = a) (h5 : x5 = b) (h6 : x6 = g) :
    Done s (k.val + 1) (k0_pay10 rows places 0#32 1#32 k x7 x4) (k0_pay2 (F := F) (k0_pay7 rows lanes x7) (k0_pay9 places 0#32 1#32 k) x5)
      (k0_pay3 (k0_pay4 x7) (k0_pay9 places 0#32 1#32 k) x6) := by
  subst h7 h4 h5 h6
  intro j hj
  have h9 := pay9_apply k j
  have e1 : k0_pay10 rows places 0#32 1#32 k (left s k.val) x4 j
      = if k0_pay9 places 0#32 1#32 k j = 1#1 then k0_pay5 rows (left s k.val) one else x4 j := by
    exact spread _ _ _ j
  have e2 : k0_pay2 (F := F) (k0_pay7 rows lanes (left s k.val)) (k0_pay9 places 0#32 1#32 k) x5 j
      = if k0_pay9 places 0#32 1#32 k j = 1#1 then k0_pay7 rows lanes (left s k.val) one else x5 j := by
    exact spread _ _ _ j
  have e3 : k0_pay3 (k0_pay4 (left s k.val)) (k0_pay9 places 0#32 1#32 k) x6 j
      = if k0_pay9 places 0#32 1#32 k j = 1#1 then k0_pay4 (left s k.val) one else x6 j := by
    exact spread _ _ _ j
  rw [e1, e2, e3, h9]
  by_cases e : (j 1).val = k.val
  · rw [if_pos e, if_pos rfl, if_pos rfl, if_pos rfl]
    unfold rowOut laneOut scoreOut
    rw [e]
    exact ⟨rfl, rfl, rfl⟩
  · rw [if_neg e]
    have hz : ¬(0#1 = 1#1) := by decide
    rw [if_neg hz, if_neg hz, if_neg hz]
    exact h j (by omega)

/-- After the last trip every lane is done. -/
theorem done_all (s : FVec F S512x512 .f32) (a b : Vec F S1x256 .i32) (g : Vec F S1x256 .f32) (h : Done s k0_t1_loop.trips a b g) :
    a = rowOut s ∧ b = laneOut s ∧ g = scoreOut s :=
  have hl : ∀ j : S1x256.Idx, (j 1).val < k0_t1_loop.trips := fun j => lt_of_lt_of_eq (j 1).isLt trips_eq.symm
  ⟨funext fun j => (h j (hl j)).1, funext fun j => (h j (hl j)).2.1, funext fun j => (h j (hl j)).2.2⟩

/-! ## The body's run -/

theorem zero2 : (![0, 0] : Fin 2 → ℕ) = fun _ => 0 := by funext a; fin_cases a <;> rfl

/-- A store of a whole buffer of rank two leaves what was stored. -/
theorem read_store {d : Fin 2 → ℕ} {e : EltTy} (M : View sig .tc .vmem (⟨2, d⟩ : Shape) e) (f : M.ty.Contents (Elt F))
    (hb : ∀ a, (![0, 0] : Fin 2 → ℕ) a + d a ≤ d a) (p : (⟨2, d⟩ : Shape).Idx → Elt F e) :
    M.read (Elt F) (M.writes (Elt F) f [⟨Rect.unit (s := (⟨2, d⟩ : Shape)) ![0, 0] d hb, p⟩]) = p := by
  funext y
  exact View.read_writes_cons_unit_of_mem M f hb p [] y y zero2 fun a => (Nat.zero_add _).symm

section Body

variable (c : Dev nD) (arg0 : Memref sig .tc .vmem S512x256 .f32) (harg0 : arg0.IsWhole) (arg1 : Memref sig .tc .vmem S512x256 .f32)
  (harg1 : arg1.IsWhole) (arg2 : Memref sig .tc .vmem S512x1 .i32) (harg2 : arg2.IsWhole) (arg3 : Memref sig .tc .vmem S1x512 .i32)
  (harg3 : arg3.IsWhole) (arg4 : Memref sig .tc .vmem S1x256 .i32) (harg4 : arg4.IsWhole) (arg5 : Memref sig .tc .vmem S1x256 .i32)
  (harg5 : arg5.IsWhole) (arg6 : Memref sig .tc .vmem S1x256 .f32) (harg6 : arg6.IsWhole) (arg7 : Memref sig .tc .vmem S512x512 .f32)
  (harg7 : arg7.IsWhole)

/-- Before trip `k`: the scores left, and outputs whose lanes before `k` are done. -/
def inv (s : FVec F S512x512 .f32) (k : ℕ) (_ : Unit) : sProp 𝕄 :=
  iprop(owns (c : Thread nD τ) arg7 fullShare (left s k)
    ∗ ∃ a b g, owns (c : Thread nD τ) arg4 fullShare a ∗ owns (c : Thread nD τ) arg5 fullShare b ∗ owns (c : Thread nD τ) arg6 fullShare g
      ∗ ⌜Done s k a b g⌝)

abbrev bodyOf : Fin k0_t1_loop.trips → Unit → Prog (TpuEff nD τ sig (Elt F) Λ₀ .tc) Unit :=
  k0_t1_body arg0 harg0 arg1 harg1 arg2 harg2 arg3 harg3 arg4 harg4 arg5 harg5 arg6 harg6 arg7 harg7 rows lanes places

set_option maxHeartbeats 1000000 in
/-- A trip keeps the invariant. -/
theorem trip (E : Set ℕ) (s : FVec F S512x512 .f32) (k : Fin k0_t1_loop.trips) (u : Unit) :
    inv c arg4 arg5 arg6 arg7 s k.val u ⊢ wp frame (wpE (defs₀ (F := F)) Variants.none c none) E
      (bodyOf arg0 harg0 arg1 harg1 arg2 harg2 arg3 harg3 arg4 harg4 arg5 harg5 arg6 harg6 arg7 harg7 k u) (inv c arg4 arg5 arg6 arg7 s (k.val + 1)) := by
  unfold bodyOf k0_t1_body inv owns
  simp only [k0_part1_eq_skeleton]; unfold k0_part1_skel
  iintro ⟨⟨%f7, %h7, H7⟩, %a, %b, %g, ⟨%f4, %h4, H4⟩, ⟨%f5, %h5, H5⟩, ⟨%f6, %h6, H6⟩, %hd⟩
  sl_exec
  sl_step
  isplitl [H7]
  · iexists _; isplitr
    swap; · iexact H7
    ipureintro
    refine (read_store _ _ _ _).trans ?_
    rw [View.readAt_full (s := S512x512), h7]; rfl
  iexists _, _, _
  isplitl [H4]
  · iexists _; isplitr
    swap; · iexact H4
    ipureintro; exact read_store _ _ _ _
  isplitl [H5]
  · iexists _; isplitr
    swap; · iexact H5
    ipureintro; exact read_store _ _ _ _
  isplitl [H6]
  · iexists _; isplitr
    swap; · iexact H6
    ipureintro; exact read_store _ _ _ _
  ipureintro
  have g7 := (View.readAt_full arg7.view f7 inb_S512x512_S512x512_0_0).trans h7
  have g4 := (View.readAt_full arg4.view f4 inb_S1x256_S1x256_0_0).trans h4
  have g5 := (View.readAt_full arg5.view f5 inb_S1x256_S1x256_0_0).trans h5
  have g6 := (View.readAt_full arg6.view f6 inb_S1x256_S1x256_0_0).trans h6
  have hn := done_succ s k a b g hd _ _ _ _ g7 g4 g5 g6
  dsimp only
  refine Eq.mp ?_ hn
  congr 1

/-- The loop, from the scores and any outputs. -/
theorem loop_run (E : Set ℕ) (s : FVec F S512x512 .f32) :
    inv c arg4 arg5 arg6 arg7 s 0 () ⊢ wp frame (wpE (defs₀ (F := F)) Variants.none c none) E
      (Scf.Loop.for k0_t1_loop k0_t1_ok ⟨⟩ (bodyOf arg0 harg0 arg1 harg1 arg2 harg2 arg3 harg3 arg4 harg4 arg5 harg5 arg6 harg6 arg7 harg7))
      (fun _ => inv c arg4 arg5 arg6 arg7 s k0_t1_loop.trips ()) := by
  iintro H
  iapply (Scf.wp_for frame (wpE (defs₀ (F := F)) Variants.none c none) E _ _ _ k0_t1_ok ⟨⟩
    (bodyOf arg0 harg0 arg1 harg1 arg2 harg2 arg3 harg3 arg4 harg4 arg5 harg5 arg6 harg6 arg7 harg7) (inv c arg4 arg5 arg6 arg7 s)
    (trip c arg0 harg0 arg1 harg1 arg2 harg2 arg3 harg3 arg4 harg4 arg5 harg5 arg6 harg6 arg7 harg7 E s))
  isplitl [H]
  · iexact H
  iintro %_ H
  iexact H

set_option maxHeartbeats 1000000 in
/-- The body from its inputs' blocks: the outputs end at what the trips find, the inputs as they were. -/
theorem sound_kernel (E : Set ℕ) (x0 x1 : Vec F S512x256 .f32) (x2 : Vec F S512x1 .i32) (x3 : Vec F S1x512 .i32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (rowOut (start x0 x1 x2 x3)) ∗ owns (c : Thread nD τ) arg5 fullShare (laneOut (start x0 x1 x2 x3))
            ∗ owns (c : Thread nD τ) arg6 fullShare (scoreOut (start x0 x1 x2 x3)) ∗ (∃ d, owns (c : Thread nD τ) arg7 fullShare d)) -∗ K ⟨⟩))
      ⊢ wp frame (wpE (defs₀ (F := F)) Variants.none c none) E
          (cc0__coarse_body arg0 harg0 arg1 harg1 arg2 harg2 arg3 harg3 arg4 harg4 arg5 harg5 arg6 harg6 arg7 harg7) K := by
  simp only [cc0__coarse_body_eq_skeleton]; unfold cc0__coarse_body_skel
  simp only [k0_part2_eq_skeleton]; unfold k0_part2_skel
  have hloop := loop_run c arg0 harg0 arg1 harg1 arg2 harg2 arg3 harg3 arg4 harg4 arg5 harg5 arg6 harg6 arg7 harg7 E (start x0 x1 x2 x3)
  unfold bodyOf at hloop
  generalize hl : Scf.Loop.for k0_t1_loop k0_t1_ok ⟨⟩ (k0_t1_body (F := F) arg0 harg0 arg1 harg1 arg2 harg2 arg3 harg3 arg4 harg4 arg5 harg5 arg6
    harg6 arg7 harg7 rows lanes places) = prog at hloop
  simp only [hl]
  clear hl
  unfold inv at hloop
  unfold owns at hloop ⊢
  iintro ⟨⟨%f0, %h0, H0⟩, ⟨%f1, %h1, H1⟩, ⟨%f2, %h2, H2⟩, ⟨%f3, %h3, H3⟩, ⟨%a, %f4, %h4, H4⟩, ⟨%b, %f5, %h5, H5⟩, ⟨%g, %f6, %h6, H6⟩, ⟨%s, %f7, %h7, H7⟩, Hk⟩
  sl_exec
  iapply (LaneScatter.bind_of_run frame (wpE (defs₀ (F := F)) Variants.none c none) E hloop (fun _ => Pure.pure PUnit.unit) K)
  isplitl [H4 H5 H6 H7]
  · isplitl [H7]
    · iexists _; isplitr
      swap; · iexact H7
      ipureintro
      refine (read_store _ _ _ _).trans ?_
      exact (start_of ((View.readAt_full arg0.view f0 inb_S512x256_S512x256_0_0).trans h0)
        ((View.readAt_full arg1.view f1 inb_S512x256_S512x256_0_0).trans h1) ((View.readAt_full arg2.view f2 inb_S512x1_S512x1_0_0).trans h2)
        ((View.readAt_full arg3.view f3 inb_S1x512_S1x512_0_0).trans h3))
    iexists a, b, g
    isplitl [H4]
    · iexists f4; isplitr
      · ipureintro; exact h4
      iexact H4
    isplitl [H5]
    · iexists f5; isplitr
      · ipureintro; exact h5
      iexact H5
    isplitl [H6]
    · iexists f6; isplitr
      · ipureintro; exact h6
      iexact H6
    ipureintro
    intro j hj
    exact absurd hj (Nat.not_lt_zero _)
  iintro ⟨⟨%e7, %k7, H7⟩, %a', %b', %g', ⟨%e4, %k4, H4⟩, ⟨%e5, %k5, H5⟩, ⟨%e6, %k6, H6⟩, %hd⟩
  obtain ⟨r4, r5, r6⟩ := done_all _ a' b' g' hd
  sl_step
  iapply Hk
  isplitl [H0]
  · iexists f0; isplitr
    · ipureintro; exact h0
    iexact H0
  isplitl [H1]
  · iexists f1; isplitr
    · ipureintro; exact h1
    iexact H1
  isplitl [H2]
  · iexists f2; isplitr
    · ipureintro; exact h2
    iexact H2
  isplitl [H3]
  · iexists f3; isplitr
    · ipureintro; exact h3
    iexact H3
  isplitl [H4]
  · iexists e4; isplitr
    · ipureintro; exact k4.trans r4
    iexact H4
  isplitl [H5]
  · iexists e5; isplitr
    · ipureintro; exact k5.trans r5
    iexact H5
  isplitl [H6]
  · iexists e6; isplitr
    · ipureintro; exact k6.trans r6
    iexact H6
  iexists _, e7
  isplitr
  · ipureintro; rfl
  iexact H7

end Body

variable (m : (ℓ : Loc nD τ sig) → Buf (Elt F) ℓ) (ρ : Dev nD → PrngReg)

/-! ## The program around the call -/

/-- The buffers when the call is reached: after the reshapes before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the call continued by the reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The reshapes after the call touch the call's arrays and the other buffers only, allocate nothing, and write no array of the call. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.reshape_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The scores the loop starts from, from the blocks. -/
abbrev start0 (c : Dev nD) (t : Fin cfg0.N) : FVec F S512x512 .f32 := start (iblk m c 0 t) (iblk m c 1 t) (iblk m c 2 t) (iblk m c 3 t)

/-- The proof data of the call: each input's buffer at its block, each output's at what the trips find. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowOut (start0 m c t)
    | ⟨5, _⟩ => laneOut (start0 m c t)
    | ⟨6, _⟩ => scoreOut (start0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowOut (start0 m c t) := by dsimp only [dats]
theorem after0_5 (c : Dev nD) (t : Fin cfg0.N) : (dats m 0 c).after 5 t = laneOut (start0 m c t) := by dsimp only [dats]
theorem after0_6 (c : Dev nD) (t : Fin cfg0.N) : (dats m 0 c).after 6 t = scoreOut (start0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The scratch buffer, and the rest the body passes through. -/
theorem rest_eq (c : Dev nD) : (Pipeline.ΦA spec0 c : sProp 𝕄)
    = iprop((∃ d, owns (c : Thread nD τ) (Memref.whole cc0_scratch0 : Memref sig .tc .vmem S512x512 .f32) fullShare d) ∗ (∃ r, prngReg c r)) := by
  unfold Pipeline.ΦA; rw [scopedRest0_eq]; simp only [owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at the call's one point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl, rest_eq,
    show (dats m 0 c).owesAt () t.succ = (dats m 0 c).owesAt () t.castSucc from rfl,
    after0_0, after0_1, after0_2, after0_3, after0_4, after0_5, after0_6]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c _ _ _ _ _ _ _ _ _ _ _ _ _ _ _ _ Set.univ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [Hs]; · iexact Hs
  iintro ⟨H0, H1, H2, H3, H4, H5, H6, Hs⟩
  isplitl [Hs Hr]
  · isplitl [Hs]
    · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The program runs to its end, every semaphore at zero, every array of the call at what the proof data says. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩) (run_main m ρ)

/-- The frame claim, at any values. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.CoarseProof.Kernel3Ideal
-- ==== Proof.CoarsePick.lean ====
/- One trip of the coarse matching's loop, in real numbers: it finds the first greatest score in row-major order, and strikes it out. -/
module

public import proofs.«01_k».proof.Proof.CoarseFrame
public import proofs.«01_k».proof.Proof.CoarseOrder
public import proofs.«01_k».proof.Proof.PartKernel
public import Idealize.ShloMosaic.PureOps.Ideal.Laws

@[expose] public section

set_option maxRecDepth 16384

noncomputable section

namespace Cert.CoarseProof.Kernel3Ideal

open Cert.Kernel3Ideal Cert.Kernel3Ideal.Gen
open Idealize.ShloMosaic Idealize.ShloMosaic.TcCoe Idealize.SL.Sem
open Cert.PartitionProof.Kernel (fold_minsi_eq)

/-! ## Minima and maxima of a whole square -/

/-- A signed minimum over a whole square, of any sizes. -/
theorem whole_min {n0 n1 : ℕ} (v : IVec ⟨3, ![1, n0, n1]⟩ 32) (h : Shape.Reduces ⟨3, ![1, n0, n1]⟩ [1, 2] ⟨1, ![1]⟩)
    (acc : BitVec 32) (ha : acc = IKind.minsi.neutral) (j : Shape.Idx ⟨1, ![1]⟩) :
    multiReductionI .minsi [1, 2] ⟨1, ![1]⟩ v acc h ha j
      = Finset.univ.fold IntOp.minsi acc fun x : Fin n0 × Fin n1 => v (ix3 (n0 := 1) (n1 := n0) (n2 := n1) 0 x.1 x.2) := by
  rw [multiReductionI_eq_fold, Shape.Reduces.fold_fiber_r3_a12]
  unfold IKind.op
  refine Finset.fold_congr fun x _ => congrArg v ?_
  congr 1
  exact Subsingleton.elim _ _

/-- The same through the casts around it in the loop. -/
theorem square_min (v : IVec S512x512 32) :
    extractAt ![0, 0, 0] (shapeCast S1x1x1 (multiReductionI .minsi [1, 2] S1 (shapeCast S1x512x512 v shapeCasts_S512x512_S1x512x512)
        2147483647#32 reduces_S1x512x512_S1 rfl) shapeCasts_S1_S1x1x1) inpos_S1x1x1_p0_0_0
      = Finset.univ.fold IntOp.minsi 2147483647#32 fun x : Fin 512 × Fin 512 => v (ix2 x.1 x.2) := by
  have key := whole_min (shapeCast S1x512x512 v shapeCasts_S512x512_S1x512x512) reduces_S1x512x512_S1 2147483647#32 rfl (ix1 (n0 := 1) 0)
  have e : ∀ x : Fin 512 × Fin 512, shapeCast S1x512x512 v shapeCasts_S512x512_S1x512x512 (ix3 (n0 := 1) (n1 := 512) (n2 := 512) 0 x.1 x.2)
      = v (ix2 x.1 x.2) := fun x => by pointwise
  simp only [e] at key
  rw [← key]
  generalize (multiReductionI .minsi [1, 2] S1 (shapeCast S1x512x512 v shapeCasts_S512x512_S1x512x512)
        2147483647#32 reduces_S1x512x512_S1 rfl) = g
  pointwise

/-- A vector of one value has it everywhere. -/
theorem spread_apply {α : Type} (s : Shape) (x : α) (i : s.Idx) : broadcast s x i = x := rfl

/-- The word of minus infinity. -/
theorem ofBits_ninf : Ideal.ofBits .f32 (4286578688#32) = (⊥ : EReal) := by
  simp [Ideal.ofBits, Ideal.ieee]

/-- A maximum from minus infinity is one of the family, and at least all. -/
theorem fold_max_spec {ι : Type*} [Fintype ι] [Nonempty ι] (f : ι → EReal) :
    (∀ k, f k ≤ Finset.univ.fold max ⊥ f) ∧ ∃ k, f k = Finset.univ.fold max ⊥ f := by
  refine ⟨fun k => (Finset.le_fold_max _).mpr (.inr ⟨k, Finset.mem_univ k, le_rfl⟩), ?_⟩
  rcases (Finset.le_fold_max _).mp (le_refl (Finset.univ.fold max ⊥ f)) with h | ⟨k, -, h⟩
  · obtain ⟨k⟩ := ‹Nonempty ι›
    refine ⟨k, le_antisymm ((Finset.le_fold_max _).mpr (.inr ⟨k, Finset.mem_univ k, le_rfl⟩)) (h.trans bot_le)⟩
  · exact ⟨k, le_antisymm ((Finset.le_fold_max _).mpr (.inr ⟨k, Finset.mem_univ k, le_rfl⟩)) h⟩

/-! ## The scores in row-major order -/

/-- The place of a row and a lane. -/
def cell (q : Fin 262144) : S512x512.Idx :=
  ix2 (n0 := 512) (n1 := 512) ⟨q.val / 512, by omega⟩ ⟨q.val % 512, by omega⟩

/-- The scores in row-major order. -/
def flat (S : FVec Ideal S512x512 .f32) (q : Fin 262144) : EReal := S (cell q)

theorem flat_mk (S : FVec Ideal S512x512 .f32) (r l : Fin 512) :
    flat S ⟨r.val * 512 + l.val, by omega⟩ = S (ix2 (n0 := 512) (n1 := 512) r l) := by
  unfold flat cell
  congr 2 <;> (apply Fin.ext; dsimp only; omega)

theorem pay4_apply (S : FVec Ideal S512x512 .f32) (i : S1x1.Idx) : k0_pay4 (F := Ideal) S i
    = Finset.univ.fold max ⊥ fun x : Fin 512 × Fin 512 => S (ix2 x.1 x.2) := by
  rw [← ofBits_ninf]
  pointwise [k0_pay4]

theorem pay5_apply (S : FVec Ideal S512x512 .f32) (i : S1x1.Idx) : k0_pay5 (F := Ideal) rows S i
    = Finset.univ.fold IntOp.minsi 2147483647#32 fun x : Fin 512 × Fin 1 =>
        if (Finset.univ.fold max ⊥ fun l => S (ix2 x.1 l)) = k0_pay4 (F := Ideal) S (ix2 (n0 := 1) (n1 := 1) 0 0) then BitVec.ofNat 32 x.1.val else 512#32 := by
  rw [← ofBits_ninf]
  pointwise [k0_pay5]

theorem pay6_apply (S : FVec Ideal S512x512 .f32) (r l : Fin 512) : k0_pay6 (F := Ideal) rows S (ix2 r l)
    = IntOp.cmpi .eq (BitVec.ofNat 32 r.val) (k0_pay5 (F := Ideal) rows S (ix2 (n0 := 1) (n1 := 1) 0 0)) := by
  unfold k0_pay6
  generalize k0_pay5 (F := Ideal) rows S = g
  pointwise

theorem pay7_apply (S : FVec Ideal S512x512 .f32) (i : S1x1.Idx) : k0_pay7 (F := Ideal) rows lanes S i
    = Finset.univ.fold IntOp.minsi 2147483647#32 fun x : Fin 512 × Fin 512 =>
        Scalar.select (IntOp.andi (k0_pay6 (F := Ideal) rows S (ix2 x.1 x.2))
          (BitVec.ofBool (decide (S (ix2 x.1 x.2) = k0_pay4 (F := Ideal) S (ix2 (n0 := 1) (n1 := 1) 0 0)))))
          (BitVec.ofNat 32 x.2.val) 512#32 := by
  unfold k0_pay7
  generalize k0_pay6 (F := Ideal) rows S = q, k0_pay4 (F := Ideal) S = g
  dsimp only
  rw [spread_apply, square_min]
  refine Finset.fold_congr fun x _ => ?_
  pointwise

theorem pay8_apply (S : FVec Ideal S512x512 .f32) (r l : Fin 512) : k0_pay8 (F := Ideal) rows lanes S (ix2 r l)
    = Scalar.select (IntOp.andi (k0_pay6 (F := Ideal) rows S (ix2 r l))
        (IntOp.cmpi .eq (BitVec.ofNat 32 l.val) (k0_pay7 (F := Ideal) rows lanes S (ix2 (n0 := 1) (n1 := 1) 0 0))))
        (Ideal.ofBits .f32 (3212836864#32)) (S (ix2 r l)) := by
  unfold k0_pay8
  generalize k0_pay6 (F := Ideal) rows S = q, k0_pay7 (F := Ideal) rows lanes S = g
  pointwise

/-! ## The trip -/

theorem ofNat_eq_iff {a b : ℕ} (ha : a < 512) (hb : b < 512) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem toInt_small {a : ℕ} (ha : a < 512) : (BitVec.ofNat 32 a).toInt = a := by
  have e : (BitVec.ofNat 32 a).toNat = a := by rw [BitVec.toNat_ofNat, Nat.mod_eq_of_lt (by omega)]
  rw [BitVec.toInt_eq_toNat_of_lt (by rw [e]; omega), e]

theorem select_and (p q : Prop) [Decidable p] [Decidable q] {α : Type} (x y : α) :
    Scalar.select (IntOp.andi (BitVec.ofBool (decide p)) (BitVec.ofBool (decide q))) x y = if p ∧ q then x else y := by
  by_cases hp : p <;> by_cases hq : q <;> simp [hp, hq, Scalar.select, IntOp.andi]

theorem cmpi_eq_word (a b : BitVec 32) : IntOp.cmpi .eq a b = BitVec.ofBool (decide (a = b)) := by
  rfl

/-- A trip: the first greatest score, its row, its lane, itself, and the scores once it is struck out. -/
theorem trip_spec (S : FVec Ideal S512x512 .f32) : ∃ p : Fin 262144, IsTop (flat S) p
    ∧ (∀ i, k0_pay5 (F := Ideal) rows S i = BitVec.ofNat 32 (p.val / 512))
    ∧ (∀ i, k0_pay7 (F := Ideal) rows lanes S i = BitVec.ofNat 32 (p.val % 512))
    ∧ (∀ i, k0_pay4 (F := Ideal) S i = flat S p)
    ∧ ∀ q, flat (k0_pay8 (F := Ideal) rows lanes S) q = if q = p then Ideal.ofBits .f32 (3212836864#32) else flat S q := by
  obtain ⟨hle, ⟨r0, l0⟩, h0⟩ := fold_max_spec fun x : Fin 512 × Fin 512 => S (ix2 x.1 x.2)
  have e4 := fun i => pay4_apply S i
  generalize (Finset.univ.fold max ⊥ fun x : Fin 512 × Fin 512 => S (ix2 x.1 x.2)) = M at hle h0 e4
  have hle' : ∀ q, flat S q ≤ M := fun q => hle (⟨q.val / 512, by omega⟩, ⟨q.val % 512, by omega⟩)
  obtain ⟨p, hp, hmin⟩ := (Finset.univ.filter fun q => flat S q = M).exists_min_image id
    ⟨⟨r0.val * 512 + l0.val, by omega⟩, Finset.mem_filter.mpr ⟨Finset.mem_univ _, (flat_mk S r0 l0).trans h0⟩⟩
  have hpM : flat S p = M := (Finset.mem_filter.mp hp).2
  have hfirst : ∀ r l : Fin 512, S (ix2 r l) = M → p.val ≤ r.val * 512 + l.val := fun r l h =>
    Fin.le_def.mp (hmin ⟨r.val * 512 + l.val, by omega⟩ (Finset.mem_filter.mpr ⟨Finset.mem_univ _, (flat_mk S r l).trans h⟩))
  have hrow : p.val / 512 < 512 := by omega
  have hlane : p.val % 512 < 512 := by omega
  have hpS : S (ix2 (n0 := 512) (n1 := 512) ⟨p.val / 512, hrow⟩ ⟨p.val % 512, hlane⟩) = M := hpM
  have e5 : ∀ i, k0_pay5 (F := Ideal) rows S i = BitVec.ofNat 32 (p.val / 512) := by
    intro i
    rw [pay5_apply, e4]
    have hrowmax : ∀ r : Fin 512, (Finset.univ.fold max ⊥ fun l => S (ix2 r l)) = M ↔ ∃ l : Fin 512, S (ix2 r l) = M := by
      intro r
      obtain ⟨h1, l, h2⟩ := fold_max_spec fun l : Fin 512 => S (ix2 r l)
      refine ⟨fun h => ⟨l, h2.trans h⟩, fun ⟨k, hk⟩ => le_antisymm ?_ ?_⟩
      · rw [← h2]; exact hle (r, l)
      · rw [← hk]; exact h1 k
    refine (fold_minsi_eq _ (⟨p.val / 512, hrow⟩, 0) fun x => ?_).trans ?_
    · rw [if_pos ((hrowmax _).mpr ⟨_, hpS⟩), toInt_small hrow]
      split_ifs with h
      · obtain ⟨l, hl⟩ := (hrowmax _).mp h
        have := hfirst _ _ hl
        rw [toInt_small x.1.isLt]; omega
      · have e : (512#32 : BitVec 32).toInt = 512 := by decide
        rw [e]; omega
    · rw [if_pos ((hrowmax _).mpr ⟨_, hpS⟩)]
  have e6 : ∀ r l : Fin 512, k0_pay6 (F := Ideal) rows S (ix2 r l) = BitVec.ofBool (decide (r.val = p.val / 512)) := by
    intro r l
    rw [pay6_apply, e5, cmpi_eq_word]
    simp only [ofNat_eq_iff r.isLt hrow]
  have e7 : ∀ i, k0_pay7 (F := Ideal) rows lanes S i = BitVec.ofNat 32 (p.val % 512) := by
    intro i
    rw [pay7_apply]
    simp only [e6, e4, select_and]
    refine (fold_minsi_eq _ (⟨p.val / 512, hrow⟩, ⟨p.val % 512, hlane⟩) fun x => ?_).trans ?_
    · rw [if_pos ⟨rfl, hpS⟩, toInt_small hlane]
      split_ifs with h
      · have := hfirst _ _ h.2
        rw [toInt_small x.2.isLt]; omega
      · have e : (512#32 : BitVec 32).toInt = 512 := by decide
        rw [e]; omega
    · rw [if_pos ⟨rfl, hpS⟩]
  refine ⟨p, ⟨fun q => hpM ▸ hle' q, fun q hq => hmin q (Finset.mem_filter.mpr ⟨Finset.mem_univ _, hq.trans hpM⟩)⟩, e5, e7,
    fun i => (e4 i).trans hpM.symm, fun q => ?_⟩
  have e8 := pay8_apply S ⟨q.val / 512, by omega⟩ ⟨q.val % 512, by omega⟩
  rw [e6, e7, cmpi_eq_word] at e8
  simp only [ofNat_eq_iff (show q.val % 512 < 512 by omega) hlane, select_and] at e8
  refine (show flat (k0_pay8 (F := Ideal) rows lanes S) q = _ from e8).trans ?_
  have hiff : (q.val / 512 = p.val / 512 ∧ q.val % 512 = p.val % 512) ↔ q = p := by
    rw [Fin.ext_iff]; omega
  simp only [hiff]
  rfl

end Cert.CoarseProof.Kernel3Ideal
-- ==== Proof.CoarseScores.lean ====
/- The coarse matching's scores, in real numbers. -/
module

public import proofs.«01_k».proof.Proof.CoarseFrame
public import proofs.«01_k».proof.Proof.PartKernel
public import proofs.«01_k».proof.Proof.CoarseSpec
public import Idealize.ShloMosaic.PureOps.Ideal.Laws

@[expose] public section

set_option maxRecDepth 16384

noncomputable section

namespace Cert.CoarseProof.Kernel3Ideal

open Cert.Kernel3Ideal Cert.Kernel3Ideal.Gen
open Idealize.ShloMosaic Idealize.ShloMosaic.TcCoe Idealize.SL.Sem

variable {F : FTy → Type} [FloatOps F]

/-- Rows over their lengths. -/
def unit (x : FVec F S512x256 .f32) : FVec F S512x256 .f32 :=
  divf x (broadcastTo S512x256 (addf (sqrt (shapeCast S512x1 (multiReduction .add [1] S512 (mulf x x) 0x00000000#32 reduces_S512x256_S512 (.inl rfl) rfl)
    shapeCasts_S512_S512x1)) (broadcast S512x1 (Scalar.ofBits .f32 0x322BCC77#32))) broadcasts_S512x1_S512x256)

/-- The exponentials of the inner products of the rows. -/
def sims (x0 x1 : FVec F S512x256 .f32) : FVec F S512x512 .f32 :=
  exp (matmul dot_S512x256_S512x256_S512x512_1_1_0_0_n_n none (unit x0) (unit x1) (constant S512x512 .f32 0x00000000#32))

/-- Which rows and lanes count. -/
def mask (x2 : IVec S512x1 32) (x3 : IVec S1x512 32) : IVec S512x512 1 :=
  andi (broadcastTo S512x512 (cmpi .sgt (shapeCast S512x1 x2 shapeCasts_S512x1_S512x1) (broadcast S512x1 0#32)) broadcasts_S512x1_S512x512)
    (broadcastTo S512x512 (cmpi .sgt (shapeCast S1x512 x3 shapeCasts_S1x512_S1x512) (broadcast S1x512 0#32)) broadcasts_S1x512_S512x512)

/-- The product of the two normalisations. -/
def both (e : FVec F S512x512 .f32) : FVec F S512x512 .f32 :=
  mulf (divf e (broadcastTo S512x512 (shapeCast S512x1 (multiReduction .add [1] S512 e 0x00000000#32 reduces_S512x512_S512 (.inl rfl) rfl)
      shapeCasts_S512_S512x1) broadcasts_S512x1_S512x512))
    (divf e (broadcastTo S512x512 (shapeCast S1x512 (multiReduction .add [0] S512 e 0x00000000#32 reduces_S512x512_S512_2 (.inl rfl) rfl)
      shapeCasts_S512_S1x512) broadcasts_S1x512_S512x512))

theorem pay11_eq (x0 x1 : Vec F S512x256 .f32) (x2 : Vec F S512x1 .i32) (x3 : Vec F S1x512 .i32) :
    k0_pay11 x0 x1 x2 x3 = select (mask x2 x3) (both (sims x0 x1)) (broadcast S512x512 (Scalar.ofBits .f32 0x00000000#32)) := rfl

theorem start_eq (x0 x1 : Vec F S512x256 .f32) (x2 : Vec F S512x1 .i32) (x3 : Vec F S1x512 .i32) :
    start x0 x1 x2 x3 = select (mask x2 x3) (both (sims x0 x1)) (broadcast S512x512 (Scalar.ofBits .f32 0x00000000#32)) := by
  unfold start k0_pay1
  rw [pay11_eq]
  exact shapeCast_self _ _

theorem unit_apply (x : FVec Ideal S512x256 .f32) (r : Fin 512) (k : Fin 256) :
    unit (F := Ideal) x (ix2 r k) = unitAt (fun r k => x (ix2 (n0 := 512) (n1 := 256) r k)) r k := by
  unfold unit unitAt
  pointwise

theorem sims_apply (x0 x1 : FVec Ideal S512x256 .f32) (r l : Fin 512) : sims (F := Ideal) x0 x1 (ix2 r l)
    = simAt (fun r k => x0 (ix2 (n0 := 512) (n1 := 256) r k)) (fun r k => x1 (ix2 (n0 := 512) (n1 := 256) r k)) r l := by
  unfold sims simAt
  simp only [← unit_apply]
  generalize unit (F := Ideal) x0 = y0, unit (F := Ideal) x1 = y1
  pointwise

theorem mask_apply (x2 : IVec S512x1 32) (x3 : IVec S1x512 32) (r l : Fin 512) : mask x2 x3 (ix2 r l)
    = IntOp.andi (IntOp.cmpi .sgt (x2 (ix2 (n0 := 512) (n1 := 1) r 0)) 0#32) (IntOp.cmpi .sgt (x3 (ix2 (n0 := 1) (n1 := 512) 0 l)) 0#32) := by
  unfold mask
  pointwise

theorem both_apply (e : FVec Ideal S512x512 .f32) (r l : Fin 512) : both (F := Ideal) e (ix2 r l)
    = Ideal.div (e (ix2 r l)) (∑ i : Fin 512, e (ix2 r i)) * Ideal.div (e (ix2 r l)) (∑ i : Fin 512, e (ix2 i l)) := by
  unfold both
  pointwise

/-- The kernel's scores before the first trip are those. -/
theorem start_apply (x0 x1 : FVec Ideal S512x256 .f32) (x2 : IVec S512x1 32) (x3 : IVec S1x512 32) (r l : Fin 512) :
    start (F := Ideal) x0 x1 x2 x3 (ix2 r l)
    = scoreAt (fun r k => x0 (ix2 (n0 := 512) (n1 := 256) r k)) (fun r k => x1 (ix2 (n0 := 512) (n1 := 256) r k))
        (fun r => x2 (ix2 (n0 := 512) (n1 := 1) r 0)) (fun l => x3 (ix2 (n0 := 1) (n1 := 512) 0 l)) r l := by
  rw [start_eq]
  unfold scoreAt
  simp only [← sims_apply, ← mask_apply, ← both_apply]
  generalize both (F := Ideal) _ = b, mask x2 x3 = k
  pointwise

end Cert.CoarseProof.Kernel3Ideal
-- ==== Proof.CoarseValue.lean ====
/- The arrays that the idealized coarse matching returns: the rows, the lanes and the scores of the greatest scores, in order. -/
module

public import proofs.«01_k».proof.Proof.CoarsePick
public import proofs.«01_k».proof.Proof.CoarseScores

@[expose] public section

set_option maxRecDepth 16384

noncomputable section

namespace Cert.CoarseProof.Kernel3Ideal

open Cert.Kernel3Ideal Cert.Kernel3Ideal.Gen
open Idealize.ShloMosaic Idealize.ShloMosaic.TcCoe Idealize.SL.Sem

/-! ## What the trips find -/

/-- Trip `k` finds the `k`-th of the scores in order: its row, its lane and itself. -/
theorem found (S : FVec Ideal S512x512 .f32) (h0 : ∀ q, 0 ≤ flat S q) (σ : Fin 262144 → Fin 262144) (hs : Function.Surjective σ)
    (hσ : ∀ i j, i < j → Ahead (flat S) (σ i) (σ j)) (k : Fin 256) :
    rowOut (F := Ideal) S (ix2 (n0 := 1) (n1 := 256) 0 k) = BitVec.ofNat 32 ((σ ⟨k.val, by omega⟩).val / 512)
    ∧ laneOut (F := Ideal) S (ix2 (n0 := 1) (n1 := 256) 0 k) = BitVec.ofNat 32 ((σ ⟨k.val, by omega⟩).val % 512)
    ∧ scoreOut (F := Ideal) S (ix2 (n0 := 1) (n1 := 256) 0 k) = flat S (σ ⟨k.val, by omega⟩) := by
  choose p hp using fun n => trip_spec (left S n)
  have h := picks_sorted (flat S) (Ideal.ofBits .f32 (3212836864#32)) (fun q => struck_lt _ (h0 q)) σ hσ hs (fun n => flat (left S n)) p rfl
    (fun n q => (hp n).2.2.2.2 q) (fun n => (hp n).1) k.val (by omega)
  obtain ⟨e1, e2⟩ := h
  refine ⟨((hp k.val).2.1 one).trans (by rw [e1]), ((hp k.val).2.2.1 one).trans (by rw [e1]), ((hp k.val).2.2.2.1 one).trans e2⟩

/-! ## The blocks that the one step reads -/

variable (m : (ℓ : Loc nD τ sig) → Buf (Elt Ideal) ℓ) (c : Dev nD)

/-- The features and the counts. -/
def featA (r : Fin 512) (k : Fin 256) : EReal := m ((c.tc : Thread nD τ).loc main_arg0) (ix2 (n0 := 512) (n1 := 256) r k)
def featB (r : Fin 512) (k : Fin 256) : EReal := m ((c.tc : Thread nD τ).loc main_arg1) (ix2 (n0 := 512) (n1 := 256) r k)
def countA (r : Fin 512) : BitVec 32 := m ((c.tc : Thread nD τ).loc main_arg2) (ix1 (n0 := 512) r)
def countB (l : Fin 512) : BitVec 32 := m ((c.tc : Thread nD τ).loc main_arg3) (ix1 (n0 := 512) l)

theorem V_main_v0 : V m c main_v0 = shapeCast S512x1 (m ((c.tc : Thread nD τ).loc main_arg2)) shapeCasts_S512_S512x1 := by
  show StableHlo.after (List.flatten [hostOps0]) _ (Proc.devRef .tc main_v0) = _
  simp only [hostOps0, List.flatten_cons, List.flatten_nil, List.append_nil]
  after_results_simp
  rfl

theorem V_main_v1 : V m c main_v1 = shapeCast S1x512 (m ((c.tc : Thread nD τ).loc main_arg3)) shapeCasts_S512_S1x512 := by
  show StableHlo.after (List.flatten [hostOps0]) _ (Proc.devRef .tc main_v1) = _
  simp only [hostOps0, List.flatten_cons, List.flatten_nil, List.append_nil]
  after_results_simp
  rfl

theorem iblk0_apply (t : Fin cfg0.N) (r : Fin 512) (k : Fin 256) :
    (iblk m c 0 t : S512x256.Idx → EReal) (ix2 (n0 := 512) (n1 := 256) r k) = featA m c r k := by
  show V m c main_arg0 (((cfg0.win 0).blk t).view.emb (ix2 (n0 := 512) (n1 := 256) r k)) = _
  rw [V_main_arg0 m c]
  have e : (((cfg0.win 0).blk t).view.emb (ix2 (n0 := 512) (n1 := 256) r k) : S512x256.Idx) = ix2 (n0 := 512) (n1 := 256) r k := by
    funext d
    match d with
    | ⟨0, _⟩ => exact Fin.ext (by show 0 * 512 + 1 * r.val = r.val; omega)
    | ⟨1, _⟩ => exact Fin.ext (by show 0 * 256 + 1 * k.val = k.val; omega)
  exact congrArg _ e

theorem iblk1_apply (t : Fin cfg0.N) (r : Fin 512) (k : Fin 256) :
    (iblk m c 1 t : S512x256.Idx → EReal) (ix2 (n0 := 512) (n1 := 256) r k) = featB m c r k := by
  show V m c main_arg1 (((cfg0.win 1).blk t).view.emb (ix2 (n0 := 512) (n1 := 256) r k)) = _
  rw [V_main_arg1 m c]
  have e : (((cfg0.win 1).blk t).view.emb (ix2 (n0 := 512) (n1 := 256) r k) : S512x256.Idx) = ix2 (n0 := 512) (n1 := 256) r k := by
    funext d
    match d with
    | ⟨0, _⟩ => exact Fin.ext (by show 0 * 512 + 1 * r.val = r.val; omega)
    | ⟨1, _⟩ => exact Fin.ext (by show 0 * 256 + 1 * k.val = k.val; omega)
  exact congrArg _ e

theorem iblk2_apply (t : Fin cfg0.N) (r : Fin 512) :
    (iblk m c 2 t : S512x1.Idx → BitVec 32) (ix2 (n0 := 512) (n1 := 1) r 0) = countA m c r := by
  show V m c main_v0 (((cfg0.win 2).blk t).view.emb (ix2 (n0 := 512) (n1 := 1) r 0)) = _
  rw [V_main_v0 m c]
  have e : (((cfg0.win 2).blk t).view.emb (ix2 (n0 := 512) (n1 := 1) r 0) : S512x1.Idx) = ix2 (n0 := 512) (n1 := 1) r 0 := by
    funext d
    match d with
    | ⟨0, _⟩ => exact Fin.ext (by show 0 * 512 + 1 * r.val = r.val; omega)
    | ⟨1, _⟩ => exact Subsingleton.elim (α := Fin 1) _ _
  refine (congrArg (shapeCast S512x1 (m ((c.tc : Thread nD τ).loc main_arg2)) shapeCasts_S512_S512x1) e).trans ?_
  unfold countA
  generalize m ((c.tc : Thread nD τ).loc main_arg2) = x
  pointwise

theorem iblk3_apply (t : Fin cfg0.N) (l : Fin 512) :
    (iblk m c 3 t : S1x512.Idx → BitVec 32) (ix2 (n0 := 1) (n1 := 512) 0 l) = countB m c l := by
  show V m c main_v1 (((cfg0.win 3).blk t).view.emb (ix2 (n0 := 1) (n1 := 512) 0 l)) = _
  rw [V_main_v1 m c]
  have e : (((cfg0.win 3).blk t).view.emb (ix2 (n0 := 1) (n1 := 512) 0 l) : S1x512.Idx) = ix2 (n0 := 1) (n1 := 512) 0 l := by
    funext d
    match d with
    | ⟨0, _⟩ => exact Subsingleton.elim (α := Fin 1) _ _
    | ⟨1, _⟩ => exact Fin.ext (by show 0 * 512 + 1 * l.val = l.val; omega)
  refine (congrArg (shapeCast S1x512 (m ((c.tc : Thread nD τ).loc main_arg3)) shapeCasts_S512_S1x512) e).trans ?_
  unfold countB
  generalize m ((c.tc : Thread nD τ).loc main_arg3) = x
  pointwise

/-- The scores before the first trip. -/
theorem start0_apply (t : Fin cfg0.N) (q : Fin 262144) : flat (start0 m c t) q
    = scoreAt (featA m c) (featB m c) (countA m c) (countB m c) ⟨q.val / 512, by omega⟩ ⟨q.val % 512, by omega⟩ := by
  unfold flat cell
  refine (start_apply _ _ _ _ _ _).trans ?_
  simp only [iblk0_apply, iblk1_apply, iblk2_apply, iblk3_apply]

/-! ## The output arrays -/

/-- The one step. -/
def step : Fin cfg0.N := ⟨0, by decide +kernel⟩
theorem step_eq (t : Fin cfg0.N) : t = step := by
  have h : cfg0.N = 1 := by decide +kernel
  exact Fin.ext (by have := t.isLt; show t.val = 0; omega)

def outA : S1x256.Idx → BitVec 32 := rowOut (start0 m c step)
def outB : S1x256.Idx → BitVec 32 := laneOut (start0 m c step)
def outC : S1x256.Idx → EReal := scoreOut (start0 m c step)

theorem emb4 (t : Fin cfg0.N) (y : S1x256.Idx) : (((cfg0.win 4).blk t).view.emb y : S1x256.Idx) = y := by
  funext d
  match d with
  | ⟨0, _⟩ => exact Subsingleton.elim (α := Fin 1) _ _
  | ⟨1, _⟩ => exact Fin.ext (by show 0 * 256 + 1 * (y 1).val = (y 1).val; omega)
theorem emb5 (t : Fin cfg0.N) (y : S1x256.Idx) : (((cfg0.win 5).blk t).view.emb y : S1x256.Idx) = y := by
  funext d
  match d with
  | ⟨0, _⟩ => exact Subsingleton.elim (α := Fin 1) _ _
  | ⟨1, _⟩ => exact Fin.ext (by show 0 * 256 + 1 * (y 1).val = (y 1).val; omega)
theorem emb6 (t : Fin cfg0.N) (y : S1x256.Idx) : (((cfg0.win 6).blk t).view.emb y : S1x256.Idx) = y := by
  funext d
  match d with
  | ⟨0, _⟩ => exact Subsingleton.elim (α := Fin 1) _ _
  | ⟨1, _⟩ => exact Fin.ext (by show 0 * 256 + 1 * (y 1).val = (y 1).val; omega)

theorem covers4 : ((cfg0).win 4).Covers := by
  refine Pipeline.Window.covers_of_index_surj _ rfl ?_ ?_
  · intro a
    match a with
    | ⟨0, _⟩ => show 0 < 1; norm_num
    | ⟨1, _⟩ => show 0 < 256; norm_num
  · intro β
    have h0 : (β (0 : Fin 2)).val < (1 + 1 - 1) / 1 := (β (0 : Fin 2)).isLt
    have h1 : (β (1 : Fin 2)).val < (256 + 256 - 1) / 256 := (β (1 : Fin 2)).isLt
    refine ⟨step, fun a => ?_⟩
    match a with
    | ⟨0, _⟩ => show 0 = (β (0 : Fin 2)).val; omega
    | ⟨1, _⟩ => show 0 = (β (1 : Fin 2)).val; omega
theorem covers5 : ((cfg0).win 5).Covers := by
  refine Pipeline.Window.covers_of_index_surj _ rfl ?_ ?_
  · intro a
    match a with
    | ⟨0, _⟩ => show 0 < 1; norm_num
    | ⟨1, _⟩ => show 0 < 256; norm_num
  · intro β
    have h0 : (β (0 : Fin 2)).val < (1 + 1 - 1) / 1 := (β (0 : Fin 2)).isLt
    have h1 : (β (1 : Fin 2)).val < (256 + 256 - 1) / 256 := (β (1 : Fin 2)).isLt
    refine ⟨step, fun a => ?_⟩
    match a with
    | ⟨0, _⟩ => show 0 = (β (0 : Fin 2)).val; omega
    | ⟨1, _⟩ => show 0 = (β (1 : Fin 2)).val; omega
theorem covers6 : ((cfg0).win 6).Covers := by
  refine Pipeline.Window.covers_of_index_surj _ rfl ?_ ?_
  · intro a
    match a with
    | ⟨0, _⟩ => show 0 < 1; norm_num
    | ⟨1, _⟩ => show 0 < 256; norm_num
  · intro β
    have h0 : (β (0 : Fin 2)).val < (1 + 1 - 1) / 1 := (β (0 : Fin 2)).isLt
    have h1 : (β (1 : Fin 2)).val < (256 + 256 - 1) / 256 := (β (1 : Fin 2)).isLt
    refine ⟨step, fun a => ?_⟩
    match a with
    | ⟨0, _⟩ => show 0 = (β (0 : Fin 2)).val; omega
    | ⟨1, _⟩ => show 0 = (β (1 : Fin 2)).val; omega

theorem outA_eq : outA m c = rowOut (start0 m c step) := rfl
theorem final4 : (dats m 0 c).arrAt 4 cfg0.N = outA m c := by
  refine (dats m 0 c).arrAt_eq_of_covers 4 (outA m c) covers4 fun t _ y => ?_
  rw [after0_4, step_eq t, ← outA_eq]
  generalize outA m c = g
  have h : g y = g (((cfg0.win 4).blk step).view.emb y) := (congrArg g (emb4 step y)).symm
  refine Eq.trans ?_ h
  refine (cast_eq _ _).trans (congrArg g ?_)
  funext d
  exact Fin.ext rfl
theorem outB_eq : outB m c = laneOut (start0 m c step) := rfl
theorem final5 : (dats m 0 c).arrAt 5 cfg0.N = outB m c := by
  refine (dats m 0 c).arrAt_eq_of_covers 5 (outB m c) covers5 fun t _ y => ?_
  rw [after0_5, step_eq t, ← outB_eq]
  generalize outB m c = g
  have h : g y = g (((cfg0.win 5).blk step).view.emb y) := (congrArg g (emb5 step y)).symm
  refine Eq.trans ?_ h
  refine (cast_eq _ _).trans (congrArg g ?_)
  funext d
  exact Fin.ext rfl
theorem outC_eq : outC m c = scoreOut (start0 m c step) := rfl
theorem final6 : (dats m 0 c).arrAt 6 cfg0.N = outC m c := by
  refine (dats m 0 c).arrAt_eq_of_covers 6 (outC m c) covers6 fun t _ y => ?_
  rw [after0_6, step_eq t, ← outC_eq]
  generalize outC m c = g
  have h : g y = g (((cfg0.win 6).blk step).view.emb y) := (congrArg g (emb6 step y)).symm
  refine Eq.trans ?_ h
  refine (cast_eq _ _).trans (congrArg g ?_)
  funext d
  exact Fin.ext rfl

/-- The results: the output arrays as lists. -/
theorem result3 : Pipeline.afterTail₀ cfgs (dats m) 0 (V0 m) [hostOps1] c main_v3 = shapeCast S256 (outA m c) shapeCasts_S1x256_S256 := by
  unfold Pipeline.afterTail₀
  show StableHlo.after (List.flatten [hostOps1]) _ (Proc.devRef .tc main_v3) = _
  simp only [hostOps1, List.flatten_cons, List.flatten_nil, List.append_nil]
  after_results_simp
  have e := (Pipeline.withArrays_arr spec0 launch0.win.arr_inj c (V0 m c) (fun w => (dats m 0 c).arrAt w (cfgs 0).N) 4).trans (final4 m c)
  exact congrArg (fun x : S1x256.Idx → BitVec 32 => shapeCast S256 x shapeCasts_S1x256_S256) e
theorem result4 : Pipeline.afterTail₀ cfgs (dats m) 0 (V0 m) [hostOps1] c main_v4 = shapeCast S256 (outB m c) shapeCasts_S1x256_S256 := by
  unfold Pipeline.afterTail₀
  show StableHlo.after (List.flatten [hostOps1]) _ (Proc.devRef .tc main_v4) = _
  simp only [hostOps1, List.flatten_cons, List.flatten_nil, List.append_nil]
  after_results_simp
  have e := (Pipeline.withArrays_arr spec0 launch0.win.arr_inj c (V0 m c) (fun w => (dats m 0 c).arrAt w (cfgs 0).N) 5).trans (final5 m c)
  exact congrArg (fun x : S1x256.Idx → BitVec 32 => shapeCast S256 x shapeCasts_S1x256_S256) e
theorem result5 : Pipeline.afterTail₀ cfgs (dats m) 0 (V0 m) [hostOps1] c main_v5 = shapeCast S256 (outC m c) shapeCasts_S1x256_S256 := by
  unfold Pipeline.afterTail₀
  show StableHlo.after (List.flatten [hostOps1]) _ (Proc.devRef .tc main_v5) = _
  simp only [hostOps1, List.flatten_cons, List.flatten_nil, List.append_nil]
  after_results_simp
  have e := (Pipeline.withArrays_arr spec0 launch0.win.arr_inj c (V0 m c) (fun w => (dats m 0 c).arrAt w (cfgs 0).N) 6).trans (final6 m c)
  exact congrArg (fun x : S1x256.Idx → EReal => shapeCast S256 x shapeCasts_S1x256_S256) e

/-- A list of an array of one row. -/
theorem list_apply {α : Type} (x : S1x256.Idx → α) (k : Fin 256) :
    shapeCast S256 x shapeCasts_S1x256_S256 (ix1 (n0 := 256) k) = x (ix2 (n0 := 1) (n1 := 256) 0 k) := by
  pointwise

end Cert.CoarseProof.Kernel3Ideal
-- ==== Proof.CoarseClaims.lean ====
/- The claims of the coarse matching: the frames, the empty ledger, and the equality of the rows, the lanes and the scores. -/
module

public import proofs.«01_k».proof.Defs
public import proofs.«01_k».proof.Proof.CoarseRef
public import proofs.«01_k».proof.Proof.CoarseValue
public import proofs.«01_k».proof.Proof.CoarseFrame
public import proofs.«01_k».proof.Proof.CoarseFrameBits
public import Idealize.ShloMosaic.Adequacy

@[expose] public section

set_option maxRecDepth 16384

noncomputable section

namespace Cert.CoarseProof

open Idealize.ShloMosaic Idealize.ShloMosaic.TcCoe Idealize.SL.Sem

/-- The coarse matching on words runs and leaves its arguments alone. -/
theorem frame_kernel : Cert.quiescent_Kernel3 (hKernel3 := Cert.Kernel3.Gen.facts) := fun m g _ => Kernel3.frame_run m g

/-- So does the idealized coarse matching. -/
theorem frame_kernelIdeal : Cert.quiescent_Kernel3Ideal (hKernel3Ideal := Cert.Kernel3Ideal.Gen.facts) :=
  fun m g _ => Kernel3Ideal.frame_run m g

/-- So does the reference. -/
theorem frame_referenceIdeal : Cert.quiescent_Reference3Ideal (hReference3Ideal := Cert.Reference3Ideal.Gen.facts) :=
  fun m g _ => (θ_run Cert.Reference3Ideal.defs _ _).mono
    (fun r h => ⟨fun c => (h c).2.2.2, sem_eq_zero_of_no_sems (by decide) r.2⟩)
    (Cert.Reference3Ideal.Value.run (F := Ideal) m g)

/-- No operation is replaced. -/
theorem preserves : Cert.preserves_Kernel3_Kernel3Ideal := trivial

/-- An array of scores in one row. -/
theorem row_apply (x : FVec Ideal Cert.Reference3Ideal.S512x512 .f32) (q : Fin 262144) :
    shapeCast Cert.Reference3Ideal.S262144 x Cert.Reference3Ideal.Gen.facts.shapeCasts_S512x512_S262144 (ix1 (n0 := 262144) q)
    = x (ix2 (n0 := 512) (n1 := 512) ⟨q.val / 512, by omega⟩ ⟨q.val % 512, by omega⟩) := by
  pointwise

/-- What the reference picks. -/
theorem topK_of (v : FVec Ideal Cert.Reference3Ideal.S262144 .f32) :
    ∃ σ : Fin 262144 → Fin 262144, Function.Surjective σ ∧ (∀ i j, i < j → Ahead (fun q => v (ix1 (n0 := 262144) q)) (σ i) (σ j))
    ∧ (∀ k : Fin 256, (Reference3Ideal.picks (F := Ideal) v).1 (ix1 (n0 := 256) k) = v (ix1 (n0 := 262144) (σ ⟨k.val, by omega⟩)))
    ∧ ∀ k : Fin 256, (Reference3Ideal.picks (F := Ideal) v).2 (ix1 (n0 := 256) k) = BitVec.ofNat 32 (σ ⟨k.val, by omega⟩).val :=
  Reference3Ideal.topK_spec v Cert.Reference3Ideal.Gen.facts.sliceFits_S262144_S256 (by omega)

/-- The reference's picks of the kernel's arguments are what the kernel finds. -/
theorem same (m : (ℓ : Loc Cert.Kernel3Ideal.nD Cert.Kernel3Ideal.τ Cert.Kernel3Ideal.sig) → Buf (Elt Ideal) ℓ) (c : Dev Cert.Kernel3Ideal.nD)
    (x0 x1 : FVec Ideal Cert.Reference3Ideal.S512x256 .f32) (x2 x3 : IVec Cert.Reference3Ideal.S512 32)
    (h0 : x0 = m ((c.tc : Thread Cert.Kernel3Ideal.nD Cert.Kernel3Ideal.τ).loc Cert.Kernel3Ideal.main_arg0))
    (h1 : x1 = m ((c.tc : Thread Cert.Kernel3Ideal.nD Cert.Kernel3Ideal.τ).loc Cert.Kernel3Ideal.main_arg1))
    (h2 : x2 = m ((c.tc : Thread Cert.Kernel3Ideal.nD Cert.Kernel3Ideal.τ).loc Cert.Kernel3Ideal.main_arg2))
    (h3 : x3 = m ((c.tc : Thread Cert.Kernel3Ideal.nD Cert.Kernel3Ideal.τ).loc Cert.Kernel3Ideal.main_arg3))
    (v : FVec Ideal Cert.Reference3Ideal.S262144 .f32)
    (hv : v = shapeCast Cert.Reference3Ideal.S262144 (Reference3Ideal.scores (F := Ideal) x0 x1 x2 x3)
      Cert.Reference3Ideal.Gen.facts.shapeCasts_S512x512_S262144) (k : Fin 256) :
    Reference3Ideal.rowOf (Reference3Ideal.picks (F := Ideal) v).2 (ix1 (n0 := 256) k)
        = Kernel3Ideal.outA m c (ix2 (n0 := 1) (n1 := 256) 0 k)
    ∧ Reference3Ideal.laneOf (Reference3Ideal.picks (F := Ideal) v).2 (ix1 (n0 := 256) k)
        = Kernel3Ideal.outB m c (ix2 (n0 := 1) (n1 := 256) 0 k)
    ∧ (Reference3Ideal.picks (F := Ideal) v).1 (ix1 (n0 := 256) k) = Kernel3Ideal.outC m c (ix2 (n0 := 1) (n1 := 256) 0 k) := by
  have e : ∀ q : Fin 262144, v (ix1 (n0 := 262144) q) = Kernel3Ideal.flat (Kernel3Ideal.start0 m c Kernel3Ideal.step) q := by
    intro q
    rw [hv]
    refine (row_apply _ q).trans ((Reference3Ideal.scores_apply x0 x1 x2 x3 _ _).trans ?_)
    rw [Kernel3Ideal.start0_apply m c Kernel3Ideal.step q, h0, h1, h2, h3]
    rfl
  have hpos : ∀ q, 0 ≤ Kernel3Ideal.flat (Kernel3Ideal.start0 m c Kernel3Ideal.step) q := by
    intro q
    rw [Kernel3Ideal.start0_apply m c Kernel3Ideal.step q]
    exact scoreAt_nonneg _ _ _ _ _ _
  obtain ⟨σ, hs, hσ, p1, p2⟩ := topK_of v
  have ef : (fun q => v (ix1 (n0 := 262144) q)) = Kernel3Ideal.flat (Kernel3Ideal.start0 m c Kernel3Ideal.step) := funext e
  rw [ef] at hσ
  obtain ⟨f1, f2, f3⟩ := Kernel3Ideal.found _ hpos σ hs hσ k
  refine ⟨?_, ?_, ?_⟩
  · rw [Kernel3Ideal.outA_eq]
    exact (Reference3Ideal.rowOf_apply _ _ _ (σ ⟨k.val, by omega⟩).isLt (p2 k)).trans f1.symm
  · rw [Kernel3Ideal.outB_eq]
    exact (Reference3Ideal.laneOf_apply _ _ _ (σ ⟨k.val, by omega⟩).isLt (p2 k)).trans f2.symm
  · rw [Kernel3Ideal.outC_eq]
    exact (p1 k).trans ((e _).trans f3.symm)

/-- The idealized coarse matching and the reference return the same rows, the same lanes and the same scores and leave
    their arguments alone. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => shapeCast Cert.Kernel3Ideal.S256 (Kernel3Ideal.outA m c) Cert.Kernel3Ideal.Gen.facts.shapeCasts_S1x256_S256,
    fun c => shapeCast Cert.Kernel3Ideal.S256 (Kernel3Ideal.outB m c) Cert.Kernel3Ideal.Gen.facts.shapeCasts_S1x256_S256,
    fun c => shapeCast Cert.Kernel3Ideal.S256 (Kernel3Ideal.outC m c) Cert.Kernel3Ideal.Gen.facts.shapeCasts_S1x256_S256, ?_, ?_⟩
  · refine (θ_run Cert.Kernel3Ideal.defs _ _).mono (fun x hx c => ⟨?_, ?_, ?_, hx.2 c⟩)
      (θ_run_and (Kernel3Ideal.run_main m g) (Kernel3Ideal.unchanged m g))
    · exact ((hx.1 c).2 Cert.Kernel3Ideal.main_v3 (Pipeline.mem_restRefs_of Cert.Kernel3Ideal.main_v3 (by decide) (by decide))).trans
        (Kernel3Ideal.result3 m c)
    · exact ((hx.1 c).2 Cert.Kernel3Ideal.main_v4 (Pipeline.mem_restRefs_of Cert.Kernel3Ideal.main_v4 (by decide) (by decide))).trans
        (Kernel3Ideal.result4 m c)
    · exact ((hx.1 c).2 Cert.Kernel3Ideal.main_v5 (Pipeline.mem_restRefs_of Cert.Kernel3Ideal.main_v5 (by decide) (by decide))).trans
        (Kernel3Ideal.result5 m c)
  · refine (θ_run Cert.Reference3Ideal.defs _ _).mono (fun x hx c => ?_) (Cert.Reference3Ideal.Value.run (F := Ideal) m' g')
    obtain ⟨a0, a1, a2, a3⟩ := hargs c
    have s := same m c _ _ _ _ a0 a1 a2 a3 _ rfl
    refine ⟨(hx c).1.trans ((Reference3Ideal.out0_eq m' c).trans ?_), (hx c).2.1.trans ((Reference3Ideal.out1_eq m' c).trans ?_),
      (hx c).2.2.1.trans ((Reference3Ideal.out2_eq m' c).trans ?_), (hx c).2.2.2⟩
    · refine funext fun (i : Cert.Kernel3Ideal.S256.Idx) => ?_
      obtain ⟨k, rfl⟩ : ∃ k : Fin 256, i = ix1 (n0 := 256) k := ⟨i 0, (ix1_eta i).symm⟩
      exact (s k).1.trans (Kernel3Ideal.list_apply _ k).symm
    · refine funext fun (i : Cert.Kernel3Ideal.S256.Idx) => ?_
      obtain ⟨k, rfl⟩ : ∃ k : Fin 256, i = ix1 (n0 := 256) k := ⟨i 0, (ix1_eta i).symm⟩
      exact (s k).2.1.trans (Kernel3Ideal.list_apply _ k).symm
    · refine funext fun (i : Cert.Kernel3Ideal.S256.Idx) => ?_
      obtain ⟨k, rfl⟩ : ∃ k : Fin 256, i = ix1 (n0 := 256) k := ⟨i 0, (ix1_eta i).symm⟩
      exact (s k).2.2.trans (Kernel3Ideal.list_apply _ k).symm

end Cert.CoarseProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_indices_in_range
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Frames
public import proofs.«01_k».proof.Proof.Algebraic
public import proofs.«01_k».proof.Proof.PartClaims
public import proofs.«01_k».proof.Proof.CoarseClaims
public import Idealize.ShloMosaic.Adequacy
public import Idealize.ShloMosaic.Init

@[expose] public section

noncomputable section

namespace Cert.Proof

open Idealize.ShloMosaic Idealize.SL.Sem Cert.Kernel

/-- The frames, the naming of the constant and the equality of the values, of the fine matching, of the partition and of the coarse matching. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_indices_in_range.Gen.facts,
  Cert.FineProof.frame_kernel, Cert.FineProof.frame_kernelIdeal, Cert.FineProof.frame_referenceIdeal,
  fun m g _ => Cert.FineProof.frame_referenceIdeal m g trivial,
  Cert.PartitionProof.frame_kernel, Cert.PartitionProof.frame_kernelIdeal, Cert.PartitionProof.frame_referenceIdeal,
  Cert.CoarseProof.frame_kernel, Cert.CoarseProof.frame_kernelIdeal, Cert.CoarseProof.frame_referenceIdeal,
  Cert.FineProof.preserves, Cert.FineProof.algebraic, Cert.PartitionProof.preserves, Cert.PartitionProof.algebraic,
  Cert.CoarseProof.preserves, Cert.CoarseProof.algebraic⟩

end Cert.Proof

end
